-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4, 128]⟩ ⟨2, ![128, 128]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S4x128 : Shape := ⟨2, ![4, 128]⟩
abbrev S14x128x128 : Shape := ⟨3, ![14, 128, 128]⟩
abbrev S14 : Shape := ⟨1, ![14]⟩
abbrev S32 : Shape := ⟨1, ![32]⟩
abbrev S_ : Shape := ⟨0, ![]⟩
abbrev S1 : Shape := ⟨1, ![1]⟩
abbrev S1x128x128 : Shape := ⟨3, ![1, 128, 128]⟩
abbrev S32x4x128 : Shape := ⟨3, ![32, 4, 128]⟩

abbrev nBuf : Space → Nat
  | .hbm => 8
  | .vmem => 12
  | .smem => 0
  | _ => 0

abbrev bufTy : (tb : Table) → Fin (tcTables nBuf tb) → BufTy
  | .hbm, ⟨0, _⟩ => ⟨S128x128, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S4x128, .f32⟩
  | .local _ .vmem, ⟨0, _⟩ => ⟨S128x128, .f32⟩
  | .local _ .vmem, ⟨1, _⟩ => ⟨S128x256, .f32⟩
  | .local _ .vmem, ⟨2, _⟩ => ⟨S256x128, .f32⟩
  | .local _ .vmem, ⟨3, _⟩ => ⟨S128x256, .f32⟩
  | .local _ .vmem, ⟨4, _⟩ => ⟨S256x128, .f32⟩
  | .local _ .vmem, ⟨5, _⟩ => ⟨S128x256, .f32⟩
  | .local _ .vmem, ⟨6, _⟩ => ⟨S256x128, .f32⟩
  | .local _ .vmem, ⟨7, _⟩ => ⟨S4x128, .f32⟩
  | .local _ .vmem, ⟨8, _⟩ => ⟨S128x128, .f32⟩
  | .local _ .vmem, ⟨9, _⟩ => ⟨S128x128, .f32⟩
  | .local _ .vmem, ⟨10, _⟩ => ⟨S14x128x128, .f32⟩
  | .local _ .vmem, ⟨11, _⟩ => ⟨S128x128, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  (ofTc nBuf bufTy 1 100 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_1 : BitVec 32 := 1#32
  let v5 : BitVec 32 := Scalar.muli v4 c1_i32_1
  let v6 : BitVec 32 := Scalar.addi c0_i32 v5
  v6.toNat
def k0_dev2 (d0 : Dev nD) : Nat :=
  let c0_i32_3 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v7 : BitVec 32 := Scalar.xori v2 c7_i32
  let c1_i32_2 : BitVec 32 := 1#32
  let v8 : BitVec 32 := Scalar.muli v7 c1_i32_2
  let v9 : BitVec 32 := Scalar.addi c0_i32_3 v8
  v9.toNat
def k0_dev3 (d0 : Dev nD) : Nat :=
  let c0_i32_6 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_5 : BitVec 32 := 1#32
  let v11 : BitVec 32 := Scalar.muli v10 c1_i32_5
  let v12 : BitVec 32 := Scalar.addi c0_i32_6 v11
  v12.toNat
def k0_dev4 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 32 := Scalar.xori v2 c3_i32
  let c1_i32_8 : BitVec 32 := 1#32
  let v14 : BitVec 32 := Scalar.muli v13 c1_i32_8
  let v15 : BitVec 32 := Scalar.addi c0_i32_9 v14
  v15.toNat
def k0_dev5 (d0 : Dev nD) : Nat :=
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v16 : BitVec 32 := Scalar.xori v2 c24_i32
  let c1_i32_11 : BitVec 32 := 1#32
  let v17 : BitVec 32 := Scalar.muli v16 c1_i32_11
  let v18 : BitVec 32 := Scalar.addi c0_i32_12 v17
  v18.toNat
def k0_dev6 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v19 : BitVec 32 := Scalar.xori v2 c16_i32
  let c1_i32_14 : BitVec 32 := 1#32
  let v20 : BitVec 32 := Scalar.muli v19 c1_i32_14
  let v21 : BitVec 32 := Scalar.addi c0_i32_15 v20
  v21.toNat
def k0_dev7 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_16 : BitVec 32 := 8#32
  let v22 : BitVec 32 := Scalar.xori v2 c8_i32_16
  let c1_i32_18 : BitVec 32 := 1#32
  let v23 : BitVec 32 := Scalar.muli v22 c1_i32_18
  let v24 : BitVec 32 := Scalar.addi c0_i32_19 v23
  v24.toNat
def k0_dev8 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_30 : BitVec 32 := 1#32
  let v38 : BitVec 32 := Scalar.xori v2 c1_i32_30
  let c1_i32_34 : BitVec 32 := 1#32
  let v39 : BitVec 32 := Scalar.muli v38 c1_i32_34
  let v40 : BitVec 32 := Scalar.addi c0_i32_35 v39
  v40.toNat
def k0_dev9 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_54 : BitVec 32 := 7#32
  let v60 : BitVec 32 := Scalar.xori v2 c7_i32_54
  let c1_i32_58 : BitVec 32 := 1#32
  let v61 : BitVec 32 := Scalar.muli v60 c1_i32_58
  let v62 : BitVec 32 := Scalar.addi c0_i32_59 v61
  v62.toNat
def k0_dev10 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_62 : BitVec 32 := 4#32
  let v69 : BitVec 32 := Scalar.xori v2 c4_i32_62
  let c1_i32_65 : BitVec 32 := 1#32
  let v70 : BitVec 32 := Scalar.muli v69 c1_i32_65
  let v71 : BitVec 32 := Scalar.addi c0_i32_66 v70
  v71.toNat
def k0_dev11 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_69 : BitVec 32 := 3#32
  let v78 : BitVec 32 := Scalar.xori v2 c3_i32_69
  let c1_i32_73 : BitVec 32 := 1#32
  let v79 : BitVec 32 := Scalar.muli v78 c1_i32_73
  let v80 : BitVec 32 := Scalar.addi c0_i32_74 v79
  v80.toNat
def k0_dev12 (d0 : Dev nD) : Nat :=
  let c0_i32_121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_116 : BitVec 32 := 24#32
  let v122 : BitVec 32 := Scalar.xori v2 c24_i32_116
  let c1_i32_120 : BitVec 32 := 1#32
  let v123 : BitVec 32 := Scalar.muli v122 c1_i32_120
  let v124 : BitVec 32 := Scalar.addi c0_i32_121 v123
  v124.toNat
def k0_dev13 (d0 : Dev nD) : Nat :=
  let c0_i32_128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_124 : BitVec 32 := 16#32
  let v131 : BitVec 32 := Scalar.xori v2 c16_i32_124
  let c1_i32_127 : BitVec 32 := 1#32
  let v132 : BitVec 32 := Scalar.muli v131 c1_i32_127
  let v133 : BitVec 32 := Scalar.addi c0_i32_128 v132
  v133.toNat
def k0_dev14 (d0 : Dev nD) : Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_131 : BitVec 32 := 8#32
  let v140 : BitVec 32 := Scalar.xori v2 c8_i32_131
  let c1_i32_134 : BitVec 32 := 1#32
  let v141 : BitVec 32 := Scalar.muli v140 c1_i32_134
  let v142 : BitVec 32 := Scalar.addi c0_i32_135 v141
  v142.toNat
def k0_dev15 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_216 : BitVec 32 := 1#32
  let v216 : BitVec 32 := Scalar.xori v2 c1_i32_216
  let c1_i32_220 : BitVec 32 := 1#32
  let v217 : BitVec 32 := Scalar.muli v216 c1_i32_220
  let v218 : BitVec 32 := Scalar.addi c0_i32_221 v217
  v218.toNat
def k0_dev16 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_237 : BitVec 32 := 7#32
  let v238 : BitVec 32 := Scalar.xori v2 c7_i32_237
  let c1_i32_241 : BitVec 32 := 1#32
  let v239 : BitVec 32 := Scalar.muli v238 c1_i32_241
  let v240 : BitVec 32 := Scalar.addi c0_i32_242 v239
  v240.toNat
def k0_dev17 (d0 : Dev nD) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_245 : BitVec 32 := 4#32
  let v247 : BitVec 32 := Scalar.xori v2 c4_i32_245
  let c1_i32_248 : BitVec 32 := 1#32
  let v248 : BitVec 32 := Scalar.muli v247 c1_i32_248
  let v249 : BitVec 32 := Scalar.addi c0_i32_249 v248
  v249.toNat
def k0_dev18 (d0 : Dev nD) : Nat :=
  let c0_i32_256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_252 : BitVec 32 := 3#32
  let v256 : BitVec 32 := Scalar.xori v2 c3_i32_252
  let c1_i32_255 : BitVec 32 := 1#32
  let v257 : BitVec 32 := Scalar.muli v256 c1_i32_255
  let v258 : BitVec 32 := Scalar.addi c0_i32_256 v257
  v258.toNat
def k0_dev19 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_296 : BitVec 32 := 24#32
  let v300 : BitVec 32 := Scalar.xori v2 c24_i32_296
  let c1_i32_299 : BitVec 32 := 1#32
  let v301 : BitVec 32 := Scalar.muli v300 c1_i32_299
  let v302 : BitVec 32 := Scalar.addi c0_i32_300 v301
  v302.toNat
def k0_dev20 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_303 : BitVec 32 := 16#32
  let v309 : BitVec 32 := Scalar.xori v2 c16_i32_303
  let c1_i32_306 : BitVec 32 := 1#32
  let v310 : BitVec 32 := Scalar.muli v309 c1_i32_306
  let v311 : BitVec 32 := Scalar.addi c0_i32_307 v310
  v311.toNat
def k0_dev21 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_310 : BitVec 32 := 8#32
  let v318 : BitVec 32 := Scalar.xori v2 c8_i32_310
  let c1_i32_313 : BitVec 32 := 1#32
  let v319 : BitVec 32 := Scalar.muli v318 c1_i32_313
  let v320 : BitVec 32 := Scalar.addi c0_i32_314 v319
  v320.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_396 : BitVec 32 := 0#32
  let v395 : BitVec 1 := Scalar.cmpi .ne v2 c0_i32_396
  let v396 : BitVec 32 := Scalar.extui v395
  let c0_i32_398 : BitVec 32 := 0#32
  let v397 : BitVec 1 := Scalar.cmpi .ne v396 c0_i32_398
  v397

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_395 : BitVec 32 := 4#32
  let v394 : BitVec 32 := Scalar.muli v2 c4_i32_395
  let c0_i32_744 : BitVec 32 := 0#32
  ![v394.toNat, 0]
def k0_dev22 : Nat :=
  let c0_i32_743 : BitVec 32 := 0#32
  let c0_i32_741 : BitVec 32 := 0#32
  let c1_i32_742 : BitVec 32 := 1#32
  let v726 : BitVec 32 := Scalar.muli c0_i32_741 c1_i32_742
  let v727 : BitVec 32 := Scalar.addi c0_i32_743 v726
  v727.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_400 : BitVec 32 := 1#32
  let v399 : BitVec 1 := Scalar.cmpi .ne v2 c1_i32_400
  let v400 : BitVec 32 := Scalar.extui v399
  let c0_i32_402 : BitVec 32 := 0#32
  let v401 : BitVec 1 := Scalar.cmpi .ne v400 c0_i32_402
  v401

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_399 : BitVec 32 := 4#32
  let v398 : BitVec 32 := Scalar.muli v2 c4_i32_399
  let c0_i32_744 : BitVec 32 := 0#32
  ![v398.toNat, 0]
def k0_dev23 : Nat :=
  let c0_i32_743 : BitVec 32 := 0#32
  let c1_i32_741 : BitVec 32 := 1#32
  let c1_i32_742 : BitVec 32 := 1#32
  let v726 : BitVec 32 := Scalar.muli c1_i32_741 c1_i32_742
  let v727 : BitVec 32 := Scalar.addi c0_i32_743 v726
  v727.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_404 : BitVec 32 := 2#32
  let v403 : BitVec 1 := Scalar.cmpi .ne v2 c2_i32_404
  let v404 : BitVec 32 := Scalar.extui v403
  let c0_i32_406 : BitVec 32 := 0#32
  let v405 : BitVec 1 := Scalar.cmpi .ne v404 c0_i32_406
  v405

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_403 : BitVec 32 := 4#32
  let v402 : BitVec 32 := Scalar.muli v2 c4_i32_403
  let c0_i32_744 : BitVec 32 := 0#32
  ![v402.toNat, 0]
def k0_dev24 : Nat :=
  let c0_i32_743 : BitVec 32 := 0#32
  let c2_i32_741 : BitVec 32 := 2#32
  let c1_i32_742 : BitVec 32 := 1#32
  let v726 : BitVec 32 := Scalar.muli c2_i32_741 c1_i32_742
  let v727 : BitVec 32 := Scalar.addi c0_i32_743 v726
  v727.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_408 : BitVec 32 := 3#32
  let v407 : BitVec 1 := Scalar.cmpi .ne v2 c3_i32_408
  let v408 : BitVec 32 := Scalar.extui v407
  let c0_i32_410 : BitVec 32 := 0#32
  let v409 : BitVec 1 := Scalar.cmpi .ne v408 c0_i32_410
  v409

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_407 : BitVec 32 := 4#32
  let v406 : BitVec 32 := Scalar.muli v2 c4_i32_407
  let c0_i32_744 : BitVec 32 := 0#32
  ![v406.toNat, 0]
def k0_dev25 : Nat :=
  let c0_i32_743 : BitVec 32 := 0#32
  let c3_i32_741 : BitVec 32 := 3#32
  let c1_i32_742 : BitVec 32 := 1#32
  let v726 : BitVec 32 := Scalar.muli c3_i32_741 c1_i32_742
  let v727 : BitVec 32 := Scalar.addi c0_i32_743 v726
  v727.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_412 : BitVec 32 := 4#32
  let v411 : BitVec 1 := Scalar.cmpi .ne v2 c4_i32_412
  let v412 : BitVec 32 := Scalar.extui v411
  let c0_i32_414 : BitVec 32 := 0#32
  let v413 : BitVec 1 := Scalar.cmpi .ne v412 c0_i32_414
  v413

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_411 : BitVec 32 := 4#32
  let v410 : BitVec 32 := Scalar.muli v2 c4_i32_411
  let c0_i32_744 : BitVec 32 := 0#32
  ![v410.toNat, 0]
def k0_dev26 : Nat :=
  let c0_i32_743 : BitVec 32 := 0#32
  let c4_i32_741 : BitVec 32 := 4#32
  let c1_i32_742 : BitVec 32 := 1#32
  let v726 : BitVec 32 := Scalar.muli c4_i32_741 c1_i32_742
  let v727 : BitVec 32 := Scalar.addi c0_i32_743 v726
  v727.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_416 : BitVec 32 := 5#32
  let v415 : BitVec 1 := Scalar.cmpi .ne v2 c5_i32_416
  let v416 : BitVec 32 := Scalar.extui v415
  let c0_i32_418 : BitVec 32 := 0#32
  let v417 : BitVec 1 := Scalar.cmpi .ne v416 c0_i32_418
  v417

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_415 : BitVec 32 := 4#32
  let v414 : BitVec 32 := Scalar.muli v2 c4_i32_415
  let c0_i32_744 : BitVec 32 := 0#32
  ![v414.toNat, 0]
def k0_dev27 : Nat :=
  let c0_i32_743 : BitVec 32 := 0#32
  let c5_i32_741 : BitVec 32 := 5#32
  let c1_i32_742 : BitVec 32 := 1#32
  let v726 : BitVec 32 := Scalar.muli c5_i32_741 c1_i32_742
  let v727 : BitVec 32 := Scalar.addi c0_i32_743 v726
  v727.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_420 : BitVec 32 := 6#32
  let v419 : BitVec 1 := Scalar.cmpi .ne v2 c6_i32_420
  let v420 : BitVec 32 := Scalar.extui v419
  let c0_i32_422 : BitVec 32 := 0#32
  let v421 : BitVec 1 := Scalar.cmpi .ne v420 c0_i32_422
  v421

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_419 : BitVec 32 := 4#32
  let v418 : BitVec 32 := Scalar.muli v2 c4_i32_419
  let c0_i32_744 : BitVec 32 := 0#32
  ![v418.toNat, 0]
def k0_dev28 : Nat :=
  let c0_i32_743 : BitVec 32 := 0#32
  let c6_i32_741 : BitVec 32 := 6#32
  let c1_i32_742 : BitVec 32 := 1#32
  let v726 : BitVec 32 := Scalar.muli c6_i32_741 c1_i32_742
  let v727 : BitVec 32 := Scalar.addi c0_i32_743 v726
  v727.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_424 : BitVec 32 := 7#32
  let v423 : BitVec 1 := Scalar.cmpi .ne v2 c7_i32_424
  let v424 : BitVec 32 := Scalar.extui v423
  let c0_i32_426 : BitVec 32 := 0#32
  let v425 : BitVec 1 := Scalar.cmpi .ne v424 c0_i32_426
  v425

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_423 : BitVec 32 := 4#32
  let v422 : BitVec 32 := Scalar.muli v2 c4_i32_423
  let c0_i32_744 : BitVec 32 := 0#32
  ![v422.toNat, 0]
def k0_dev29 : Nat :=
  let c0_i32_743 : BitVec 32 := 0#32
  let c7_i32_741 : BitVec 32 := 7#32
  let c1_i32_742 : BitVec 32 := 1#32
  let v726 : BitVec 32 := Scalar.muli c7_i32_741 c1_i32_742
  let v727 : BitVec 32 := Scalar.addi c0_i32_743 v726
  v727.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_428 : BitVec 32 := 8#32
  let v427 : BitVec 1 := Scalar.cmpi .ne v2 c8_i32_428
  let v428 : BitVec 32 := Scalar.extui v427
  let c0_i32_430 : BitVec 32 := 0#32
  let v429 : BitVec 1 := Scalar.cmpi .ne v428 c0_i32_430
  v429

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_427 : BitVec 32 := 4#32
  let v426 : BitVec 32 := Scalar.muli v2 c4_i32_427
  let c0_i32_744 : BitVec 32 := 0#32
  ![v426.toNat, 0]
def k0_dev30 : Nat :=
  let c0_i32_743 : BitVec 32 := 0#32
  let c8_i32_741 : BitVec 32 := 8#32
  let c1_i32_742 : BitVec 32 := 1#32
  let v726 : BitVec 32 := Scalar.muli c8_i32_741 c1_i32_742
  let v727 : BitVec 32 := Scalar.addi c0_i32_743 v726
  v727.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_432 : BitVec 32 := 9#32
  let v431 : BitVec 1 := Scalar.cmpi .ne v2 c9_i32_432
  let v432 : BitVec 32 := Scalar.extui v431
  let c0_i32_434 : BitVec 32 := 0#32
  let v433 : BitVec 1 := Scalar.cmpi .ne v432 c0_i32_434
  v433

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_431 : BitVec 32 := 4#32
  let v430 : BitVec 32 := Scalar.muli v2 c4_i32_431
  let c0_i32_744 : BitVec 32 := 0#32
  ![v430.toNat, 0]
def k0_dev31 : Nat :=
  let c0_i32_743 : BitVec 32 := 0#32
  let c9_i32_741 : BitVec 32 := 9#32
  let c1_i32_742 : BitVec 32 := 1#32
  let v726 : BitVec 32 := Scalar.muli c9_i32_741 c1_i32_742
  let v727 : BitVec 32 := Scalar.addi c0_i32_743 v726
  v727.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_436 : BitVec 32 := 10#32
  let v435 : BitVec 1 := Scalar.cmpi .ne v2 c10_i32_436
  let v436 : BitVec 32 := Scalar.extui v435
  let c0_i32_438 : BitVec 32 := 0#32
  let v437 : BitVec 1 := Scalar.cmpi .ne v436 c0_i32_438
  v437

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_435 : BitVec 32 := 4#32
  let v434 : BitVec 32 := Scalar.muli v2 c4_i32_435
  let c0_i32_744 : BitVec 32 := 0#32
  ![v434.toNat, 0]
def k0_dev32 : Nat :=
  let c0_i32_743 : BitVec 32 := 0#32
  let c10_i32_741 : BitVec 32 := 10#32
  let c1_i32_742 : BitVec 32 := 1#32
  let v726 : BitVec 32 := Scalar.muli c10_i32_741 c1_i32_742
  let v727 : BitVec 32 := Scalar.addi c0_i32_743 v726
  v727.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_440 : BitVec 32 := 11#32
  let v439 : BitVec 1 := Scalar.cmpi .ne v2 c11_i32_440
  let v440 : BitVec 32 := Scalar.extui v439
  let c0_i32_442 : BitVec 32 := 0#32
  let v441 : BitVec 1 := Scalar.cmpi .ne v440 c0_i32_442
  v441

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_439 : BitVec 32 := 4#32
  let v438 : BitVec 32 := Scalar.muli v2 c4_i32_439
  let c0_i32_744 : BitVec 32 := 0#32
  ![v438.toNat, 0]
def k0_dev33 : Nat :=
  let c0_i32_743 : BitVec 32 := 0#32
  let c11_i32_741 : BitVec 32 := 11#32
  let c1_i32_742 : BitVec 32 := 1#32
  let v726 : BitVec 32 := Scalar.muli c11_i32_741 c1_i32_742
  let v727 : BitVec 32 := Scalar.addi c0_i32_743 v726
  v727.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_444 : BitVec 32 := 12#32
  let v443 : BitVec 1 := Scalar.cmpi .ne v2 c12_i32_444
  let v444 : BitVec 32 := Scalar.extui v443
  let c0_i32_446 : BitVec 32 := 0#32
  let v445 : BitVec 1 := Scalar.cmpi .ne v444 c0_i32_446
  v445

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_443 : BitVec 32 := 4#32
  let v442 : BitVec 32 := Scalar.muli v2 c4_i32_443
  let c0_i32_744 : BitVec 32 := 0#32
  ![v442.toNat, 0]
def k0_dev34 : Nat :=
  let c0_i32_743 : BitVec 32 := 0#32
  let c12_i32_741 : BitVec 32 := 12#32
  let c1_i32_742 : BitVec 32 := 1#32
  let v726 : BitVec 32 := Scalar.muli c12_i32_741 c1_i32_742
  let v727 : BitVec 32 := Scalar.addi c0_i32_743 v726
  v727.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_448 : BitVec 32 := 13#32
  let v447 : BitVec 1 := Scalar.cmpi .ne v2 c13_i32_448
  let v448 : BitVec 32 := Scalar.extui v447
  let c0_i32_450 : BitVec 32 := 0#32
  let v449 : BitVec 1 := Scalar.cmpi .ne v448 c0_i32_450
  v449

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_447 : BitVec 32 := 4#32
  let v446 : BitVec 32 := Scalar.muli v2 c4_i32_447
  let c0_i32_744 : BitVec 32 := 0#32
  ![v446.toNat, 0]
def k0_dev35 : Nat :=
  let c0_i32_743 : BitVec 32 := 0#32
  let c13_i32_741 : BitVec 32 := 13#32
  let c1_i32_742 : BitVec 32 := 1#32
  let v726 : BitVec 32 := Scalar.muli c13_i32_741 c1_i32_742
  let v727 : BitVec 32 := Scalar.addi c0_i32_743 v726
  v727.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v451 : BitVec 1 := Scalar.cmpi .ne v2 c14_i32
  let v452 : BitVec 32 := Scalar.extui v451
  let c0_i32_453 : BitVec 32 := 0#32
  let v453 : BitVec 1 := Scalar.cmpi .ne v452 c0_i32_453
  v453

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_451 : BitVec 32 := 4#32
  let v450 : BitVec 32 := Scalar.muli v2 c4_i32_451
  let c0_i32_744 : BitVec 32 := 0#32
  ![v450.toNat, 0]
def k0_dev36 : Nat :=
  let c0_i32_743 : BitVec 32 := 0#32
  let c14_i32_741 : BitVec 32 := 14#32
  let c1_i32_742 : BitVec 32 := 1#32
  let v726 : BitVec 32 := Scalar.muli c14_i32_741 c1_i32_742
  let v727 : BitVec 32 := Scalar.addi c0_i32_743 v726
  v727.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v455 : BitVec 1 := Scalar.cmpi .ne v2 c15_i32
  let v456 : BitVec 32 := Scalar.extui v455
  let c0_i32_456 : BitVec 32 := 0#32
  let v457 : BitVec 1 := Scalar.cmpi .ne v456 c0_i32_456
  v457

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_454 : BitVec 32 := 4#32
  let v454 : BitVec 32 := Scalar.muli v2 c4_i32_454
  let c0_i32_744 : BitVec 32 := 0#32
  ![v454.toNat, 0]
def k0_dev37 : Nat :=
  let c0_i32_743 : BitVec 32 := 0#32
  let c15_i32_741 : BitVec 32 := 15#32
  let c1_i32_742 : BitVec 32 := 1#32
  let v726 : BitVec 32 := Scalar.muli c15_i32_741 c1_i32_742
  let v727 : BitVec 32 := Scalar.addi c0_i32_743 v726
  v727.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_458 : BitVec 32 := 16#32
  let v459 : BitVec 1 := Scalar.cmpi .ne v2 c16_i32_458
  let v460 : BitVec 32 := Scalar.extui v459
  let c0_i32_460 : BitVec 32 := 0#32
  let v461 : BitVec 1 := Scalar.cmpi .ne v460 c0_i32_460
  v461

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_457 : BitVec 32 := 4#32
  let v458 : BitVec 32 := Scalar.muli v2 c4_i32_457
  let c0_i32_744 : BitVec 32 := 0#32
  ![v458.toNat, 0]
def k0_dev38 : Nat :=
  let c0_i32_743 : BitVec 32 := 0#32
  let c16_i32_741 : BitVec 32 := 16#32
  let c1_i32_742 : BitVec 32 := 1#32
  let v726 : BitVec 32 := Scalar.muli c16_i32_741 c1_i32_742
  let v727 : BitVec 32 := Scalar.addi c0_i32_743 v726
  v727.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v463 : BitVec 1 := Scalar.cmpi .ne v2 c17_i32
  let v464 : BitVec 32 := Scalar.extui v463
  let c0_i32_463 : BitVec 32 := 0#32
  let v465 : BitVec 1 := Scalar.cmpi .ne v464 c0_i32_463
  v465

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_461 : BitVec 32 := 4#32
  let v462 : BitVec 32 := Scalar.muli v2 c4_i32_461
  let c0_i32_744 : BitVec 32 := 0#32
  ![v462.toNat, 0]
def k0_dev39 : Nat :=
  let c0_i32_743 : BitVec 32 := 0#32
  let c17_i32_741 : BitVec 32 := 17#32
  let c1_i32_742 : BitVec 32 := 1#32
  let v726 : BitVec 32 := Scalar.muli c17_i32_741 c1_i32_742
  let v727 : BitVec 32 := Scalar.addi c0_i32_743 v726
  v727.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v467 : BitVec 1 := Scalar.cmpi .ne v2 c18_i32
  let v468 : BitVec 32 := Scalar.extui v467
  let c0_i32_466 : BitVec 32 := 0#32
  let v469 : BitVec 1 := Scalar.cmpi .ne v468 c0_i32_466
  v469

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_464 : BitVec 32 := 4#32
  let v466 : BitVec 32 := Scalar.muli v2 c4_i32_464
  let c0_i32_744 : BitVec 32 := 0#32
  ![v466.toNat, 0]
def k0_dev40 : Nat :=
  let c0_i32_743 : BitVec 32 := 0#32
  let c18_i32_741 : BitVec 32 := 18#32
  let c1_i32_742 : BitVec 32 := 1#32
  let v726 : BitVec 32 := Scalar.muli c18_i32_741 c1_i32_742
  let v727 : BitVec 32 := Scalar.addi c0_i32_743 v726
  v727.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v471 : BitVec 1 := Scalar.cmpi .ne v2 c19_i32
  let v472 : BitVec 32 := Scalar.extui v471
  let c0_i32_469 : BitVec 32 := 0#32
  let v473 : BitVec 1 := Scalar.cmpi .ne v472 c0_i32_469
  v473

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_467 : BitVec 32 := 4#32
  let v470 : BitVec 32 := Scalar.muli v2 c4_i32_467
  let c0_i32_744 : BitVec 32 := 0#32
  ![v470.toNat, 0]
def k0_dev41 : Nat :=
  let c0_i32_743 : BitVec 32 := 0#32
  let c19_i32_741 : BitVec 32 := 19#32
  let c1_i32_742 : BitVec 32 := 1#32
  let v726 : BitVec 32 := Scalar.muli c19_i32_741 c1_i32_742
  let v727 : BitVec 32 := Scalar.addi c0_i32_743 v726
  v727.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v475 : BitVec 1 := Scalar.cmpi .ne v2 c20_i32
  let v476 : BitVec 32 := Scalar.extui v475
  let c0_i32_472 : BitVec 32 := 0#32
  let v477 : BitVec 1 := Scalar.cmpi .ne v476 c0_i32_472
  v477

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_470 : BitVec 32 := 4#32
  let v474 : BitVec 32 := Scalar.muli v2 c4_i32_470
  let c0_i32_744 : BitVec 32 := 0#32
  ![v474.toNat, 0]
def k0_dev42 : Nat :=
  let c0_i32_743 : BitVec 32 := 0#32
  let c20_i32_741 : BitVec 32 := 20#32
  let c1_i32_742 : BitVec 32 := 1#32
  let v726 : BitVec 32 := Scalar.muli c20_i32_741 c1_i32_742
  let v727 : BitVec 32 := Scalar.addi c0_i32_743 v726
  v727.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v479 : BitVec 1 := Scalar.cmpi .ne v2 c21_i32
  let v480 : BitVec 32 := Scalar.extui v479
  let c0_i32_475 : BitVec 32 := 0#32
  let v481 : BitVec 1 := Scalar.cmpi .ne v480 c0_i32_475
  v481

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_473 : BitVec 32 := 4#32
  let v478 : BitVec 32 := Scalar.muli v2 c4_i32_473
  let c0_i32_744 : BitVec 32 := 0#32
  ![v478.toNat, 0]
def k0_dev43 : Nat :=
  let c0_i32_743 : BitVec 32 := 0#32
  let c21_i32_741 : BitVec 32 := 21#32
  let c1_i32_742 : BitVec 32 := 1#32
  let v726 : BitVec 32 := Scalar.muli c21_i32_741 c1_i32_742
  let v727 : BitVec 32 := Scalar.addi c0_i32_743 v726
  v727.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v483 : BitVec 1 := Scalar.cmpi .ne v2 c22_i32
  let v484 : BitVec 32 := Scalar.extui v483
  let c0_i32_478 : BitVec 32 := 0#32
  let v485 : BitVec 1 := Scalar.cmpi .ne v484 c0_i32_478
  v485

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_476 : BitVec 32 := 4#32
  let v482 : BitVec 32 := Scalar.muli v2 c4_i32_476
  let c0_i32_744 : BitVec 32 := 0#32
  ![v482.toNat, 0]
def k0_dev44 : Nat :=
  let c0_i32_743 : BitVec 32 := 0#32
  let c22_i32_741 : BitVec 32 := 22#32
  let c1_i32_742 : BitVec 32 := 1#32
  let v726 : BitVec 32 := Scalar.muli c22_i32_741 c1_i32_742
  let v727 : BitVec 32 := Scalar.addi c0_i32_743 v726
  v727.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v487 : BitVec 1 := Scalar.cmpi .ne v2 c23_i32
  let v488 : BitVec 32 := Scalar.extui v487
  let c0_i32_481 : BitVec 32 := 0#32
  let v489 : BitVec 1 := Scalar.cmpi .ne v488 c0_i32_481
  v489

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_479 : BitVec 32 := 4#32
  let v486 : BitVec 32 := Scalar.muli v2 c4_i32_479
  let c0_i32_744 : BitVec 32 := 0#32
  ![v486.toNat, 0]
def k0_dev45 : Nat :=
  let c0_i32_743 : BitVec 32 := 0#32
  let c23_i32_741 : BitVec 32 := 23#32
  let c1_i32_742 : BitVec 32 := 1#32
  let v726 : BitVec 32 := Scalar.muli c23_i32_741 c1_i32_742
  let v727 : BitVec 32 := Scalar.addi c0_i32_743 v726
  v727.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_483 : BitVec 32 := 24#32
  let v491 : BitVec 1 := Scalar.cmpi .ne v2 c24_i32_483
  let v492 : BitVec 32 := Scalar.extui v491
  let c0_i32_485 : BitVec 32 := 0#32
  let v493 : BitVec 1 := Scalar.cmpi .ne v492 c0_i32_485
  v493

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_482 : BitVec 32 := 4#32
  let v490 : BitVec 32 := Scalar.muli v2 c4_i32_482
  let c0_i32_744 : BitVec 32 := 0#32
  ![v490.toNat, 0]
def k0_dev46 : Nat :=
  let c0_i32_743 : BitVec 32 := 0#32
  let c24_i32_741 : BitVec 32 := 24#32
  let c1_i32_742 : BitVec 32 := 1#32
  let v726 : BitVec 32 := Scalar.muli c24_i32_741 c1_i32_742
  let v727 : BitVec 32 := Scalar.addi c0_i32_743 v726
  v727.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v495 : BitVec 1 := Scalar.cmpi .ne v2 c25_i32
  let v496 : BitVec 32 := Scalar.extui v495
  let c0_i32_488 : BitVec 32 := 0#32
  let v497 : BitVec 1 := Scalar.cmpi .ne v496 c0_i32_488
  v497

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_486 : BitVec 32 := 4#32
  let v494 : BitVec 32 := Scalar.muli v2 c4_i32_486
  let c0_i32_744 : BitVec 32 := 0#32
  ![v494.toNat, 0]
def k0_dev47 : Nat :=
  let c0_i32_743 : BitVec 32 := 0#32
  let c25_i32_741 : BitVec 32 := 25#32
  let c1_i32_742 : BitVec 32 := 1#32
  let v726 : BitVec 32 := Scalar.muli c25_i32_741 c1_i32_742
  let v727 : BitVec 32 := Scalar.addi c0_i32_743 v726
  v727.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v499 : BitVec 1 := Scalar.cmpi .ne v2 c26_i32
  let v500 : BitVec 32 := Scalar.extui v499
  let c0_i32_491 : BitVec 32 := 0#32
  let v501 : BitVec 1 := Scalar.cmpi .ne v500 c0_i32_491
  v501

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_489 : BitVec 32 := 4#32
  let v498 : BitVec 32 := Scalar.muli v2 c4_i32_489
  let c0_i32_744 : BitVec 32 := 0#32
  ![v498.toNat, 0]
def k0_dev48 : Nat :=
  let c0_i32_743 : BitVec 32 := 0#32
  let c26_i32_741 : BitVec 32 := 26#32
  let c1_i32_742 : BitVec 32 := 1#32
  let v726 : BitVec 32 := Scalar.muli c26_i32_741 c1_i32_742
  let v727 : BitVec 32 := Scalar.addi c0_i32_743 v726
  v727.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v503 : BitVec 1 := Scalar.cmpi .ne v2 c27_i32
  let v504 : BitVec 32 := Scalar.extui v503
  let c0_i32_494 : BitVec 32 := 0#32
  let v505 : BitVec 1 := Scalar.cmpi .ne v504 c0_i32_494
  v505

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_492 : BitVec 32 := 4#32
  let v502 : BitVec 32 := Scalar.muli v2 c4_i32_492
  let c0_i32_744 : BitVec 32 := 0#32
  ![v502.toNat, 0]
def k0_dev49 : Nat :=
  let c0_i32_743 : BitVec 32 := 0#32
  let c27_i32_741 : BitVec 32 := 27#32
  let c1_i32_742 : BitVec 32 := 1#32
  let v726 : BitVec 32 := Scalar.muli c27_i32_741 c1_i32_742
  let v727 : BitVec 32 := Scalar.addi c0_i32_743 v726
  v727.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_496 : BitVec 32 := 28#32
  let v507 : BitVec 1 := Scalar.cmpi .ne v2 c28_i32_496
  let v508 : BitVec 32 := Scalar.extui v507
  let c0_i32_498 : BitVec 32 := 0#32
  let v509 : BitVec 1 := Scalar.cmpi .ne v508 c0_i32_498
  v509

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_495 : BitVec 32 := 4#32
  let v506 : BitVec 32 := Scalar.muli v2 c4_i32_495
  let c0_i32_744 : BitVec 32 := 0#32
  ![v506.toNat, 0]
def k0_dev50 : Nat :=
  let c0_i32_743 : BitVec 32 := 0#32
  let c28_i32_741 : BitVec 32 := 28#32
  let c1_i32_742 : BitVec 32 := 1#32
  let v726 : BitVec 32 := Scalar.muli c28_i32_741 c1_i32_742
  let v727 : BitVec 32 := Scalar.addi c0_i32_743 v726
  v727.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v511 : BitVec 1 := Scalar.cmpi .ne v2 c29_i32
  let v512 : BitVec 32 := Scalar.extui v511
  let c0_i32_501 : BitVec 32 := 0#32
  let v513 : BitVec 1 := Scalar.cmpi .ne v512 c0_i32_501
  v513

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_499 : BitVec 32 := 4#32
  let v510 : BitVec 32 := Scalar.muli v2 c4_i32_499
  let c0_i32_744 : BitVec 32 := 0#32
  ![v510.toNat, 0]
def k0_dev51 : Nat :=
  let c0_i32_743 : BitVec 32 := 0#32
  let c29_i32_741 : BitVec 32 := 29#32
  let c1_i32_742 : BitVec 32 := 1#32
  let v726 : BitVec 32 := Scalar.muli c29_i32_741 c1_i32_742
  let v727 : BitVec 32 := Scalar.addi c0_i32_743 v726
  v727.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v515 : BitVec 1 := Scalar.cmpi .ne v2 c30_i32
  let v516 : BitVec 32 := Scalar.extui v515
  let c0_i32_504 : BitVec 32 := 0#32
  let v517 : BitVec 1 := Scalar.cmpi .ne v516 c0_i32_504
  v517

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_502 : BitVec 32 := 4#32
  let v514 : BitVec 32 := Scalar.muli v2 c4_i32_502
  let c0_i32_744 : BitVec 32 := 0#32
  ![v514.toNat, 0]
def k0_dev52 : Nat :=
  let c0_i32_743 : BitVec 32 := 0#32
  let c30_i32_741 : BitVec 32 := 30#32
  let c1_i32_742 : BitVec 32 := 1#32
  let v726 : BitVec 32 := Scalar.muli c30_i32_741 c1_i32_742
  let v727 : BitVec 32 := Scalar.addi c0_i32_743 v726
  v727.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v519 : BitVec 1 := Scalar.cmpi .ne v2 c31_i32
  let v520 : BitVec 32 := Scalar.extui v519
  let c0_i32_507 : BitVec 32 := 0#32
  let v521 : BitVec 1 := Scalar.cmpi .ne v520 c0_i32_507
  v521

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_505 : BitVec 32 := 4#32
  let v518 : BitVec 32 := Scalar.muli v2 c4_i32_505
  let c0_i32_744 : BitVec 32 := 0#32
  ![v518.toNat, 0]
def k0_dev53 : Nat :=
  let c0_i32_743 : BitVec 32 := 0#32
  let c31_i32_741 : BitVec 32 := 31#32
  let c1_i32_742 : BitVec 32 := 1#32
  let v726 : BitVec 32 := Scalar.muli c31_i32_741 c1_i32_742
  let v727 : BitVec 32 := Scalar.addi c0_i32_743 v726
  v727.toNat
def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_508 : BitVec 32 := 4#32
  let v522 : BitVec 32 := Scalar.muli v2 c4_i32_508
  let v523 : Index := Scalar.indexCast v522
  let c0_509 : Index := 0#32
  ![v523.toNat, 0]
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_645 : BitVec 32 := 0#32
  let v630 : BitVec 1 := Scalar.cmpi .ne v2 c0_i32_645
  let v631 : BitVec 32 := Scalar.extui v630
  let c0_i32_647 : BitVec 32 := 0#32
  let v632 : BitVec 1 := Scalar.cmpi .ne v631 c0_i32_647
  v632

def k0_off66 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_395 : BitVec 32 := 4#32
  let v394 : BitVec 32 := Scalar.muli v2 c4_i32_395
  let c0_i32_745 : BitVec 32 := 0#32
  ![v394.toNat, 0]
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_648 : BitVec 32 := 1#32
  let v633 : BitVec 1 := Scalar.cmpi .ne v2 c1_i32_648
  let v634 : BitVec 32 := Scalar.extui v633
  let c0_i32_650 : BitVec 32 := 0#32
  let v635 : BitVec 1 := Scalar.cmpi .ne v634 c0_i32_650
  v635

def k0_off67 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_399 : BitVec 32 := 4#32
  let v398 : BitVec 32 := Scalar.muli v2 c4_i32_399
  let c0_i32_745 : BitVec 32 := 0#32
  ![v398.toNat, 0]
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_651 : BitVec 32 := 2#32
  let v636 : BitVec 1 := Scalar.cmpi .ne v2 c2_i32_651
  let v637 : BitVec 32 := Scalar.extui v636
  let c0_i32_653 : BitVec 32 := 0#32
  let v638 : BitVec 1 := Scalar.cmpi .ne v637 c0_i32_653
  v638

def k0_off68 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_403 : BitVec 32 := 4#32
  let v402 : BitVec 32 := Scalar.muli v2 c4_i32_403
  let c0_i32_745 : BitVec 32 := 0#32
  ![v402.toNat, 0]
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_654 : BitVec 32 := 3#32
  let v639 : BitVec 1 := Scalar.cmpi .ne v2 c3_i32_654
  let v640 : BitVec 32 := Scalar.extui v639
  let c0_i32_656 : BitVec 32 := 0#32
  let v641 : BitVec 1 := Scalar.cmpi .ne v640 c0_i32_656
  v641

def k0_off69 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_407 : BitVec 32 := 4#32
  let v406 : BitVec 32 := Scalar.muli v2 c4_i32_407
  let c0_i32_745 : BitVec 32 := 0#32
  ![v406.toNat, 0]
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_657 : BitVec 32 := 4#32
  let v642 : BitVec 1 := Scalar.cmpi .ne v2 c4_i32_657
  let v643 : BitVec 32 := Scalar.extui v642
  let c0_i32_659 : BitVec 32 := 0#32
  let v644 : BitVec 1 := Scalar.cmpi .ne v643 c0_i32_659
  v644

def k0_off70 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_411 : BitVec 32 := 4#32
  let v410 : BitVec 32 := Scalar.muli v2 c4_i32_411
  let c0_i32_745 : BitVec 32 := 0#32
  ![v410.toNat, 0]
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_660 : BitVec 32 := 5#32
  let v645 : BitVec 1 := Scalar.cmpi .ne v2 c5_i32_660
  let v646 : BitVec 32 := Scalar.extui v645
  let c0_i32_662 : BitVec 32 := 0#32
  let v647 : BitVec 1 := Scalar.cmpi .ne v646 c0_i32_662
  v647

def k0_off71 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_415 : BitVec 32 := 4#32
  let v414 : BitVec 32 := Scalar.muli v2 c4_i32_415
  let c0_i32_745 : BitVec 32 := 0#32
  ![v414.toNat, 0]
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_663 : BitVec 32 := 6#32
  let v648 : BitVec 1 := Scalar.cmpi .ne v2 c6_i32_663
  let v649 : BitVec 32 := Scalar.extui v648
  let c0_i32_665 : BitVec 32 := 0#32
  let v650 : BitVec 1 := Scalar.cmpi .ne v649 c0_i32_665
  v650

def k0_off72 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_419 : BitVec 32 := 4#32
  let v418 : BitVec 32 := Scalar.muli v2 c4_i32_419
  let c0_i32_745 : BitVec 32 := 0#32
  ![v418.toNat, 0]
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_666 : BitVec 32 := 7#32
  let v651 : BitVec 1 := Scalar.cmpi .ne v2 c7_i32_666
  let v652 : BitVec 32 := Scalar.extui v651
  let c0_i32_668 : BitVec 32 := 0#32
  let v653 : BitVec 1 := Scalar.cmpi .ne v652 c0_i32_668
  v653

def k0_off73 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_423 : BitVec 32 := 4#32
  let v422 : BitVec 32 := Scalar.muli v2 c4_i32_423
  let c0_i32_745 : BitVec 32 := 0#32
  ![v422.toNat, 0]
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_669 : BitVec 32 := 8#32
  let v654 : BitVec 1 := Scalar.cmpi .ne v2 c8_i32_669
  let v655 : BitVec 32 := Scalar.extui v654
  let c0_i32_671 : BitVec 32 := 0#32
  let v656 : BitVec 1 := Scalar.cmpi .ne v655 c0_i32_671
  v656

def k0_off74 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_427 : BitVec 32 := 4#32
  let v426 : BitVec 32 := Scalar.muli v2 c4_i32_427
  let c0_i32_745 : BitVec 32 := 0#32
  ![v426.toNat, 0]
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_672 : BitVec 32 := 9#32
  let v657 : BitVec 1 := Scalar.cmpi .ne v2 c9_i32_672
  let v658 : BitVec 32 := Scalar.extui v657
  let c0_i32_674 : BitVec 32 := 0#32
  let v659 : BitVec 1 := Scalar.cmpi .ne v658 c0_i32_674
  v659

def k0_off75 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_431 : BitVec 32 := 4#32
  let v430 : BitVec 32 := Scalar.muli v2 c4_i32_431
  let c0_i32_744 : BitVec 32 := 0#32
  ![v430.toNat, 0]
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_675 : BitVec 32 := 10#32
  let v660 : BitVec 1 := Scalar.cmpi .ne v2 c10_i32_675
  let v661 : BitVec 32 := Scalar.extui v660
  let c0_i32_677 : BitVec 32 := 0#32
  let v662 : BitVec 1 := Scalar.cmpi .ne v661 c0_i32_677
  v662

def k0_off76 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_435 : BitVec 32 := 4#32
  let v434 : BitVec 32 := Scalar.muli v2 c4_i32_435
  let c0_i32_744 : BitVec 32 := 0#32
  ![v434.toNat, 0]
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_678 : BitVec 32 := 11#32
  let v663 : BitVec 1 := Scalar.cmpi .ne v2 c11_i32_678
  let v664 : BitVec 32 := Scalar.extui v663
  let c0_i32_680 : BitVec 32 := 0#32
  let v665 : BitVec 1 := Scalar.cmpi .ne v664 c0_i32_680
  v665

def k0_off77 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_439 : BitVec 32 := 4#32
  let v438 : BitVec 32 := Scalar.muli v2 c4_i32_439
  let c0_i32_744 : BitVec 32 := 0#32
  ![v438.toNat, 0]
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_681 : BitVec 32 := 12#32
  let v666 : BitVec 1 := Scalar.cmpi .ne v2 c12_i32_681
  let v667 : BitVec 32 := Scalar.extui v666
  let c0_i32_683 : BitVec 32 := 0#32
  let v668 : BitVec 1 := Scalar.cmpi .ne v667 c0_i32_683
  v668

def k0_off78 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_443 : BitVec 32 := 4#32
  let v442 : BitVec 32 := Scalar.muli v2 c4_i32_443
  let c0_i32_744 : BitVec 32 := 0#32
  ![v442.toNat, 0]
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_684 : BitVec 32 := 13#32
  let v669 : BitVec 1 := Scalar.cmpi .ne v2 c13_i32_684
  let v670 : BitVec 32 := Scalar.extui v669
  let c0_i32_686 : BitVec 32 := 0#32
  let v671 : BitVec 1 := Scalar.cmpi .ne v670 c0_i32_686
  v671

def k0_off79 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_447 : BitVec 32 := 4#32
  let v446 : BitVec 32 := Scalar.muli v2 c4_i32_447
  let c0_i32_744 : BitVec 32 := 0#32
  ![v446.toNat, 0]
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_687 : BitVec 32 := 14#32
  let v672 : BitVec 1 := Scalar.cmpi .ne v2 c14_i32_687
  let v673 : BitVec 32 := Scalar.extui v672
  let c0_i32_689 : BitVec 32 := 0#32
  let v674 : BitVec 1 := Scalar.cmpi .ne v673 c0_i32_689
  v674

def k0_off80 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_451 : BitVec 32 := 4#32
  let v450 : BitVec 32 := Scalar.muli v2 c4_i32_451
  let c0_i32_744 : BitVec 32 := 0#32
  ![v450.toNat, 0]
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_690 : BitVec 32 := 15#32
  let v675 : BitVec 1 := Scalar.cmpi .ne v2 c15_i32_690
  let v676 : BitVec 32 := Scalar.extui v675
  let c0_i32_692 : BitVec 32 := 0#32
  let v677 : BitVec 1 := Scalar.cmpi .ne v676 c0_i32_692
  v677

def k0_off81 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_454 : BitVec 32 := 4#32
  let v454 : BitVec 32 := Scalar.muli v2 c4_i32_454
  let c0_i32_744 : BitVec 32 := 0#32
  ![v454.toNat, 0]
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_693 : BitVec 32 := 16#32
  let v678 : BitVec 1 := Scalar.cmpi .ne v2 c16_i32_693
  let v679 : BitVec 32 := Scalar.extui v678
  let c0_i32_695 : BitVec 32 := 0#32
  let v680 : BitVec 1 := Scalar.cmpi .ne v679 c0_i32_695
  v680

def k0_off82 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_457 : BitVec 32 := 4#32
  let v458 : BitVec 32 := Scalar.muli v2 c4_i32_457
  let c0_i32_744 : BitVec 32 := 0#32
  ![v458.toNat, 0]
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_696 : BitVec 32 := 17#32
  let v681 : BitVec 1 := Scalar.cmpi .ne v2 c17_i32_696
  let v682 : BitVec 32 := Scalar.extui v681
  let c0_i32_698 : BitVec 32 := 0#32
  let v683 : BitVec 1 := Scalar.cmpi .ne v682 c0_i32_698
  v683

def k0_off83 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_461 : BitVec 32 := 4#32
  let v462 : BitVec 32 := Scalar.muli v2 c4_i32_461
  let c0_i32_744 : BitVec 32 := 0#32
  ![v462.toNat, 0]
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_699 : BitVec 32 := 18#32
  let v684 : BitVec 1 := Scalar.cmpi .ne v2 c18_i32_699
  let v685 : BitVec 32 := Scalar.extui v684
  let c0_i32_701 : BitVec 32 := 0#32
  let v686 : BitVec 1 := Scalar.cmpi .ne v685 c0_i32_701
  v686

def k0_off84 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_464 : BitVec 32 := 4#32
  let v466 : BitVec 32 := Scalar.muli v2 c4_i32_464
  let c0_i32_744 : BitVec 32 := 0#32
  ![v466.toNat, 0]
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_702 : BitVec 32 := 19#32
  let v687 : BitVec 1 := Scalar.cmpi .ne v2 c19_i32_702
  let v688 : BitVec 32 := Scalar.extui v687
  let c0_i32_704 : BitVec 32 := 0#32
  let v689 : BitVec 1 := Scalar.cmpi .ne v688 c0_i32_704
  v689

def k0_off85 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_467 : BitVec 32 := 4#32
  let v470 : BitVec 32 := Scalar.muli v2 c4_i32_467
  let c0_i32_744 : BitVec 32 := 0#32
  ![v470.toNat, 0]
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_705 : BitVec 32 := 20#32
  let v690 : BitVec 1 := Scalar.cmpi .ne v2 c20_i32_705
  let v691 : BitVec 32 := Scalar.extui v690
  let c0_i32_707 : BitVec 32 := 0#32
  let v692 : BitVec 1 := Scalar.cmpi .ne v691 c0_i32_707
  v692

def k0_off86 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_470 : BitVec 32 := 4#32
  let v474 : BitVec 32 := Scalar.muli v2 c4_i32_470
  let c0_i32_744 : BitVec 32 := 0#32
  ![v474.toNat, 0]
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_708 : BitVec 32 := 21#32
  let v693 : BitVec 1 := Scalar.cmpi .ne v2 c21_i32_708
  let v694 : BitVec 32 := Scalar.extui v693
  let c0_i32_710 : BitVec 32 := 0#32
  let v695 : BitVec 1 := Scalar.cmpi .ne v694 c0_i32_710
  v695

def k0_off87 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_473 : BitVec 32 := 4#32
  let v478 : BitVec 32 := Scalar.muli v2 c4_i32_473
  let c0_i32_744 : BitVec 32 := 0#32
  ![v478.toNat, 0]
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_711 : BitVec 32 := 22#32
  let v696 : BitVec 1 := Scalar.cmpi .ne v2 c22_i32_711
  let v697 : BitVec 32 := Scalar.extui v696
  let c0_i32_713 : BitVec 32 := 0#32
  let v698 : BitVec 1 := Scalar.cmpi .ne v697 c0_i32_713
  v698

def k0_off88 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_476 : BitVec 32 := 4#32
  let v482 : BitVec 32 := Scalar.muli v2 c4_i32_476
  let c0_i32_744 : BitVec 32 := 0#32
  ![v482.toNat, 0]
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_714 : BitVec 32 := 23#32
  let v699 : BitVec 1 := Scalar.cmpi .ne v2 c23_i32_714
  let v700 : BitVec 32 := Scalar.extui v699
  let c0_i32_716 : BitVec 32 := 0#32
  let v701 : BitVec 1 := Scalar.cmpi .ne v700 c0_i32_716
  v701

def k0_off89 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_479 : BitVec 32 := 4#32
  let v486 : BitVec 32 := Scalar.muli v2 c4_i32_479
  let c0_i32_744 : BitVec 32 := 0#32
  ![v486.toNat, 0]
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_717 : BitVec 32 := 24#32
  let v702 : BitVec 1 := Scalar.cmpi .ne v2 c24_i32_717
  let v703 : BitVec 32 := Scalar.extui v702
  let c0_i32_719 : BitVec 32 := 0#32
  let v704 : BitVec 1 := Scalar.cmpi .ne v703 c0_i32_719
  v704

def k0_off90 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_482 : BitVec 32 := 4#32
  let v490 : BitVec 32 := Scalar.muli v2 c4_i32_482
  let c0_i32_744 : BitVec 32 := 0#32
  ![v490.toNat, 0]
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_720 : BitVec 32 := 25#32
  let v705 : BitVec 1 := Scalar.cmpi .ne v2 c25_i32_720
  let v706 : BitVec 32 := Scalar.extui v705
  let c0_i32_722 : BitVec 32 := 0#32
  let v707 : BitVec 1 := Scalar.cmpi .ne v706 c0_i32_722
  v707

def k0_off91 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_486 : BitVec 32 := 4#32
  let v494 : BitVec 32 := Scalar.muli v2 c4_i32_486
  let c0_i32_744 : BitVec 32 := 0#32
  ![v494.toNat, 0]
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_723 : BitVec 32 := 26#32
  let v708 : BitVec 1 := Scalar.cmpi .ne v2 c26_i32_723
  let v709 : BitVec 32 := Scalar.extui v708
  let c0_i32_725 : BitVec 32 := 0#32
  let v710 : BitVec 1 := Scalar.cmpi .ne v709 c0_i32_725
  v710

def k0_off92 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_489 : BitVec 32 := 4#32
  let v498 : BitVec 32 := Scalar.muli v2 c4_i32_489
  let c0_i32_744 : BitVec 32 := 0#32
  ![v498.toNat, 0]
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_726 : BitVec 32 := 27#32
  let v711 : BitVec 1 := Scalar.cmpi .ne v2 c27_i32_726
  let v712 : BitVec 32 := Scalar.extui v711
  let c0_i32_728 : BitVec 32 := 0#32
  let v713 : BitVec 1 := Scalar.cmpi .ne v712 c0_i32_728
  v713

def k0_off93 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_492 : BitVec 32 := 4#32
  let v502 : BitVec 32 := Scalar.muli v2 c4_i32_492
  let c0_i32_744 : BitVec 32 := 0#32
  ![v502.toNat, 0]
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_729 : BitVec 32 := 28#32
  let v714 : BitVec 1 := Scalar.cmpi .ne v2 c28_i32_729
  let v715 : BitVec 32 := Scalar.extui v714
  let c0_i32_731 : BitVec 32 := 0#32
  let v716 : BitVec 1 := Scalar.cmpi .ne v715 c0_i32_731
  v716

def k0_off94 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_495 : BitVec 32 := 4#32
  let v506 : BitVec 32 := Scalar.muli v2 c4_i32_495
  let c0_i32_744 : BitVec 32 := 0#32
  ![v506.toNat, 0]
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_732 : BitVec 32 := 29#32
  let v717 : BitVec 1 := Scalar.cmpi .ne v2 c29_i32_732
  let v718 : BitVec 32 := Scalar.extui v717
  let c0_i32_734 : BitVec 32 := 0#32
  let v719 : BitVec 1 := Scalar.cmpi .ne v718 c0_i32_734
  v719

def k0_off95 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_499 : BitVec 32 := 4#32
  let v510 : BitVec 32 := Scalar.muli v2 c4_i32_499
  let c0_i32_744 : BitVec 32 := 0#32
  ![v510.toNat, 0]
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_735 : BitVec 32 := 30#32
  let v720 : BitVec 1 := Scalar.cmpi .ne v2 c30_i32_735
  let v721 : BitVec 32 := Scalar.extui v720
  let c0_i32_737 : BitVec 32 := 0#32
  let v722 : BitVec 1 := Scalar.cmpi .ne v721 c0_i32_737
  v722

def k0_off96 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_502 : BitVec 32 := 4#32
  let v514 : BitVec 32 := Scalar.muli v2 c4_i32_502
  let c0_i32_744 : BitVec 32 := 0#32
  ![v514.toNat, 0]
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_738 : BitVec 32 := 31#32
  let v723 : BitVec 1 := Scalar.cmpi .ne v2 c31_i32_738
  let v724 : BitVec 32 := Scalar.extui v723
  let c0_i32_740 : BitVec 32 := 0#32
  let v725 : BitVec 1 := Scalar.cmpi .ne v724 c0_i32_740
  v725

def k0_off97 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_505 : BitVec 32 := 4#32
  let v518 : BitVec 32 := Scalar.muli v2 c4_i32_505
  let c0_i32_744 : BitVec 32 := 0#32
  ![v518.toNat, 0]
abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S128x128 : Shape := ⟨2, ![128, 128]⟩
abbrev S128x8192 : Shape := ⟨2, ![128, 8192]⟩
abbrev S8192x128 : Shape := ⟨2, ![8192, 128]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S128x8192, .f32⟩
  | .hbm, ⟨2, _⟩ => ⟨S128x8192, .f32⟩
  | .hbm, ⟨3, _⟩ => ⟨S128x8192, .f32⟩
  | .hbm, ⟨4, _⟩ => ⟨S8192x128, .f32⟩
  | .hbm, ⟨5, _⟩ => ⟨S8192x128, .f32⟩
  | .hbm, ⟨6, _⟩ => ⟨S8192x128, .f32⟩
  | .hbm, ⟨7, _⟩ => ⟨S128x8192, .f32⟩
  | .hbm, ⟨8, _⟩ => ⟨S_, .f32⟩
  | .hbm, ⟨9, _⟩ => ⟨S128x8192, .f32⟩
  | .hbm, ⟨10, _⟩ => ⟨S128x8192, .f32⟩
  | .hbm, ⟨11, _⟩ => ⟨S128x128, .f32⟩
  | .hbm, ⟨12, _⟩ => ⟨S128x8192, .f32⟩
  | .hbm, ⟨13, _⟩ => ⟨S_, .f32⟩
  | .hbm, ⟨14, _⟩ => ⟨S128x8192, .f32⟩
  | .hbm, ⟨15, _⟩ => ⟨S128x8192, .f32⟩
  | .hbm, ⟨16, _⟩ => ⟨S128x128, .f32⟩
  | .hbm, ⟨17, _⟩ => ⟨S128x8192, .f32⟩
  | .hbm, ⟨18, _⟩ => ⟨S_, .f32⟩
  | .hbm, ⟨19, _⟩ => ⟨S128x8192, .f32⟩
  | .hbm, ⟨20, _⟩ => ⟨S128x8192, .f32⟩
  | .hbm, ⟨21, _⟩ => ⟨S128x128, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Base.lean ====
/-
# The hypercube MLP: devices, buffers, semaphores and contents

Thirty-two devices hold a column block of every first-layer weight and a row block of every second-layer weight.  Two
butterfly all-reduces (three phases each, fourteen exchanges in all) and one reduce-scatter join the partial products.
This module names the exchange partners, the buffers and semaphores the kernel touches, the element sets of the slices
it sends, and the contents every buffer holds along the run.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.ValueLayout
public import Idealize.ShloMosaic.Lib.Tactic

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy (one duty) and the exchange's (seven duties) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Partners -/

/-- The seven exclusive-or masks of one all-reduce, in the order of its exchanges. -/
def msk : Fin 7 → ℕ := ![1, 7, 4, 3, 24, 16, 8]

/-- The partner of device `c` under mask `i`. -/
def par (i : Fin 7) (c : Dev nD) : Dev nD := ⟨(c.val ^^^ msk i) % 32, Nat.mod_lt _ (by decide)⟩

theorem par_par (i : Fin 7) (c : Dev nD) : par i (par i c) = c := by revert i c; decide +kernel

/-- The mask of exchange `k`: the two all-reduces use the same seven. -/
def red (k : Fin 14) : Fin 7 := ⟨k.val % 7, Nat.mod_lt _ (by decide)⟩

/-- The partner in exchange `k`. -/
abbrev peer (k : Fin 14) (c : Dev nD) : Dev nD := par (red k) c

theorem peer_peer (k : Fin 14) (c : Dev nD) : peer k (peer k c) = c := par_par _ _

/-- The phase of exchange `k`, of six. -/
def ph : Fin 14 → Fin 6 := ![0, 1, 1, 1, 2, 2, 2, 3, 4, 4, 4, 5, 5, 5]

/-- Within its phase, which of the three concurrent reads of the accumulator exchange `k` is. -/
def ord : Fin 14 → Fin 3 := ![0, 0, 1, 2, 0, 1, 2, 0, 0, 1, 2, 0, 1, 2]

def parEquiv (i : Fin 7) : Dev nD ≃ Dev nD := ⟨par i, par i, par_par i, par_par i⟩

/-! ### The program's device chains -/

theorem dev1_eq (c : Dev nD) : (⟨k0_dev1 c, k0_dev1_lt c⟩ : Dev nD) = par 0 c := by revert c; decide +kernel
theorem dev2_eq (c : Dev nD) : (⟨k0_dev2 c, k0_dev2_lt c⟩ : Dev nD) = par 1 c := by revert c; decide +kernel
theorem dev3_eq (c : Dev nD) : (⟨k0_dev3 c, k0_dev3_lt c⟩ : Dev nD) = par 2 c := by revert c; decide +kernel
theorem dev4_eq (c : Dev nD) : (⟨k0_dev4 c, k0_dev4_lt c⟩ : Dev nD) = par 3 c := by revert c; decide +kernel
theorem dev5_eq (c : Dev nD) : (⟨k0_dev5 c, k0_dev5_lt c⟩ : Dev nD) = par 4 c := by revert c; decide +kernel
theorem dev6_eq (c : Dev nD) : (⟨k0_dev6 c, k0_dev6_lt c⟩ : Dev nD) = par 5 c := by revert c; decide +kernel
theorem dev7_eq (c : Dev nD) : (⟨k0_dev7 c, k0_dev7_lt c⟩ : Dev nD) = par 6 c := by revert c; decide +kernel
theorem dev8_eq (c : Dev nD) : (⟨k0_dev8 c, k0_dev8_lt c⟩ : Dev nD) = peer 0 c := by revert c; decide +kernel
theorem dev9_eq (c : Dev nD) : (⟨k0_dev9 c, k0_dev9_lt c⟩ : Dev nD) = peer 1 c := by revert c; decide +kernel
theorem dev10_eq (c : Dev nD) : (⟨k0_dev10 c, k0_dev10_lt c⟩ : Dev nD) = peer 2 c := by revert c; decide +kernel
theorem dev11_eq (c : Dev nD) : (⟨k0_dev11 c, k0_dev11_lt c⟩ : Dev nD) = peer 3 c := by revert c; decide +kernel
theorem dev12_eq (c : Dev nD) : (⟨k0_dev12 c, k0_dev12_lt c⟩ : Dev nD) = peer 4 c := by revert c; decide +kernel
theorem dev13_eq (c : Dev nD) : (⟨k0_dev13 c, k0_dev13_lt c⟩ : Dev nD) = peer 5 c := by revert c; decide +kernel
theorem dev14_eq (c : Dev nD) : (⟨k0_dev14 c, k0_dev14_lt c⟩ : Dev nD) = peer 6 c := by revert c; decide +kernel
theorem dev15_eq (c : Dev nD) : (⟨k0_dev15 c, k0_dev15_lt c⟩ : Dev nD) = peer 7 c := by revert c; decide +kernel
theorem dev16_eq (c : Dev nD) : (⟨k0_dev16 c, k0_dev16_lt c⟩ : Dev nD) = peer 8 c := by revert c; decide +kernel
theorem dev17_eq (c : Dev nD) : (⟨k0_dev17 c, k0_dev17_lt c⟩ : Dev nD) = peer 9 c := by revert c; decide +kernel
theorem dev18_eq (c : Dev nD) : (⟨k0_dev18 c, k0_dev18_lt c⟩ : Dev nD) = peer 10 c := by revert c; decide +kernel
theorem dev19_eq (c : Dev nD) : (⟨k0_dev19 c, k0_dev19_lt c⟩ : Dev nD) = peer 11 c := by revert c; decide +kernel
theorem dev20_eq (c : Dev nD) : (⟨k0_dev20 c, k0_dev20_lt c⟩ : Dev nD) = peer 12 c := by revert c; decide +kernel
theorem dev21_eq (c : Dev nD) : (⟨k0_dev21 c, k0_dev21_lt c⟩ : Dev nD) = peer 13 c := by revert c; decide +kernel

/-! ## Buffers -/

abbrev aM : Memref sig .tc .vmem S128x128 .f32 := Memref.whole cc0_scratch0
abbrev bM : Memref sig .tc .vmem S128x128 .f32 := Memref.whole cc0_scratch1
abbrev vM : Memref sig .tc .vmem S14x128x128 .f32 := Memref.whole cc0_scratch2
abbrev gM : Memref sig .tc .vmem S128x128 .f32 := Memref.whole cc0_scratch5
abbrev oM : Memref sig .tc .vmem S4x128 .f32 := Memref.whole cc0_stg7_0

theorem slot_inb (k : Fin 14) : ∀ a : Fin 3, (![k.val, 0, 0] : Fin 3 → ℕ) a + S1x128x128.size a ≤ S14x128x128.size a := by
  revert k; decide +kernel
/-- The rectangle of exchange `k`'s slot in the receive buffer. -/
abbrev slotR (k : Fin 14) : Rect S14x128x128 := Rect.unit (s := S14x128x128) ![k.val, 0, 0] S1x128x128.size (slot_inb k)
/-- Exchange `k`'s slot of the receive buffer. -/
abbrev slotM (k : Fin 14) : Memref sig .tc .vmem S128x128 .f32 :=
  ((vM : Memref sig .tc .vmem S14x128x128 .f32).slice (slotR k) (fun _ => rfl)).squeeze S128x128 squeezes_S1x128x128_S128x128

theorem row_inb (j : Fin 32) : ∀ a : Fin 2, (![4 * j.val, 0] : Fin 2 → ℕ) a + S4x128.size a ≤ S128x128.size a := by
  revert j; decide +kernel
/-- The rectangle of the four rows belonging to device `j`. -/
abbrev rowR (j : Fin 32) : Rect S128x128 := Rect.unit (s := S128x128) ![4 * j.val, 0] S4x128.size (row_inb j)
abbrev aRow (j : Fin 32) : Memref sig .tc .vmem S4x128 .f32 := (aM : Memref sig .tc .vmem S128x128 .f32).slice (rowR j) (fun _ => rfl)
abbrev gRow (j : Fin 32) : Memref sig .tc .vmem S4x128 .f32 := (gM : Memref sig .tc .vmem S128x128 .f32).slice (rowR j) (fun _ => rfl)

/-! ## Semaphores -/

theorem one14 (k : Fin 14) : ∀ a : Fin 1, (![k.val] : Fin 1 → ℕ) a + S1.size a ≤ S14.size a := by revert k; decide +kernel
theorem one32 (j : Fin 32) : ∀ a : Fin 1, (![j.val] : Fin 1 → ℕ) a + S1.size a ≤ S32.size a := by revert j; decide +kernel
/-- Element `k` of an array of fourteen semaphores, the way the kernel picks it. -/
abbrev at14 (A : DmaSems sig S14) (k : Fin 14) : DmaSem sig := ((A.slice (Rect.unit (s := S14) ![k.val] S1.size (one14 k))).squeeze S_ squeezes_S1_S_).sem
abbrev at32 (A : DmaSems sig S32) (j : Fin 32) : DmaSem sig := ((A.slice (Rect.unit (s := S32) ![j.val] S1.size (one32 j))).squeeze S_ squeezes_S1_S_).sem

/-- The exchange's transfer semaphores: sending and receiving of the fourteen exchanges, sending and receiving of the
    reduce-scatter's blocks. -/
inductive DK where
  | snd (k : Fin 14) | rcv (k : Fin 14) | snd2 (j : Fin 32) | rcv2 (s : Fin 32)
  deriving DecidableEq

/-- The same as a sum of finite types. -/
def DK.equiv : DK ≃ (Fin 14 ⊕ Fin 14) ⊕ (Fin 32 ⊕ Fin 32) where
  toFun | .snd k => .inl (.inl k) | .rcv k => .inl (.inr k) | .snd2 j => .inr (.inl j) | .rcv2 s => .inr (.inr s)
  invFun | .inl (.inl k) => .snd k | .inl (.inr k) => .rcv k | .inr (.inl j) => .snd2 j | .inr (.inr s) => .rcv2 s
  left_inv i := by cases i <;> rfl
  right_inv i := by rcases i with (_ | _) | (_ | _) <;> rfl

instance : Fintype DK := Fintype.ofEquiv _ DK.equiv.symm

/-- The transfer semaphore of each. -/
def dsem : DK → DmaSem sig
  | .snd k => at14 cc0_scratch3 k | .rcv k => at14 cc0_scratch4 k | .snd2 j => at32 cc0_scratch6 j | .rcv2 s => at32 cc0_scratch7 s

/-- Its number in the pool. -/
def dnum : DK → ℕ
  | .snd k => 8 + k.val | .rcv k => 22 + k.val | .snd2 j => 36 + j.val | .rcv2 s => 68 + s.val

theorem dsem_val (i : DK) : (dsem i).val = dnum i := by
  rcases i with k | k | j | s
  · revert k; decide +kernel
  · revert k; decide +kernel
  · revert j; decide +kernel
  · revert s; decide +kernel

/-- The inverse: which transfer semaphore a number of the pool is. -/
def dkOf (n : ℕ) : Option DK :=
  if n < 8 then none
  else if h : n - 8 < 14 then some (.snd ⟨n - 8, h⟩)
  else if h : n - 22 < 14 then some (.rcv ⟨n - 22, h⟩)
  else if h : n - 36 < 32 then some (.snd2 ⟨n - 36, h⟩)
  else if h : n - 68 < 32 then some (.rcv2 ⟨n - 68, h⟩)
  else none

theorem dkOf_dnum (i : DK) : dkOf (dnum i) = some i := by
  rcases i with k | k | j | s
  · revert k; decide +kernel
  · revert k; decide +kernel
  · revert j; decide +kernel
  · revert s; decide +kernel

/-- Which transfer semaphore a semaphore is. -/
def kindOf : SemLoc sig → Option DK
  | .reg _ => none
  | .dma q => dkOf q.val

theorem kindOf_dsem (i : DK) : kindOf (.dma (dsem i)) = some i := by
  show dkOf (dsem i).val = some i
  rw [dsem_val, dkOf_dnum]

abbrev barS : Sem sig := (SemArray.scalar (sig.barrier 0 rfl) : Sems sig S_).sem
abbrev barCell (c : Dev nD) : GSem nD τ sig := ((c : Thread nD τ), .reg barS)
abbrev dcell (c : Dev nD) (i : DK) : GSem nD τ sig := ((c : Thread nD τ), .dma (dsem i))

theorem dsem_inj {i j : DK} (h : dsem i = dsem j) : i = j := by
  have := congrArg (fun q => kindOf (.dma q)) h
  simp only [kindOf_dsem] at this
  exact Option.some.inj this
theorem dcell_inj {c c' : Dev nD} {i j : DK} (h : dcell c i = dcell c' j) : c = c' ∧ i = j := by
  refine ⟨congrArg (fun g : GSem nD τ sig => g.1.1) h, dsem_inj ?_⟩
  have h2 : (SemLoc.dma (dsem i) : SemLoc sig) = .dma (dsem j) := congrArg (fun g : GSem nD τ sig => g.2) h
  exact SemLoc.dma.inj h2
theorem barCell_inj {c c' : Dev nD} (h : barCell c = barCell c') : c = c' := congrArg (fun g : GSem nD τ sig => g.1.1) h
theorem dcell_ne_bar (c c' : Dev nD) (i : DK) : dcell c i ≠ barCell c' := fun h => by
  have h2 : (SemLoc.dma (dsem i) : SemLoc sig) = .reg barS := congrArg (fun g : GSem nD τ sig => g.2) h
  cases h2

/-! ## Amounts -/

/-- The credit of one exchange, and of one block of the reduce-scatter. -/
abbrev N : ℕ := (aM : Memref sig .tc .vmem S128x128 .f32).view.dmaCredit
abbrev N2 : ℕ := (aRow 0).view.dmaCredit
theorem N_pos : 0 < N := View.dmaCredit_pos _ (by decide)
theorem N2_pos : 0 < N2 := View.dmaCredit_pos _ (by decide)

/-! ## Element sets -/

theorem slot_set (k : Fin 14) : (slotM k).view.set = (slotR k).set := by
  rw [Memref.set_view_squeeze]; exact View.set_slice_whole _ _
theorem mem_slot (k : Fin 14) (x : S14x128x128.Idx) : x ∈ (slotR k).set ↔ (x 0).val = k.val := by
  rw [Rect.mem_set_unit]
  constructor
  · intro h; have h0 := h 0; simp only [Matrix.cons_val_zero, S1x128x128] at h0; omega
  · intro h a
    have hx : ∀ a : Fin 3, (x a).val < S14x128x128.size a := fun a => (x a).isLt
    fin_cases a
    · simp only [S1x128x128]; show k.val ≤ (x 0).val ∧ (x 0).val < k.val + 1; omega
    · exact ⟨Nat.zero_le _, lt_of_lt_of_eq (hx 1) (Nat.zero_add _).symm⟩
    · exact ⟨Nat.zero_le _, lt_of_lt_of_eq (hx 2) (Nat.zero_add _).symm⟩

theorem row_set_a (j : Fin 32) : (aRow j).view.set = (rowR j).set := View.set_slice_whole _ _
theorem row_set_g (j : Fin 32) : (gRow j).view.set = (rowR j).set := View.set_slice_whole _ _
theorem mem_row (j : Fin 32) (x : S128x128.Idx) : x ∈ (rowR j).set ↔ (x 0).val / 4 = j.val := by
  rw [Rect.mem_set_unit]
  constructor
  · intro h; have h0 := h 0; simp only [Matrix.cons_val_zero, S4x128] at h0; omega
  · intro h a
    fin_cases a
    · show 4 * j.val ≤ (x 0).val ∧ (x 0).val < 4 * j.val + 4; omega
    · exact ⟨Nat.zero_le _, lt_of_lt_of_eq (x 1).isLt (Nat.zero_add _).symm⟩

/-! ## Contents -/

/-- What a device's seven operands hold. -/
structure Ins (F : FTy → Type) where
  x : Vec F S128x128 .f32
  w0 : Vec F S128x256 .f32
  u0 : Vec F S256x128 .f32
  w1 : Vec F S128x256 .f32
  u1 : Vec F S256x128 .f32
  w2 : Vec F S128x256 .f32
  u2 : Vec F S256x128 .f32

/-- A square as the one slab of a three-axis vector: what a load of a slot reads. -/
def up (v : Vec F S128x128 .f32) : Vec F S1x128x128 .f32 := fun y => v (ValueIdx.ix2 (n0 := 128) (n1 := 128) (y 1) (y 2))
/-- The receive buffer all of whose slots hold `v`. -/
def spread (v : Vec F S128x128 .f32) : Vec F S14x128x128 .f32 := fun y => v (ValueIdx.ix2 (n0 := 128) (n1 := 128) (y 1) (y 2))

section Contents

variable (I : Dev nD → Ins F)

/-- The partial product of layer 0. -/
def P0 (c : Dev nD) : Vec F S128x128 .f32 := k0_pay1 (I c).x (I c).w0 (I c).u0
/-- The sum over the pair. -/
def P1 (c : Dev nD) : Vec F S128x128 .f32 := k0_pay2 (P0 I c) (up (P0 I (par 0 c)))
/-- The sum over the chip's eight. -/
def P2 (c : Dev nD) : Vec F S128x128 .f32 := k0_pay3 (P1 I c) (up (P1 I (par 1 c))) (up (P1 I (par 2 c))) (up (P1 I (par 3 c)))
/-- The sum over all thirty-two: the activations after layer 0. -/
def H1 (c : Dev nD) : Vec F S128x128 .f32 := k0_pay5 (k0_pay4 (P2 I c) (up (P2 I (par 4 c)))) (up (P2 I (par 5 c))) (up (P2 I (par 6 c)))
/-- The partial product of layer 1, and its three sums likewise. -/
def P3 (c : Dev nD) : Vec F S128x128 .f32 := k0_pay7 (k0_pay6 (H1 I c) (I c).w1) (I c).u1
def P4 (c : Dev nD) : Vec F S128x128 .f32 := k0_pay8 (P3 I c) (up (P3 I (par 0 c)))
def P5 (c : Dev nD) : Vec F S128x128 .f32 := k0_pay10 (k0_pay9 (P4 I c) (up (P4 I (par 1 c))) (up (P4 I (par 2 c)))) (up (P4 I (par 3 c)))
def H2 (c : Dev nD) : Vec F S128x128 .f32 := k0_pay11 (P5 I c) (up (P5 I (par 4 c))) (up (P5 I (par 5 c))) (up (P5 I (par 6 c)))
/-- The partial product of layer 2. -/
def FA (c : Dev nD) : Vec F S128x128 .f32 := k0_pay12 (H2 I c) (I c).w2 (I c).u2

/-- What the accumulator holds in each phase. -/
def P (p : Fin 6) : Dev nD → Vec F S128x128 .f32 :=
  match p with
  | 0 => P0 I | 1 => P1 I | 2 => P2 I | 3 => P3 I | 4 => P4 I | 5 => P5 I

/-- What the reduce-scatter's receive buffer holds at the end: rows `4 s ..` are device `s`'s partial rows of `c`. -/
def R2 (c : Dev nD) : Vec F S128x128 .f32 := fun x =>
  FA I ⟨(x 0).val / 4, by have : (x 0).val < 128 := (x 0).isLt; show (x 0).val / 4 < 32; omega⟩
    (ValueIdx.ix2 (n0 := 128) (n1 := 128) ⟨4 * c.val + (x 0).val % 4, by have : c.val < 32 := c.isLt; omega⟩ (x 1))

/-- The kernel's result: the thirty-two groups of four rows summed. -/
def OUT (c : Dev nD) : Vec F S4x128 .f32 := k0_pay14 (R2 I c)

end Contents

/-! ## Ownership of the pieces -/

def aPts (c : Dev nD) (q : PosShare TreeShare) (v : Vec F S128x128 .f32) : sProp 𝕄 :=
  (aM : Memref sig .tc .vmem S128x128 .f32).view.loc (c : Thread nD τ) ↦[(aM : Memref sig .tc .vmem S128x128 .f32).view.set]{q} v
def bPts (c : Dev nD) (q : PosShare TreeShare) (v : Vec F S128x128 .f32) : sProp 𝕄 :=
  (bM : Memref sig .tc .vmem S128x128 .f32).view.loc (c : Thread nD τ) ↦[(bM : Memref sig .tc .vmem S128x128 .f32).view.set]{q} v
/-- Device `c`'s slot `k` holding `v`. -/
def slotPts (c : Dev nD) (k : Fin 14) (v : Vec F S128x128 .f32) : sProp 𝕄 :=
  (slotM k).view.loc (c : Thread nD τ) ↦[(slotM k).view.set]{fullShare} spread v
def slotAny (c : Dev nD) (k : Fin 14) : sProp 𝕄 := iprop(∃ f, (slotM k).view.loc (c : Thread nD τ) ↦[(slotM k).view.set]{fullShare} f)
/-- Rows `4 j ..` of device `c`'s first accumulator, as `v` has them. -/
def aRowPts (c : Dev nD) (j : Fin 32) (v : Vec F S128x128 .f32) : sProp 𝕄 :=
  (aRow j).view.loc (c : Thread nD τ) ↦[(aRow j).view.set]{fullShare} v
/-- Rows `4 s ..` of device `c`'s reduce-scatter buffer, as `v` has them, and at anything. -/
def gRowPts (c : Dev nD) (s : Fin 32) (v : Vec F S128x128 .f32) : sProp 𝕄 :=
  (gRow s).view.loc (c : Thread nD τ) ↦[(gRow s).view.set]{fullShare} v
def gRowAny (c : Dev nD) (s : Fin 32) : sProp 𝕄 := iprop(∃ f, (gRow s).view.loc (c : Thread nD τ) ↦[(gRow s).view.set]{fullShare} f)

/-- Accumulator of phase `p`: the second one in the middle phases, the first otherwise. -/
def accPts (p : Fin 6) (c : Dev nD) (q : PosShare TreeShare) (v : Vec F S128x128 .f32) : sProp 𝕄 :=
  if p = 1 ∨ p = 4 then bPts c q v else aPts c q v

/-- The reading share of the `i`-th concurrent exchange of a phase; the last quarter stays with the device. -/
def qs (i : Fin 3) : PosShare TreeShare := match i with
  | 0 => fullShare.left.left | 1 => fullShare.left.right | 2 => fullShare.right.left
abbrev qk : PosShare TreeShare := fullShare.right.right

section Storable
variable (c : Dev nD)
omit [FloatOps F]
instance aPts_storable (q v) : BI.Storable (upEmb : UEmb _ 𝕄) (aPts (F := F) c q v) := by unfold aPts; infer_instance
instance bPts_storable (q v) : BI.Storable (upEmb : UEmb _ 𝕄) (bPts (F := F) c q v) := by unfold bPts; infer_instance
instance accPts_storable (p q v) : BI.Storable (upEmb : UEmb _ 𝕄) (accPts (F := F) p c q v) := by unfold accPts; split <;> infer_instance
instance slotPts_storable (k v) : BI.Storable (upEmb : UEmb _ 𝕄) (slotPts (F := F) c k v) := by unfold slotPts; infer_instance
instance slotAny_storable (k) : BI.Storable (upEmb : UEmb _ 𝕄) (slotAny (F := F) c k) := by unfold slotAny; infer_instance
instance aRowPts_storable (k v) : BI.Storable (upEmb : UEmb _ 𝕄) (aRowPts (F := F) c k v) := by unfold aRowPts; infer_instance
instance gRowPts_storable (k v) : BI.Storable (upEmb : UEmb _ 𝕄) (gRowPts (F := F) c k v) := by unfold gRowPts; infer_instance
instance gRowAny_storable (k) : BI.Storable (upEmb : UEmb _ 𝕄) (gRowAny (F := F) c k) := by unfold gRowAny; infer_instance
end Storable

end Cert.Mlp

end
-- ==== Proof.Geom.lean ====
/-
# Splitting the buffers, and what transfers and loads see

The whole buffers cut into the slots and row groups the kernel transfers, and the contents a landed transfer leaves.
-/
module

public import proofs.«01_k».proof.Proof.Base

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring Idealize.ShloMosaic.ValueIdx

variable {F : FTy → Type} [FloatOps F]

local notation "𝕄" => MT nD τ sig Unit (Elt F) ℕ UU ℕ

section Geometry
omit [FloatOps F]

/-! ### Splitting -/

theorem hz2 : (![0, 0] : Fin 2 → ℕ) = fun _ => 0 := funext fun a => by fin_cases a <;> rfl

theorem aPts_whole (c : Dev nD) (q) (v : Vec F S128x128 .f32) : aPts c q v = (((c : Thread nD τ).loc cc0_scratch0) ↦{q} v : sProp 𝕄) := by
  unfold aPts; rw [View.set_whole]
theorem bPts_whole (c : Dev nD) (q) (v : Vec F S128x128 .f32) : bPts c q v = (((c : Thread nD τ).loc cc0_scratch1) ↦{q} v : sProp 𝕄) := by
  unfold bPts; rw [View.set_whole]

/-- A whole accumulator in the four reading shares, and back. -/
theorem aPts_quarters (c : Dev nD) (v : Vec F S128x128 .f32) :
    aPts c fullShare v ⊢ (iprop(aPts c (qs 0) v ∗ aPts c (qs 1) v ∗ aPts c (qs 2) v ∗ aPts c qk v) : sProp 𝕄) := by
  unfold aPts qs
  iintro ⟨⟨H0, H1⟩, H2, H3⟩
  isplitl [H0]; · iexact H0
  isplitl [H1]; · iexact H1
  isplitl [H2] <;> iassumption
theorem aPts_join (c : Dev nD) (v : Vec F S128x128 .f32) :
    iprop(aPts c (qs 0) v ∗ aPts c (qs 1) v ∗ aPts c (qs 2) v ∗ aPts c qk v) ⊢ (aPts c fullShare v : sProp 𝕄) := by
  unfold aPts qs
  iintro ⟨H0, H1, H2, H3⟩
  isplitl [H0 H1]
  · isplitl [H0] <;> iassumption
  · isplitl [H2] <;> iassumption
theorem bPts_quarters (c : Dev nD) (v : Vec F S128x128 .f32) :
    bPts c fullShare v ⊢ (iprop(bPts c (qs 0) v ∗ bPts c (qs 1) v ∗ bPts c (qs 2) v ∗ bPts c qk v) : sProp 𝕄) := by
  unfold bPts qs
  iintro ⟨⟨H0, H1⟩, H2, H3⟩
  isplitl [H0]; · iexact H0
  isplitl [H1]; · iexact H1
  isplitl [H2] <;> iassumption
theorem bPts_join (c : Dev nD) (v : Vec F S128x128 .f32) :
    iprop(bPts c (qs 0) v ∗ bPts c (qs 1) v ∗ bPts c (qs 2) v ∗ bPts c qk v) ⊢ (bPts c fullShare v : sProp 𝕄) := by
  unfold bPts qs
  iintro ⟨H0, H1, H2, H3⟩
  isplitl [H0 H1]
  · isplitl [H0] <;> iassumption
  · isplitl [H2] <;> iassumption

theorem row_disj : ∀ j j' : Fin 32, j ≠ j' → Disjoint (rowR j).set (rowR j').set := fun j j' h =>
  Finset.disjoint_left.mpr fun x hx hx' => h (Fin.ext (((mem_row j x).mp hx).symm.trans ((mem_row j' x).mp hx')))
theorem row_cover : (Finset.univ : Finset (Fin 32)).biUnion (fun j => (rowR j).set) = Finset.univ :=
  Finset.eq_univ_iff_forall.mpr fun x => Finset.mem_biUnion.mpr
    ⟨⟨(x 0).val / 4, by have : (x 0).val < 128 := (x 0).isLt; omega⟩, Finset.mem_univ _, (mem_row _ x).mpr rfl⟩
theorem slot_disj : ∀ j j' : Fin 14, j ≠ j' → Disjoint (slotR j).set (slotR j').set := fun j j' h =>
  Finset.disjoint_left.mpr fun x hx hx' => h (Fin.ext (((mem_slot j x).mp hx).symm.trans ((mem_slot j' x).mp hx')))
theorem slot_cover : (Finset.univ : Finset (Fin 14)).biUnion (fun j => (slotR j).set) = Finset.univ :=
  Finset.eq_univ_iff_forall.mpr fun x => Finset.mem_biUnion.mpr ⟨⟨(x 0).val, (x 0).isLt⟩, Finset.mem_univ _, (mem_slot _ x).mpr rfl⟩

/-- An accumulator held whole is held row group by row group. -/
theorem aPts_rows (c : Dev nD) (v : Vec F S128x128 .f32) :
    aPts c fullShare v = (bigSep Finset.univ fun j : Fin 32 => aRowPts c j v : sProp 𝕄) := by
  rw [aPts_whole, pointsTo_blocks (fun j : Fin 32 => (rowR j).set) row_disj row_cover]
  exact bigSep_congr fun j _ => by unfold aRowPts; rw [row_set_a]
theorem gPts_rows (c : Dev nD) (v : Vec F S128x128 .f32) :
    (((c : Thread nD τ).loc cc0_scratch5) ↦{fullShare} v : sProp 𝕄) = bigSep Finset.univ fun j : Fin 32 => gRowPts c j v := by
  rw [pointsTo_blocks (fun j : Fin 32 => (rowR j).set) row_disj row_cover]
  exact bigSep_congr fun j _ => by unfold gRowPts; rw [row_set_g]
theorem gRow_any (c : Dev nD) (j : Fin 32) (v : Vec F S128x128 .f32) : gRowPts c j v ⊢ (gRowAny c j : sProp 𝕄) := by
  unfold gRowPts gRowAny
  iintro H; iexists v; iexact H
theorem gPts_rows_any (c : Dev nD) (v : Vec F S128x128 .f32) :
    (((c : Thread nD τ).loc cc0_scratch5) ↦{fullShare} v : sProp 𝕄) ⊢ bigSep Finset.univ fun j : Fin 32 => gRowAny c j := by
  rw [gPts_rows]
  exact bigSep_mono fun j _ => gRow_any c j v
theorem slot_any_of (c : Dev nD) (k : Fin 14) (f : Vec F S14x128x128 .f32) :
    (((c : Thread nD τ).loc cc0_scratch2) ↦[(slotR k).set]{fullShare} f : sProp 𝕄) ⊢ slotAny c k := by
  unfold slotAny; rw [slot_set]
  iintro H; iexists f; iexact H
theorem vPts_slots_any (c : Dev nD) (f : Vec F S14x128x128 .f32) :
    (((c : Thread nD τ).loc cc0_scratch2) ↦{fullShare} f : sProp 𝕄) ⊢ bigSep Finset.univ fun k : Fin 14 => slotAny c k := by
  rw [pointsTo_blocks (fun j : Fin 14 => (slotR j).set) slot_disj slot_cover]
  exact bigSep_mono fun k _ => slot_any_of c k f
theorem slots_join (c : Dev nD) (vs : Fin 14 → Vec F S128x128 .f32) :
    (bigSep Finset.univ fun k : Fin 14 => slotPts c k (vs k)) ⊢ (iprop(∃ f, ((c : Thread nD τ).loc cc0_scratch2) ↦{fullShare} f) : sProp 𝕄) := by
  refine BIBase.Entails.trans ?_ (pointsTo_blocks_join (fun j : Fin 14 => (slotR j).set) slot_disj slot_cover (fun k => spread (vs k)) (spread (vs 0)))
  refine bigSep_mono fun k _ => ?_
  unfold slotPts; rw [slot_set]; exact BI.Entails.refl _

/-! ### What transfers, loads and stores see -/

theorem up_cast (v : Vec F S128x128 .f32) : shapeCast S128x128 (up v) shapeCasts_S1x128x128_S128x128 = v := by
  funext y
  rw [ValueIdx.eq_ix2 (n0 := 128) (n1 := 128) y]
  exact (shapeCast_1ab_ab_apply (a := 128) (b := 128) (up v) _ (y 0) (y 1)).trans rfl

theorem slot_load (k : Fin 14) (v : Vec F S128x128 .f32) :
    (vM : Memref sig .tc .vmem S14x128x128 .f32).view.readAt (Elt F) (slotR k).toLoadRect (spread v) = up v := by
  funext y
  show spread v ((slotR k).emb y) = up v y
  unfold spread up
  have h1 : (((slotR k).emb y) 1).val = (y 1).val := by
    show 0 + 1 * (y 1).val = _; omega
  have h2 : (((slotR k).emb y) 2).val = (y 2).val := by
    show 0 + 1 * (y 2).val = _; omega
  congr 2 <;> exact Fin.ext (by assumption)

theorem slot_read (k : Fin 14) (v : Vec F S128x128 .f32) : (slotM k).view.read (Elt F) (spread v) = v := by
  refine Eq.trans (Memref.read_squeeze_slice (vM : Memref sig .tc .vmem S14x128x128 .f32) (slotR k) (fun _ => rfl) squeezes_S1x128x128_S128x128
    shapeCasts_S1x128x128_S128x128 (spread v)) ?_
  rw [slot_load]; exact up_cast v

/-- A slot with `v` written over it holds `v`. -/
theorem slot_landed (c : Dev nD) (k : Fin 14) (v : Vec F S128x128 .f32) (fd : Buf (Elt F) ((slotM k).view.loc (c : Thread nD τ))) :
    ((slotM k).view.loc (c : Thread nD τ) ↦[(slotM k).view.set]{fullShare} ((slotM k).view.write (Elt F) fd v Finset.univ) : sProp 𝕄)
      = slotPts c k v := by
  unfold slotPts
  refine pointsTo_congr fun i hi => ?_
  obtain ⟨y, rfl⟩ := View.exists_emb_of_mem_set _ hi
  rw [View.write_emb_of_mem _ _ (Finset.mem_univ y)]
  have h := congrFun (slot_read k v) y
  rw [View.read_apply] at h
  exact h.symm

theorem row_emb0 (j : Fin 32) (y : S4x128.Idx) : (((rowR j).emb y) 0).val = 4 * j.val + (y 0).val := by
  show 4 * j.val + 1 * (y 0).val = _; omega
theorem row_emb1 (j : Fin 32) (y : S4x128.Idx) : (((rowR j).emb y) 1).val = (y 1).val := by
  show 0 + 1 * (y 1).val = _; omega

end Geometry

/-- The rows device `s` sends device `c`, where they land. -/
theorem R2_row (I : Dev nD → Ins F) (c s : Dev nD) (y : S4x128.Idx) :
    R2 I c ((rowR s).emb y) = FA I s ((rowR c).emb y) := by
  have hy : (y 0).val < 4 := (y 0).isLt
  unfold R2
  have e0 := row_emb0 s y
  have hs : (⟨(((rowR s).emb y) 0).val / 4, by have : (((rowR s).emb y) 0).val < 128 := (((rowR s).emb y) 0).isLt; show _ / 4 < 32; omega⟩ : Dev nD) = s :=
    Fin.ext (by show _ / 4 = s.val; rw [e0]; omega)
  rw [hs]
  congr 1
  funext a
  fin_cases a
  · exact Fin.ext (by show 4 * c.val + _ % 4 = _; rw [e0]; exact Eq.trans (by omega) (row_emb0 c y).symm)
  · exact Fin.ext ((row_emb1 s y).trans (row_emb1 c y).symm)

theorem row_landed (I : Dev nD → Ins F) (c s : Dev nD) (fd : Buf (Elt F) ((gRow s).view.loc (c : Thread nD τ))) :
    ((gRow s).view.loc (c : Thread nD τ) ↦[(gRow s).view.set]{fullShare}
        ((gRow s).view.write (Elt F) fd ((aRow c).view.read (Elt F) (FA I s)) Finset.univ) : sProp 𝕄)
      = gRowPts c s (R2 I c) := by
  unfold gRowPts
  refine pointsTo_congr fun i hi => ?_
  obtain ⟨y, rfl⟩ := View.exists_emb_of_mem_set _ hi
  rw [View.write_emb_of_mem _ _ (Finset.mem_univ y)]
  exact (R2_row I c s y).symm

end Cert.Mlp

end
-- ==== Proof.Sets.lean ====
/-
# Families of assertions over finite sets

Taking a member out of a family and putting one back, and dealing a family by a function, as equations in the spelling the
interactive proofs use.
-/
module

public import Idealize.SL.ProofMode.BigOp

@[expose] public section

noncomputable section

namespace Cert.Mlp

open Idealize.SL Idealize.SL.RA Idealize.SL.BI
open Idealize.SL.BI.BIBase Idealize.SL.BI.Laws Idealize.SL.ProofMode

variable {M : Type*} [URA M] {A : Type*}

/-- A member of the family and the rest of it. -/
theorem fam_take [DecidableEq A] {S : Finset A} {a : A} (h : a ∈ S) (Φ : A → sProp M) : bigSep S Φ = iprop(Φ a ∗ bigSep (S.erase a) Φ) := by
  conv_lhs => rw [← Finset.insert_erase h]
  exact bigSep_insert (Finset.notMem_erase a S)

/-- A new member joins the family. -/
theorem fam_put [DecidableEq A] {S : Finset A} {a : A} (h : a ∉ S) (Φ : A → sProp M) : bigSep (insert a S) Φ = iprop(Φ a ∗ bigSep S Φ) :=
  bigSep_insert h

/-- Two disjoint families. -/
theorem fam_union [DecidableEq A] {S T : Finset A} (h : Disjoint S T) (Φ : A → sProp M) : bigSep (S ∪ T) Φ = iprop(bigSep S Φ ∗ bigSep T Φ) :=
  bigSep_union h

/-- A subfamily and the rest. -/
theorem fam_split [DecidableEq A] {S T : Finset A} (h : T ⊆ S) (Φ : A → sProp M) : bigSep S Φ = iprop(bigSep T Φ ∗ bigSep (S \ T) Φ) :=
  bigSep_sdiff_split h

theorem fam_nil (Φ : A → sProp M) : bigSep ∅ Φ = (iprop(emp) : sProp M) := rfl

theorem fam_one (a : A) (Φ : A → sProp M) : bigSep {a} Φ = Φ a := bigSep_singleton

/-- A member alone. -/
theorem fam_get [DecidableEq A] {S : Finset A} {a : A} (h : a ∈ S) (Φ : A → sProp M) : bigSep S Φ ⊢ Φ a := bigSep_elim h

theorem fam_mono {S : Finset A} {Φ Ψ : A → sProp M} (h : ∀ a ∈ S, Φ a ⊢ Ψ a) : bigSep S Φ ⊢ bigSep S Ψ := bigSep_mono h

/-- A family each of whose members goes to the place `f` names for it. -/
theorem fam_deal [DecidableEq A] [Fintype A] {B : Type*} [Fintype B] [DecidableEq B] (S : Finset A) (f : A → B) (Φ : A → sProp M) :
    bigSep S Φ = bigSep Finset.univ fun b => bigSep (S.filter fun a => f a = b) Φ := by
  have e : ∀ b, bigSep (S.filter fun a => f a = b) Φ = bigSep Finset.univ fun a => if a ∈ S ∧ f a = b then Φ a else BI.emp := fun b => by
    rw [← bigSep_filter]; congr 1; ext a; simp
  rw [bigSep_congr (s := Finset.univ) (fun b _ => e b), bigSep_univ_comm]
  have e' : ∀ a, (bigSep Finset.univ fun b => if a ∈ S ∧ f a = b then Φ a else BI.emp) = if a ∈ S then Φ a else BI.emp := fun a => by
    rw [← bigSep_filter]
    by_cases h : a ∈ S
    · rw [if_pos h, show (Finset.univ.filter fun b => a ∈ S ∧ f a = b) = {f a} from by ext b; simp [h, eq_comm], bigSep_singleton]
    · rw [if_neg h, show (Finset.univ.filter fun b => a ∈ S ∧ f a = b) = ∅ from by ext b; simp [h], bigSep_empty]
  rw [bigSep_congr (s := Finset.univ) (fun a _ => e' a), ← bigSep_filter]
  congr 1; ext a; simp

end Cert.Mlp

end
-- ==== Proof.BarCell.lean ====
/-
# The barrier cell

A device's barrier semaphore receives seven signals, of weights 28 (the pair partner), 8 each (the chip's three other
partners) and 1 each (the three partners on other chips), and its owner waits for 28, then 24, then 3.  The weights make
each wait decide which signals it consumed: what is on the counter when a wait fires can only be explained by every signal
the wait is meant for having arrived.  The cell's invariant records the signals arrived and taken; each signal carries the
sender's two receive slots for the exchanges with the owner.
-/
module

public import proofs.«01_k».proof.Proof.Geom
public import proofs.«01_k».proof.Proof.Sets

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

/-! ## Weights and stages -/

/-- The units of signal `i`. -/
def wts : Fin 7 → ℕ := ![28, 8, 8, 8, 1, 1, 1]
def wt (T : Finset (Fin 7)) : ℕ := ∑ i ∈ T, wts i
/-- The signals taken after `n` waits, and the amount of wait `n`. -/
def stage : Fin 4 → Finset (Fin 7) := ![∅, {0}, {0, 1, 2, 3}, Finset.univ]
def wamt : Fin 3 → ℕ := ![28, 24, 3]

theorem stage_mono (n : Fin 3) : stage n.castSucc ⊆ stage n.succ := by revert n; decide +kernel
theorem stage_wt (n : Fin 3) : wt (stage n.castSucc) + wamt n = wt (stage n.succ) := by revert n; decide +kernel
/-- Signals worth what the stages' consumption comes to include the stage's. -/
theorem stage_forced (n : Fin 3) (S : Finset (Fin 7)) (hs : stage n.castSucc ⊆ S) (hw : wt (stage n.succ) ≤ wt S) : stage n.succ ⊆ S := by
  revert n S; decide +kernel
theorem stage_last (S : Finset (Fin 7)) (h : Disjoint S (stage (Fin.last 3))) : S = ∅ := by revert S; decide +kernel

theorem wt_insert {S : Finset (Fin 7)} {i : Fin 7} (h : i ∉ S) : wt (insert i S) = wts i + wt S := Finset.sum_insert h
theorem wt_union {S T : Finset (Fin 7)} (h : Disjoint S T) : wt (S ∪ T) = wt S + wt T := Finset.sum_union h

/-- The first and the second exchange with partner `i`. -/
def lo (i : Fin 7) : Fin 14 := ⟨i.val, by omega⟩
def hi (i : Fin 7) : Fin 14 := ⟨7 + i.val, by omega⟩

/-! ## The invariant -/

/-- What partner `i`'s signal hands device `c`: that partner's two slots for the exchanges with `c`. -/
def barPay (c : Dev nD) (i : Fin 7) : sProp 𝕄 := iprop(slotAny (par i c) (lo i) ∗ slotAny (par i c) (hi i))

instance barPay_storable (c : Dev nD) (i : Fin 7) : BI.Storable (upEmb : UEmb _ 𝕄) (barPay (F := F) c i) := by unfold barPay; infer_instance

/-- The cell in use: the counter, the owner's position, the taken signals' tokens, the arrived signals' tokens and payloads. -/
def barOpen (c : Dev nD) : sProp 𝕄 :=
  iprop(∃ (v : ℕ) (T : Finset (Fin 7)) (m : ℕ) (A : Finset (Fin 7)), semVal (barCell c) v ∗ roundAuth ER (barCell c) 0 T m
    ∗ ⌜Disjoint A T ∧ v + m = wt T + wt A⌝
    ∗ (bigSep T fun i => dutyTok ER (barCell c) 0 i) ∗ bigSep A fun i => iprop(dutyTok ER (barCell c) 0 i ∗ barPay c i))
/-- The cell given back: its owner's position and every token left in it. -/
def barShut (c : Dev nD) : sProp 𝕄 :=
  iprop((∃ (T : Finset (Fin 7)) (m : ℕ), atPos ER (barCell c) 0 T m) ∗ bigSep Finset.univ fun i => dutyTok ER (barCell c) 0 i)
def barBody (c : Dev nD) : sProp 𝕄 := iprop(barOpen c ∨ barShut c)
abbrev barInv (κ : ℕ) (c : Dev nD) : sProp 𝕄 := inv κ (barBody c)

instance barOpen_storable (c : Dev nD) : BI.Storable (upEmb : UEmb _ 𝕄) (barOpen (F := F) c) := by
  unfold barOpen
  have h (T : Finset (Fin 7)) : BI.Storable (upEmb : UEmb _ 𝕄) (bigSep T fun i => dutyTok ER (barCell c) 0 i : sProp 𝕄) := inferInstance
  have h' (T : Finset (Fin 7)) : BI.Storable (upEmb : UEmb _ 𝕄) (bigSep T fun i => iprop(dutyTok ER (barCell c) 0 i ∗ barPay (F := F) c i)) := inferInstance
  infer_instance
instance barShut_storable (c : Dev nD) : BI.Storable (upEmb : UEmb _ 𝕄) (barShut (F := F) c) := by unfold barShut; infer_instance
instance barBody_storable (c : Dev nD) : BI.Storable (upEmb : UEmb _ 𝕄) (barBody (F := F) c) := by unfold barBody; infer_instance

omit [FloatOps F]

theorem tok_not_mem (c : Dev nD) (S : Finset (Fin 7)) (i : Fin 7) (h : i ∈ S) :
    iprop((bigSep S fun i => dutyTok ER (barCell c) 0 i) ∗ dutyTok ER (barCell c) 0 i) ⊢ (False : sProp 𝕄) :=
  (sep_mono_left (bigSep_elim h)).trans (dutyTok_dutyTok_false ER)
theorem tokpay_not_mem (c : Dev nD) (S : Finset (Fin 7)) (i : Fin 7) (h : i ∈ S) :
    iprop((bigSep S fun i => iprop(dutyTok ER (barCell c) 0 i ∗ barPay c i)) ∗ dutyTok ER (barCell c) 0 i) ⊢ (False : sProp 𝕄) := by
  iintro ⟨H, Ht⟩
  ihave H' := (fam_get h fun i => iprop(dutyTok ER (barCell c) 0 i ∗ barPay (F := F) c i)) $$ H
  icases H' with ⟨Ht', -⟩
  iapply (dutyTok_dutyTok_false ER)
  isplitl [Ht'] <;> iassumption

/-- A signal arrives. -/
theorem bar_raise (κ : ℕ) (c : Dev nD) (i : Fin 7) :
    iprop(barInv κ c ∗ dutyTok ER (barCell c) 0 i ∗ barPay c i)
      ⊢ (atomically frame Set.univ (raiseSpec (barCell c) (wts i)) (fun _ => iprop(emp)) : sProp 𝕄) := by
  iintro ⟨Hg, Ht, Hp⟩
  imod (inv_acc (Set.mem_univ κ)) $$ Hg with ⟨Hb, Hclose⟩
  unfold barBody
  icases Hb with (Ho | Hs)
  rotate_left
  · unfold barShut
    icases Hs with ⟨-, Hs⟩
    iexfalso
    iapply (tok_not_mem c Finset.univ i (Finset.mem_univ i))
    isplitl [Hs] <;> iassumption
  unfold barOpen
  icases Ho with ⟨%v, %T, %m, %A, Hv, Ha, %hf, HT, HA⟩
  by_cases hT : i ∈ T
  · iexfalso
    iapply (tok_not_mem c T i hT)
    isplitl [HT] <;> iassumption
  by_cases hA : i ∈ A
  · iexfalso
    iapply (tokpay_not_mem c A i hA)
    isplitl [HA] <;> iassumption
  imodintro
  rw [raiseSpec_apply]
  iexists v
  isplitl [Hv]; · iexact Hv
  iintro Hv
  ihave Hc := Hclose $$ [Hv Ha HT HA Ht Hp]
  · ileft
    iexists (v + wts i); iexists T; iexists m; iexists (insert i A)
    isplitl [Hv]; · iexact Hv
    isplitl [Ha]; · iexact Ha
    isplitr
    · ipureintro
      refine ⟨Finset.disjoint_insert_left.mpr ⟨hT, hf.1⟩, ?_⟩
      rw [wt_insert hA]; have := hf.2; omega
    isplitl [HT]; · iexact HT
    rw [fam_put hA]
    isplitl [Ht Hp]
    · isplitl [Ht] <;> iassumption
    iexact HA
  imod Hc
  imodintro
  iempintro

/-- The signal, at the head of a program. -/
theorem bar_signal (𝒱 : Variants) (c d : Dev nD) (i : Fin 7) (κ : ℕ) {α : Type} {Q : α → sProp 𝕄} {k : PUnit → Prog (TpuEff nD τ sig (Elt F) Λ₀ .tc) α}
    {defs : Defs nD τ sig (Elt F) Λ₀} {O₀ : CellTallies nD τ sig Unit} (O : CellTallies nD τ sig Unit) (hO : O₀ = O + tallyAt (barCell d) () (wts i)) (W : Waits sig Unit) :
    iprop(barInv κ d ∗ owes (c : Thread nD τ) O₀ W ∗ dutyTok ER (barCell d) 0 i ∗ barPay d i)
      ⊢ iprop((owes (c : Thread nD τ) O W -∗ wp frame (wpE defs 𝒱 (c : Thread nD τ) none) Set.univ (k ⟨⟩) Q)
          -∗ wp frame (wpE defs 𝒱 (c : Thread nD τ) none) Set.univ (.op (.semSignal (d : Thread nD τ) barS (wts i)) k) Q) := by
  iintro ⟨Hg, HL, Ht, Hp⟩ Hk
  iapply (wp_semSignal 𝒱 (c : Thread nD τ) none Set.univ () O hO) $$ HL [Hg Ht Hp]
  · rw [landingUpdate_def]
    iintro -
    iapply (bar_raise κ d i)
    isplitl [Hg]; · iexact Hg
    isplitl [Ht] <;> iassumption
  iexact Hk

/-- What wait `n` consumes: the owner moves from stage `n` to stage `n + 1` and takes the new signals' payloads. -/
theorem bar_lower (κ : ℕ) (c : Dev nD) (n : Fin 3) {K' : PUnit → sProp 𝕄} :
    iprop(barInv κ c ∗ atPos ER (barCell c) 0 (stage n.castSucc) (wt (stage n.castSucc))
        ∗ ((atPos ER (barCell c) 0 (stage n.succ) (wt (stage n.succ)) ∗ bigSep (stage n.succ \ stage n.castSucc) fun i => barPay c i) -∗ K' ⟨⟩))
      ⊢ atomically frame Set.univ (lowerSpec (barCell c) (wamt n)) K' := by
  iintro ⟨Hg, Hat, Hk⟩
  imod (inv_acc (Set.mem_univ κ)) $$ Hg with ⟨Hb, Hclose⟩
  unfold barBody
  icases Hb with (Ho | Hs)
  rotate_left
  · unfold barShut
    icases Hs with ⟨⟨%T, %m, Hat'⟩, -⟩
    iexfalso
    iapply (atPos_atPos_false ER)
    isplitl [Hat] <;> iassumption
  unfold barOpen
  icases Ho with ⟨%v, %T, %m, %A, Hv, Ha, %hf, HT, HA⟩
  ihave H := (persistent_entails_right (roundAuth_atPos_agree ER)) $$ [Ha Hat]
  · isplitl [Ha] <;> iassumption
  icases H with ⟨%he, Ha, Hat⟩
  obtain ⟨-, rfl, rfl⟩ := he
  imodintro
  iapply lowerSpec_intro $$ Hv
  iintro %hle Hv
  have hsub : stage n.succ ⊆ stage n.castSucc ∪ A := stage_forced n _ Finset.subset_union_left (by
    rw [wt_union hf.1.symm]; have := hf.2; have := stage_wt n; omega)
  have hnew : stage n.succ \ stage n.castSucc ⊆ A := fun x hx => by
    rcases Finset.mem_sdiff.mp hx with ⟨h1, h2⟩
    exact (Finset.mem_union.mp (hsub h1)).resolve_left h2
  have hdis : Disjoint (A \ stage n.succ) (stage n.succ) := Finset.sdiff_disjoint
  have hA : A \ (stage n.succ \ stage n.castSucc) = A \ stage n.succ := by
    ext x
    simp only [Finset.mem_sdiff, not_and, not_not]
    constructor
    · rintro ⟨h1, h2⟩
      exact ⟨h1, fun h3 => Finset.disjoint_left.mp hf.1 h1 (h2 h3)⟩
    · rintro ⟨h1, h2⟩
      exact ⟨h1, fun h3 => absurd h3 h2⟩
  have hT : stage n.succ = stage n.castSucc ∪ (stage n.succ \ stage n.castSucc) := (Finset.union_sdiff_of_subset (stage_mono n)).symm
  have hwA : wt A = wt (stage n.succ \ stage n.castSucc) + wt (A \ stage n.succ) := by
    rw [← hA, ← wt_union Finset.disjoint_sdiff, Finset.union_sdiff_of_subset hnew]
  have hwT : wt (stage n.succ) = wt (stage n.castSucc) + wt (stage n.succ \ stage n.castSucc) := by
    conv_lhs => rw [hT]
    exact wt_union Finset.disjoint_sdiff
  ihave H := (roundAuth_atPos_move ER 0 (stage n.succ) (wt (stage n.succ)) le_rfl) $$ [Ha Hat]
  · isplitl [Ha] <;> iassumption
  imod H with ⟨Ha, Hat⟩
  ihave HA := (Entails.of_eq (show (bigSep A fun i => iprop(dutyTok ER (barCell c) 0 i ∗ barPay (F := F) c i))
      = iprop((bigSep (stage n.succ \ stage n.castSucc) fun i => iprop(dutyTok ER (barCell c) 0 i ∗ barPay c i))
        ∗ bigSep (A \ stage n.succ) fun i => iprop(dutyTok ER (barCell c) 0 i ∗ barPay c i)) by
        rw [← hA]; exact fam_split hnew _)) $$ HA
  icases HA with ⟨Hnew, HA⟩
  ihave Hnew := (Entails.of_eq (bigSep_sep' (stage n.succ \ stage n.castSucc) (fun i => dutyTok ER (barCell c) 0 i) (fun i => barPay (F := F) c i))) $$ Hnew
  icases Hnew with ⟨Hnt, Hnp⟩
  ihave Hc := Hclose $$ [Hv Ha HT HA Hnt]
  · ileft
    iexists (v - wamt n); iexists (stage n.succ); iexists (wt (stage n.succ)); iexists (A \ stage n.succ)
    isplitl [Hv]; · iexact Hv
    isplitl [Ha]; · iexact Ha
    isplitr
    · ipureintro
      refine ⟨hdis, ?_⟩
      have := hf.2; have := stage_wt n; omega
    isplitl [HT Hnt]
    · iapply (Entails.of_eq (show iprop((bigSep (stage n.castSucc) fun i => dutyTok ER (barCell c) 0 i)
          ∗ bigSep (stage n.succ \ stage n.castSucc) fun i => dutyTok ER (barCell c) 0 i)
        = (bigSep (stage n.succ) fun i => dutyTok ER (barCell c) 0 i : sProp 𝕄) by
          conv_rhs => rw [hT]
          exact (fam_union Finset.disjoint_sdiff _).symm))
      isplitl [HT] <;> iassumption
    iexact HA
  imod Hc
  imodintro
  iapply Hk
  isplitl [Hat] <;> iassumption

/-- The wait, at the head of a program. -/
theorem bar_wait (𝒱 : Variants) (c : Dev nD) (n : Fin 3) (κ : ℕ) {α : Type} {Q : α → sProp 𝕄} {k : PUnit → Prog (TpuEff nD τ sig (Elt F) Λ₀ .tc) α}
    {defs : Defs nD τ sig (Elt F) Λ₀} (O : CellTallies nD τ sig Unit) (W : Waits sig Unit) :
    iprop(barInv κ c ∗ cred (tallyAt (barCell c) () (wamt n)) ∗ owes (c : Thread nD τ) O W ∗ MayWait (c : Thread nD τ) (.reg barS) () O
        ∗ atPos ER (barCell c) 0 (stage n.castSucc) (wt (stage n.castSucc)))
      ⊢ iprop(((∃ W', owes (c : Thread nD τ) O W') ∗ atPos ER (barCell c) 0 (stage n.succ) (wt (stage n.succ))
            ∗ (bigSep (stage n.succ \ stage n.castSucc) fun i => barPay c i)
            -∗ wp frame (wpE defs 𝒱 (c : Thread nD τ) none) Set.univ (k ⟨⟩) Q)
          -∗ wp frame (wpE defs 𝒱 (c : Thread nD τ) none) Set.univ (.op (.semWait barS (wamt n)) k) Q) := by
  iintro ⟨Hg, Hc, HL, Hlev, Hat⟩ Hk
  iapply (Idealize.ShloMosaic.wp_wait 𝒱 (c : Thread nD τ) none Set.univ (wpE_semWait_eq 𝒱 (c : Thread nD τ) none Set.univ)
    (κ := Finsupp.single () (wamt n)) {((.reg barS : SemLoc sig), ())} (by simp [Util.total]) (by
      intro p hp
      rcases Finset.mem_image.mp hp with ⟨u, -, rfl⟩
      exact Finset.mem_singleton_self _)) $$ [Hc HL Hlev]
  · isplitl [Hc]; · iexact Hc
    isplitl [HL] <;> iassumption
  iapply (bar_lower κ c n)
  isplitl [Hg]; · iexact Hg
  isplitl [Hat]; · iexact Hat
  iintro ⟨Hat, Hp⟩ HL
  iapply Hk
  isplitl [HL]; · iexists _; iexact HL
  isplitl [Hat] <;> iassumption

/-- After the last wait the owner leaves its position and takes the counter, at zero. -/
theorem bar_close (κ : ℕ) (c : Dev nD) :
    iprop(barInv κ c ∗ atPos ER (barCell c) 0 (stage (Fin.last 3)) (wt (stage (Fin.last 3)))) ⊢ (iprop(|={Set.univ}=> semVal (barCell c) 0) : sProp 𝕄) := by
  iintro ⟨Hg, Hat⟩
  imod (inv_acc (Set.mem_univ κ)) $$ Hg with ⟨Hb, Hclose⟩
  unfold barBody
  icases Hb with (Ho | Hs)
  rotate_left
  · unfold barShut
    icases Hs with ⟨⟨%T, %m, Hat'⟩, -⟩
    iexfalso
    iapply (atPos_atPos_false ER)
    isplitl [Hat] <;> iassumption
  unfold barOpen
  icases Ho with ⟨%v, %T, %m, %A, Hv, Ha, %hf, HT, HA⟩
  ihave H := (persistent_entails_right (roundAuth_atPos_agree ER)) $$ [Ha Hat]
  · isplitl [Ha] <;> iassumption
  icases H with ⟨%he, Ha, Hat⟩
  obtain ⟨-, rfl, rfl⟩ := he
  have hA : A = ∅ := stage_last A hf.1
  have hv : v = 0 := by have h := hf.2; rw [hA] at h; have : wt ∅ = 0 := rfl; omega
  rw [hv]
  ihave Hc := Hclose $$ [Hat HT]
  · iright
    unfold barShut
    isplitl [Hat]
    · iexists _; iexists _; iexact Hat
    iexact HT
  imod Hc
  imodintro
  iexact Hv

/-- The cell at launch. -/
theorem bar_intro (c : Dev nD) :
    iprop(semVal (barCell c) 0 ∗ roundAuth ER (barCell c) 0 ∅ 0) ⊢ (barBody c : sProp 𝕄) := by
  unfold barBody barOpen
  iintro ⟨Hv, Ha⟩
  ileft
  iexists 0; iexists ∅; iexists 0; iexists ∅
  isplitl [Hv]; · iexact Hv
  isplitl [Ha]; · iexact Ha
  isplitr; · ipureintro; exact ⟨Finset.disjoint_empty_left _, rfl⟩
  rw [bigSep_empty, bigSep_empty]
  isplitr <;> iempintro

end Cert.Mlp

end
-- ==== Proof.Sched.lean ====
/-
# The schedule of the transfers

Which duty each transfer semaphore carries, what its payment hands over, and the order of levels that makes every wait safe.

The reduce-scatter writes into other devices' buffers, so a device must come to hold, before it sends, the rows it is going
to write on every other device.  At the start every device holds its own buffer; the right to device `j`'s row group `c`
travels from `j` to `c` along the first all-reduce's exchanges, in three hops.
-/
module

public import proofs.«01_k».proof.Proof.BarCell

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

/-! ## Index sets -/

/-- The indices from `n` on, the ones below `n`, and those between. -/
def since {m : ℕ} (n : ℕ) : Finset (Fin m) := Finset.univ.filter fun i => n ≤ i.val
def upto {m : ℕ} (n : ℕ) : Finset (Fin m) := Finset.univ.filter fun i => i.val < n
def mid {m : ℕ} (a b : ℕ) : Finset (Fin m) := Finset.univ.filter fun i => a ≤ i.val ∧ i.val < b

section Index
variable {m : ℕ}
theorem mem_since {n : ℕ} {i : Fin m} : i ∈ (since n : Finset (Fin m)) ↔ n ≤ i.val := by simp [since]
theorem mem_upto {n : ℕ} {i : Fin m} : i ∈ (upto n : Finset (Fin m)) ↔ i.val < n := by simp [upto]
theorem mem_mid {a b : ℕ} {i : Fin m} : i ∈ (mid a b : Finset (Fin m)) ↔ a ≤ i.val ∧ i.val < b := by simp [mid]
theorem since_zero : (since 0 : Finset (Fin m)) = Finset.univ := by ext i; simp [since]
theorem since_all {n : ℕ} (h : m ≤ n) : (since n : Finset (Fin m)) = ∅ := by ext i; simp [since]; omega
theorem upto_zero : (upto 0 : Finset (Fin m)) = ∅ := by ext i; simp [upto]
theorem upto_all {n : ℕ} (h : m ≤ n) : (upto n : Finset (Fin m)) = Finset.univ := by ext i; simp [upto]; omega
theorem since_step (i : Fin m) : (since i.val : Finset (Fin m)) = insert i (since (i.val + 1)) := by
  ext x; simp only [mem_since, Finset.mem_insert, Fin.ext_iff]; omega
theorem since_new (i : Fin m) : i ∉ (since (i.val + 1) : Finset (Fin m)) := by simp [since]
theorem upto_step (i : Fin m) : (upto (i.val + 1) : Finset (Fin m)) = insert i (upto i.val) := by
  ext x; simp only [mem_upto, Finset.mem_insert, Fin.ext_iff]; omega
theorem upto_new (i : Fin m) : i ∉ (upto i.val : Finset (Fin m)) := by simp [upto]
theorem mid_push {a : ℕ} (i : Fin m) (h : a ≤ i.val) : (mid a (i.val + 1) : Finset (Fin m)) = insert i (mid a i.val) := by
  ext x; simp only [mem_mid, Finset.mem_insert, Fin.ext_iff]; omega
theorem mid_pop {b : ℕ} (i : Fin m) (h : i.val < b) : (mid i.val b : Finset (Fin m)) = insert i (mid (i.val + 1) b) := by
  ext x; simp only [mem_mid, Finset.mem_insert, Fin.ext_iff]; omega
theorem mid_new_top {a : ℕ} (i : Fin m) : i ∉ (mid a i.val : Finset (Fin m)) := by simp [mid]
theorem mid_new_bot {b : ℕ} (i : Fin m) : i ∉ (mid (i.val + 1) b : Finset (Fin m)) := by simp [mid]
theorem mid_nil {a b : ℕ} (h : b ≤ a) : (mid a b : Finset (Fin m)) = ∅ := by ext i; simp [mid]; omega
end Index

/-! ## The way of a row group's right -/

/-- The exchange a right over device `j`'s rows, due at device `c`, takes in phase `p`, if any. -/
def leg (p : ℕ) (jc : Dev nD × Dev nD) : Option (Fin 7) :=
  let d := jc.1.val ^^^ jc.2.val
  match p with
  | 0 => if d % 8 = 0 ∨ d % 8 = 3 ∨ d % 8 = 4 ∨ d % 8 = 7 then none else some 0
  | 1 => if d % 8 = 0 ∨ d % 8 = 1 then none else if d % 8 = 7 ∨ d % 8 = 6 then some 1 else if d % 8 = 4 ∨ d % 8 = 5 then some 2 else some 3
  | 2 => if d / 8 = 0 then none else if d / 8 = 3 then some 4 else if d / 8 = 2 then some 5 else some 6
  | _ => none

def hop (o : Option (Fin 7)) (c : Dev nD) : Dev nD := match o with | none => c | some i => par i c

theorem hop_hop (o : Option (Fin 7)) (c : Dev nD) : hop o (hop o c) = c := by
  cases o
  · rfl
  · exact par_par _ _

/-- Where the right is when phase `p` begins. -/
def atDev : ℕ → Dev nD × Dev nD → Dev nD
  | 0, jc => jc.1
  | p + 1, jc => hop (leg p jc) (atDev p jc)

/-- After three phases it is where it is due. -/
theorem atDev_end (jc : Dev nD × Dev nD) : atDev 3 jc = jc.2 := by
  obtain ⟨j, c⟩ := jc; revert j c; decide +kernel

/-- The exchanges of phase `p` that carry rights. -/
def phs (p : ℕ) : Finset (Fin 7) := Finset.univ.filter fun i => (ph ⟨i.val, by omega⟩).val = p

theorem leg_phs (p : ℕ) (jc : Dev nD × Dev nD) (i : Fin 7) (h : leg p jc = some i) : i ∈ phs p := by
  rcases p with _ | _ | _ | p <;> simp only [leg] at h
  · split_ifs at h; injection h with h; subst h; decide
  · split_ifs at h <;> (injection h with h; subst h; decide)
  · split_ifs at h <;> (injection h with h; subst h; decide)
  · cases h

/-- The rights device `s` holds when phase `p` begins, and those that leave it (or stay) by way `o`. -/
def held (p : ℕ) (s : Dev nD) : Finset (Dev nD × Dev nD) := Finset.univ.filter fun jc => atDev p jc = s
def lane (p : ℕ) (s : Dev nD) (o : Option (Fin 7)) : Finset (Dev nD × Dev nD) := (held p s).filter fun jc => leg p jc = o

theorem mem_held {p : ℕ} {s : Dev nD} {jc : Dev nD × Dev nD} : jc ∈ held p s ↔ atDev p jc = s := by simp [held]
theorem mem_lane {p : ℕ} {s : Dev nD} {o : Option (Fin 7)} {jc : Dev nD × Dev nD} : jc ∈ lane p s o ↔ atDev p jc = s ∧ leg p jc = o := by
  unfold lane; rw [Finset.mem_filter, mem_held]

theorem lane_next (p : ℕ) (c : Dev nD) (o : Option (Fin 7)) : ((held (p + 1) c).filter fun jc => leg p jc = o) = lane p (hop o c) o := by
  ext jc
  rw [Finset.mem_filter, mem_held, mem_lane]
  show hop (leg p jc) (atDev p jc) = c ∧ _ ↔ _
  constructor
  · rintro ⟨h, rfl⟩; exact ⟨by rw [← h, hop_hop], rfl⟩
  · rintro ⟨h, rfl⟩; exact ⟨by rw [h, hop_hop], rfl⟩

theorem lane_other (p : ℕ) (s : Dev nD) (i : Fin 7) (h : i ∉ phs p) : lane p s (some i) = ∅ := by
  ext jc
  rw [mem_lane]
  simp only [Finset.notMem_empty, iff_false, not_and]
  exact fun _ hl => h (leg_phs p jc i hl)

section Rights
omit [FloatOps F]

abbrev right (jc : Dev nD × Dev nD) : sProp 𝕄 := gRowAny jc.1 jc.2
/-- The rights exchange `i` carries away from device `s`. -/
def load7 (s : Dev nD) (i : Fin 7) : sProp 𝕄 := bigSep (lane (ph ⟨i.val, by omega⟩).val s (some i)) right
/-- The rights exchange `k` carries away from device `s`: only the first all-reduce's exchanges carry any. -/
def load14 (s : Dev nD) (k : Fin 14) : sProp 𝕄 := if h : k.val < 7 then load7 s ⟨k.val, h⟩ else iprop(emp)
/-- In phase `p`: the rights that stay, those still to be sent by the exchanges of `S`, those received by the exchanges of `T`. -/
def Rights (c : Dev nD) (p : ℕ) (S T : Finset (Fin 7)) : sProp 𝕄 :=
  iprop(bigSep (lane p c none) right ∗ (bigSep S fun i => load7 c i) ∗ bigSep T fun i => load7 (par i c) i)

instance load14_storable (s : Dev nD) (k : Fin 14) : BI.Storable (upEmb : UEmb _ 𝕄) (load14 (F := F) s k) := by
  unfold load14 load7; split <;> infer_instance

theorem sep_emp_eq (A : sProp 𝕄) : iprop(A ∗ emp) = A := equiv_iff.mp sep_emp
theorem emp_sep_eq (A : sProp 𝕄) : iprop(emp ∗ A) = A := equiv_iff.mp emp_sep

theorem bigSep_option (Φ : Option (Fin 7) → sProp 𝕄) : bigSep Finset.univ Φ = iprop(Φ none ∗ bigSep Finset.univ fun i => Φ (some i)) := by
  rw [fam_take (Finset.mem_univ none) Φ]
  congr 1

theorem phs_only (p : ℕ) (Φ : Fin 7 → sProp 𝕄) (h : ∀ i, i ∉ phs p → Φ i = iprop(emp)) : bigSep Finset.univ Φ = bigSep (phs p) Φ := by
  rw [fam_split (Finset.subset_univ (phs p)) Φ, bigSep_congr (s := Finset.univ \ phs p) (Ψ := fun _ => BI.emp) (fun i hi => h i (Finset.mem_sdiff.mp hi).2), bigSep_emp_const]
  exact sep_emp_eq _

theorem load7_eq (p : ℕ) (s : Dev nD) (i : Fin 7) (h : i ∈ phs p) : (load7 s i : sProp 𝕄) = bigSep (lane p s (some i)) right := by
  unfold load7; rw [(Finset.mem_filter.mp h).2]

theorem rights_begin (c : Dev nD) (p : ℕ) : (bigSep (held p c) right : sProp 𝕄) = Rights c p (phs p) ∅ := by
  rw [fam_deal (held p c) (leg p) right, bigSep_option, phs_only p _ fun i hi => by
    show bigSep (lane p c (some i)) right = _; rw [lane_other p c i hi]; rfl]
  unfold Rights
  rw [fam_nil, sep_emp_eq, bigSep_congr (s := phs p) (fun i hi => load7_eq p c i hi)]
  rfl

theorem rights_end (c : Dev nD) (p : ℕ) : (Rights c p ∅ (phs p) : sProp 𝕄) = bigSep (held (p + 1) c) right := by
  rw [fam_deal (held (p + 1) c) (leg p) right, bigSep_option, phs_only p _ fun i hi => by
    rw [lane_next, lane_other p _ i hi]; rfl, lane_next]
  unfold Rights
  rw [fam_nil, emp_sep_eq, bigSep_congr (s := phs p) (fun i hi => load7_eq p (par i c) i hi)]
  congr 1
  exact bigSep_congr fun i _ => by rw [lane_next]; rfl

/-- One phase's rights become the next's. -/
theorem rights_next (c : Dev nD) (p : ℕ) : (Rights c p ∅ (phs p) : sProp 𝕄) = Rights c (p + 1) (phs (p + 1)) ∅ := by
  rw [rights_end, rights_begin]

theorem held_zero (c : Dev nD) : (bigSep (held 0 c) right : sProp 𝕄) = bigSep Finset.univ fun j : Dev nD => gRowAny c j := by
  rw [show held 0 c = (Finset.univ : Finset (Dev nD)).map ⟨fun j => (c, j), fun _ _ h => (Prod.mk.inj h).2⟩ from by
    ext ⟨a, b⟩; rw [mem_held, Finset.mem_map]
    exact ⟨fun h => ⟨b, Finset.mem_univ b, Prod.ext h.symm rfl⟩, fun ⟨_, _, h⟩ => (congrArg Prod.fst h).symm⟩, bigSep_map]
  rfl
theorem held_three (c : Dev nD) : (bigSep (held 3 c) right : sProp 𝕄) = bigSep Finset.univ fun j : Dev nD => gRowAny j c := by
  rw [show held 3 c = (Finset.univ : Finset (Dev nD)).map ⟨fun j => (j, c), fun _ _ h => (Prod.mk.inj h).1⟩ from by
    ext ⟨a, b⟩; rw [mem_held, Finset.mem_map, atDev_end]
    exact ⟨fun h => ⟨a, Finset.mem_univ a, Prod.ext rfl h.symm⟩, fun ⟨_, _, h⟩ => (congrArg Prod.snd h).symm⟩, bigSep_map]
  rfl

end Rights

/-! ## The schedule -/

section Schedule
variable (I : Dev nD → Ins F)

/-- What the payment of device `c`'s semaphore `i` hands over. -/
def pay (c : Dev nD) : DK → sProp 𝕄
  | .snd k => accPts (ph k) c (qs (ord k)) (P I (ph k) c)
  | .rcv k => iprop(slotPts c k (P I (ph k) (peer k c)) ∗ load14 (peer k c) k)
  | .snd2 j => aRowPts c j (FA I c)
  | .rcv2 s => gRowPts c s (R2 I c)

instance pay_storable (c : Dev nD) (i : DK) : BI.Storable (upEmb : UEmb _ 𝕄) (pay I c i) := by
  cases i <;> (unfold pay; infer_instance)

/-- A device sends itself nothing in the reduce-scatter. -/
def act (c : Dev nD) : DK → Prop
  | .snd2 j => j ≠ c
  | .rcv2 s => s ≠ c
  | _ => True
instance (c : Dev nD) (i : DK) : Decidable (act c i) := by cases i <;> (unfold act; infer_instance)

def amt : DK → ℕ
  | .snd _ => N | .rcv _ => N | .snd2 _ => N2 | .rcv2 _ => N2
theorem amt_pos (i : DK) : 0 < amt i := by cases i <;> first | exact N_pos | exact N2_pos

/-- The semaphore carries a payment at round 0. -/
def used (g : GSem nD τ sig) : Prop := g.1.2 = .tc ∧ ∃ i, kindOf g.2 = some i ∧ act g.1.1 i

open Classical in
def Rd : Schedule (GSem nD τ sig) (Fin 7) 𝕄 where
  duties g r := if r = 0 ∧ used g then {0} else ∅
  amount g _ _ := match kindOf g.2 with | some i => amt i | none => 1
  payload g _ _ := match kindOf g.2 with | some i => pay I g.1.1 i | none => iprop(emp)
  amount_pos g _ _ _ := by
    split
    · exact amt_pos _
    · exact Nat.one_pos
  unitless := fun _ => False

instance Rd_payload_storable (g : GSem nD τ sig) (r : ℕ) (d : Fin 7) : BI.Storable (upEmb : UEmb _ 𝕄) ((Rd I).payload g r d) := by
  show BI.Storable upEmb (match kindOf g.2 with | some i => pay I g.1.1 i | none => iprop(emp))
  split <;> infer_instance

theorem duties_used (c : Dev nD) (i : DK) (h : act c i) : (Rd I).duties (dcell c i) 0 = {0} := by
  dsimp only [Rd]; exact if_pos ⟨rfl, rfl, i, kindOf_dsem i, h⟩
theorem duties_idle (c : Dev nD) (i : DK) (h : ¬ act c i) (r : ℕ) : (Rd I).duties (dcell c i) r = ∅ := by
  dsimp only [Rd]
  refine if_neg ?_
  rintro ⟨-, -, i', hi, ha⟩
  have : i = i' := Option.some.inj ((kindOf_dsem i).symm.trans hi)
  exact h (this ▸ ha)
theorem duties_later (g : GSem nD τ sig) : ∀ r, 1 ≤ r → (Rd I).duties g r = ∅ :=
  fun r hr => by dsimp only [Rd]; exact if_neg fun h => by omega
theorem amount_at (c : Dev nD) (i : DK) (d : Fin 7) : (Rd I).amount (dcell c i) 0 d = amt i := by
  dsimp only [Rd]; rw [kindOf_dsem]
theorem payload_at (c : Dev nD) (i : DK) (d : Fin 7) : (Rd I).payload (dcell c i) 0 d = pay I c i := by
  dsimp only [Rd]; rw [kindOf_dsem]
theorem expect_at (c : Dev nD) (i : DK) (h : act c i) : (Rd I).expect (dcell c i) 0 = amt i := by
  unfold Schedule.expect Schedule.amountOf; rw [duties_used I c i h, Finset.sum_singleton, amount_at]
theorem rest_at (c : Dev nD) (i : DK) (h : act c i) :
    bigSep ((Rd I).duties (dcell c i) 0 \ ∅) (fun d => (Rd I).payload (dcell c i) 0 d) = pay I c i := by
  rw [Finset.sdiff_empty, duties_used I c i h, bigSep_singleton, payload_at]

end Schedule

/-! ## What a device owes, and the levels -/

/-- From signal `m`, exchange `n` and block `b` on. -/
def Ow (c : Dev nD) (m n b : ℕ) : CellTallies nD τ sig Unit :=
  (∑ i ∈ (since m : Finset (Fin 7)), tallyAt (barCell (par i c)) () (wts i))
    + (∑ k ∈ (since n : Finset (Fin 14)), tallyAt (dcell (peer k c) (.rcv k)) () N)
    + ∑ j ∈ (since b : Finset (Fin 32)).erase c, tallyAt (dcell j (.rcv2 c)) () N2

theorem Ow_signal (c : Dev nD) (i : Fin 7) (n b : ℕ) : Ow c i.val n b = Ow c (i.val + 1) n b + tallyAt (barCell (par i c)) () (wts i) := by
  unfold Ow; rw [since_step, Finset.sum_insert (since_new i)]; ac_rfl
theorem Ow_send (c : Dev nD) (m : ℕ) (k : Fin 14) (b : ℕ) : Ow c m k.val b = Ow c m (k.val + 1) b + tallyAt (dcell (peer k c) (.rcv k)) () N := by
  unfold Ow; rw [since_step, Finset.sum_insert (since_new k)]; ac_rfl
theorem Ow_block (c : Dev nD) (m n : ℕ) (j : Fin 32) (h : j ≠ c) : Ow c m n j.val = Ow c m n (j.val + 1) + tallyAt (dcell j (.rcv2 c)) () N2 := by
  unfold Ow
  rw [since_step, Finset.erase_insert_of_ne h, Finset.sum_insert (fun hm => since_new j (Finset.mem_of_mem_erase hm))]; ac_rfl
theorem Ow_skip (c : Dev nD) (m n : ℕ) : Ow c m n c.val = Ow c m n (c.val + 1) := by
  unfold Ow
  rw [since_step (m := 32) c, Finset.erase_insert_eq_erase]
theorem Ow_done (c : Dev nD) : Ow c 7 14 32 = 0 := by
  unfold Ow
  rw [since_all le_rfl, since_all le_rfl, since_all le_rfl, Finset.sum_empty, Finset.sum_empty, Finset.erase_empty, Finset.sum_empty, add_zero, add_zero]

def L (g : GSem nD τ sig) : Finset Unit := if g.1.2 = .tc then {()} else ∅
/-- Barrier cells below the receive cells, in order of their phases, below the reduce-scatter's; every other at the bottom. -/
def lv (g : GSem nD τ sig) (_ : Unit) : ℕ := match g.2 with
  | .reg _ => 1
  | .dma q => match dkOf q.val with
    | some (.rcv k) => 2 + (ph k).val
    | some (.rcv2 _) => 8
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_dk (c : Dev nD) (i : DK) : lv (dcell c i) () = match i with | .rcv k => 2 + (ph k).val | .rcv2 _ => 8 | _ => 0 := by
  dsimp only [lv]
  rw [dsem_val, dkOf_dnum]
  cases i <;> rfl

theorem pos_of_sum {A : Type} [DecidableEq A] (S : Finset A) (f : A → CellTallies nD τ sig Unit) (g : GSem nD τ sig) (u : Unit)
    (h : 0 < (∑ a ∈ S, f a) g u) : ∃ a ∈ S, 0 < f a g u := by
  induction S using Finset.induction_on with
  | empty => exact absurd h (Nat.lt_irrefl 0)
  | insert a S ha ih =>
    rw [Finset.sum_insert ha, Pi.add_apply, Finsupp.add_apply] at h
    rcases Nat.eq_zero_or_pos (f a g u) with h0 | h0
    · rw [h0, Nat.zero_add] at h
      obtain ⟨b, hb, hp⟩ := ih h
      exact ⟨b, Finset.mem_insert_of_mem hb, hp⟩
    · exact ⟨a, Finset.mem_insert_self a S, h0⟩

theorem eq_of_tally {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

theorem Ow_pos {c : Dev nD} {m n b : ℕ} {g : GSem nD τ sig} {u : Unit} (h : 0 < Ow c m n b g u) :
    (∃ i : Fin 7, m ≤ i.val ∧ g = barCell (par i c)) ∨ (∃ k : Fin 14, n ≤ k.val ∧ g = dcell (peer k c) (.rcv k)) ∨ ∃ j : Fin 32, g = dcell j (.rcv2 c) := by
  unfold Ow at h
  rw [Pi.add_apply, Finsupp.add_apply, Pi.add_apply, Finsupp.add_apply] at h
  rcases Nat.eq_zero_or_pos ((∑ i ∈ (since m : Finset (Fin 7)), tallyAt (barCell (par i c)) () (wts i) : CellTallies nD τ sig Unit) g u) with h1 | h1
  · rcases Nat.eq_zero_or_pos ((∑ k ∈ (since n : Finset (Fin 14)), tallyAt (dcell (peer k c) (.rcv k)) () N : CellTallies nD τ sig Unit) g u) with h2 | h2
    · rw [h1, h2, Nat.zero_add] at h
      obtain ⟨j, -, hp⟩ := pos_of_sum _ _ g u h
      exact .inr (.inr ⟨j, eq_of_tally hp⟩)
    · obtain ⟨k, hk, hp⟩ := pos_of_sum _ _ g u h2
      exact .inr (.inl ⟨k, mem_since.mp hk, eq_of_tally hp⟩)
  · obtain ⟨i, hi, hp⟩ := pos_of_sum _ _ g u h1
    exact .inl ⟨i, mem_since.mp hi, eq_of_tally hp⟩

section Levels
omit [FloatOps F]

theorem mayWait_cut (c : Dev nD) (sm : SemLoc sig) (cut : ℕ) (hs : lv ((c : Thread nD τ), sm) () ≤ cut) (m n b : ℕ)
    (hm : 7 ≤ m ∨ cut < 1) (hn : ∀ k : Fin 14, n ≤ k.val → cut < 2 + (ph k).val) (hb : cut < 8) :
    (levAts L lv : sProp 𝕄) ⊢ MayWait (c : Thread nD τ) sm () (Ow c m n b) := by
  refine MayOwe.of_cut (L := L) (lev := lv) cut (fun p hp => by rw [Finset.mem_singleton.mp hp, L_tc]; exact Finset.mem_singleton_self _)
    (fun g u hg => by rcases Ow_pos hg with ⟨i, -, rfl⟩ | ⟨k, -, rfl⟩ | ⟨j, rfl⟩ <;> exact Finset.mem_singleton_self _)
    (fun p hp => by rw [Finset.mem_singleton.mp hp]; exact hs)
    (fun g u hg => by
      cases u
      rcases Ow_pos hg with ⟨i, hi, rfl⟩ | ⟨k, hk, rfl⟩ | ⟨j, rfl⟩
      · rw [lv_bar]; rcases hm with hm | hm
        · have := i.isLt; omega
        · exact hm
      · rw [lv_dk]; exact hn k hk
      · rw [lv_dk]; exact hb)

end Levels

end Cert.Mlp

end
-- ==== Proof.Steps.lean ====
/-
# One device's part of the exchanges

What a device holds between two operations of the two all-reduces, and the rule of each operation on it.
-/
module

public import proofs.«01_k».proof.Proof.Sched

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

/-! ## Families indexed by the exchanges -/

section Families
omit [FloatOps F]

/-- One member of a family is exchanged for another. -/
theorem fam_turn {A : Type} [DecidableEq A] {S : Finset A} {Φ Ψ : A → sProp 𝕄} (a : A) (ha : a ∈ S) (h : ∀ x ∈ S, x ≠ a → Φ x = Ψ x) :
    bigSep S Φ ⊢ iprop(Φ a ∗ (Ψ a -∗ bigSep S Ψ)) := by
  rw [fam_take ha Φ, fam_take ha Ψ, bigSep_congr (s := S.erase a) (fun x hx => h x (Finset.mem_of_mem_erase hx) (Finset.ne_of_mem_erase hx))]
  iintro ⟨H, Hr⟩
  isplitl [H]; · iexact H
  iintro H
  isplitl [H] <;> iassumption

/-- A family with something done to one member and nothing to the rest. -/
theorem fam_look {A : Type} [DecidableEq A] {S : Finset A} {Φ : A → sProp 𝕄} (a : A) (ha : a ∈ S) :
    bigSep S Φ ⊢ iprop(Φ a ∗ (Φ a -∗ bigSep S Φ)) := fam_turn a ha fun _ _ _ => rfl

end Families

/-! ## What every device shares -/

section Steps
variable (I : Dev nD → Ins F) (K : Dev nD × DK → ℕ) (κ : Dev nD → ℕ)

/-- The levels of all cells. -/
@[irreducible] def Lev : sProp 𝕄 := levAts L lv
instance Lev_persistent : BI.Persistent (Lev (F := F)) := by unfold Lev; infer_instance
theorem lev_wait (c : Dev nD) (sm : SemLoc sig) (cut : ℕ) (hs : lv ((c : Thread nD τ), sm) () ≤ cut) (m n b : ℕ)
    (hm : 7 ≤ m ∨ cut < 1) (hn : ∀ k : Fin 14, n ≤ k.val → cut < 2 + (ph k).val) (hb : cut < 8) :
    (Lev : sProp 𝕄) ⊢ MayWait (c : Thread nD τ) sm () (Ow c m n b) := by
  unfold Lev; exact mayWait_cut c sm cut hs m n b hm hn hb

/-- The invariants of all cells, that all are at round 0, and the levels. -/
def Ctx : sProp 𝕄 :=
  iprop((bigSep Finset.univ fun p : Dev nD × DK => cellInv ER (Rd I) (K p) (dcell p.1 p.2))
    ∗ (bigSep Finset.univ fun p : Dev nD × DK => reached ER (dcell p.1 p.2) 0)
    ∗ (bigSep Finset.univ fun c : Dev nD => barInv (κ c) c) ∗ Lev)

instance Ctx_persistent : BI.Persistent (Ctx I K κ) := by unfold Ctx; infer_instance

theorem ctx_inv (c : Dev nD) (i : DK) : Ctx I K κ ⊢ (cellInv ER (Rd I) (K (c, i)) (dcell c i) : sProp 𝕄) := by
  unfold Ctx
  iintro ⟨H, -, -, -⟩
  iapply (fam_get (Finset.mem_univ (c, i)) fun p : Dev nD × DK => (cellInv ER (Rd I) (K p) (dcell p.1 p.2) : sProp 𝕄))
  iexact H
theorem ctx_reached (c : Dev nD) (i : DK) : Ctx I K κ ⊢ (reached ER (dcell c i) 0 : sProp 𝕄) := by
  unfold Ctx
  iintro ⟨-, H, -, -⟩
  iapply (fam_get (Finset.mem_univ (c, i)) fun p : Dev nD × DK => (reached ER (dcell p.1 p.2) 0 : sProp 𝕄))
  iexact H
theorem ctx_bar (c : Dev nD) : Ctx I K κ ⊢ (barInv (κ c) c : sProp 𝕄) := by
  unfold Ctx
  iintro ⟨-, -, H, -⟩
  iapply (fam_get (Finset.mem_univ c) fun c : Dev nD => (barInv (κ c) c : sProp 𝕄))
  iexact H
theorem ctx_lev : Ctx I K κ ⊢ (Lev : sProp 𝕄) := by
  unfold Ctx
  iintro ⟨-, -, -, H⟩
  iexact H

/-! ## One device's part of the exchanges -/

/-- The sending side of exchange `k`, with `ns` exchanges sent and `nw` of them waited for. -/
def exS (c : Dev nD) (ns nw : ℕ) (k : Fin 14) : sProp 𝕄 :=
  if k.val < nw then semVal (dcell c (.snd k)) 0
  else if k.val < ns then iprop(atPos ER (dcell c (.snd k)) 0 ∅ 0 ∗ cred (tallyAt (dcell c (.snd k)) () N))
  else iprop(atPos ER (dcell c (.snd k)) 0 ∅ 0 ∗ dutyTok ER (dcell c (.snd k)) 0 0 ∗ dutyTok ER (dcell (peer k c) (.rcv k)) 0 0)
/-- The receiving side, with `nr` exchanges received. -/
def exR (c : Dev nD) (nr : ℕ) (k : Fin 14) : sProp 𝕄 :=
  if k.val < nr then iprop(semVal (dcell c (.rcv k)) 0 ∗ slotPts c k (P I (ph k) (peer k c)))
  else iprop(atPos ER (dcell c (.rcv k)) 0 ∅ 0 ∗ cred (tallyAt (dcell c (.rcv k)) () N))
/-- The exchanges whose partner has signalled after `n` barrier waits and that are not sent yet. -/
def opn (n : Fin 4) (ns : ℕ) : Finset (Fin 14) := Finset.univ.filter fun k => ns ≤ k.val ∧ red k ∈ stage n
/-- The barrier's side. -/
def Bar (c : Dev nD) (n : Fin 4) : sProp 𝕄 :=
  iprop(atPos ER (barCell c) 0 (stage n) (wt (stage n)) ∗ bigSep (since n.val : Finset (Fin 3)) fun m => cred (tallyAt (barCell c) () (wamt m)))
/-- The rights over the reduce-scatter's rows, part-way through phase `p`. -/
def Rt (c : Dev nD) (p ns nr : ℕ) : sProp 𝕄 := Rights c p ((phs p).filter fun i => ns ≤ i.val) ((phs p).filter fun i => i.val < nr)

/-- Everything of the exchanges that device `c` holds after `n` barrier waits, `ns` transfers sent, `nr` received and `nw` of
    its own waited for, in phase `p` of the rights. -/
def St (c : Dev nD) (n : Fin 4) (p ns nr nw : ℕ) : sProp 𝕄 :=
  iprop((∃ W, owes (c : Thread nD τ) (Ow c 7 ns 0) W) ∗ Bar c n ∗ (bigSep Finset.univ (exS c ns nw)) ∗ (bigSep Finset.univ (exR I c nr))
    ∗ (bigSep (opn n ns) fun k => slotAny (peer k c) k) ∗ Rt c p ns nr)

section Pure
omit [FloatOps F]

theorem opn_send (n : Fin 4) (k : Fin 14) (h : red k ∈ stage n) : opn n k.val = insert k (opn n (k.val + 1)) := by
  ext x
  simp only [opn, Finset.mem_insert, Finset.mem_filter, Finset.mem_univ, true_and, Fin.ext_iff]
  constructor
  · rintro ⟨h1, h2⟩
    by_cases hx : x.val = k.val
    · exact .inl hx
    · exact .inr ⟨by omega, h2⟩
  · rintro (hx | ⟨h1, h2⟩)
    · have : x = k := Fin.ext hx
      subst this; exact ⟨le_rfl, h⟩
    · exact ⟨by omega, h2⟩
theorem opn_sent (n : Fin 4) (k : Fin 14) : k ∉ opn n (k.val + 1) := by simp [opn]

theorem pull_send (A B C D : sProp 𝕄) : iprop(A ∗ (B ∗ C) ∗ D) = iprop(B ∗ A ∗ C ∗ D) := by
  have h1 : iprop(A ∗ (B ∗ C) ∗ D) ⊢ iprop(B ∗ A ∗ C ∗ D) := by
    iintro ⟨H1, ⟨H2, H3⟩, H4⟩
    isplitl [H2]; · iexact H2
    isplitl [H1]; · iexact H1
    isplitl [H3] <;> iassumption
  have h2 : iprop(B ∗ A ∗ C ∗ D) ⊢ iprop(A ∗ (B ∗ C) ∗ D) := by
    iintro ⟨H2, H1, H3, H4⟩
    isplitl [H1]; · iexact H1
    isplitl [H2 H3]
    · isplitl [H2] <;> iassumption
    iexact H4
  exact equiv_iff.mp ⟨h1, h2⟩
theorem pull_recv (A B C D : sProp 𝕄) : iprop(A ∗ B ∗ C ∗ D) = iprop(B ∗ C ∗ A ∗ D) := by
  have h1 : iprop(A ∗ B ∗ C ∗ D) ⊢ iprop(B ∗ C ∗ A ∗ D) := by
    iintro ⟨H2, H1, H3, H4⟩
    isplitl [H1]; · iexact H1
    isplitl [H3]; · iexact H3
    isplitl [H2] <;> iassumption
  have h2 : iprop(B ∗ C ∗ A ∗ D) ⊢ iprop(A ∗ B ∗ C ∗ D) := by
    iintro ⟨H1, H3, H2, H4⟩
    isplitl [H2]; · iexact H2
    isplitl [H1]; · iexact H1
    isplitl [H3] <;> iassumption
  exact equiv_iff.mp ⟨h1, h2⟩

theorem Rt_send (c : Dev nD) (p : ℕ) (k : Fin 14) (nr : ℕ) (hp : p = min (ph k).val 3) :
    (Rt c p k.val nr : sProp 𝕄) = iprop(load14 c k ∗ Rt c p (k.val + 1) nr) := by
  unfold Rt
  by_cases h : k.val < 7
  · have hS : ((phs p).filter fun i : Fin 7 => k.val ≤ i.val) = insert ⟨k.val, h⟩ ((phs p).filter fun i : Fin 7 => k.val + 1 ≤ i.val) := by
      subst hp; revert k; decide +kernel
    have hn : (⟨k.val, h⟩ : Fin 7) ∉ ((phs p).filter fun i : Fin 7 => k.val + 1 ≤ i.val) := by simp
    unfold Rights load14
    rw [hS, fam_put hn, dif_pos h]
    exact pull_send _ _ _ _
  · have hS : ((phs p).filter fun i : Fin 7 => k.val ≤ i.val) = ((phs p).filter fun i : Fin 7 => k.val + 1 ≤ i.val) := by
      ext i; have := i.isLt; simp only [Finset.mem_filter]; constructor <;> rintro ⟨-, h2⟩ <;> omega
    unfold load14
    rw [hS, dif_neg h, emp_sep_eq]

theorem Rt_recv (c : Dev nD) (p ns : ℕ) (k : Fin 14) (hp : p = min (ph k).val 3) :
    iprop(load14 (peer k c) k ∗ Rt c p ns k.val) = (Rt c p ns (k.val + 1) : sProp 𝕄) := by
  unfold Rt
  by_cases h : k.val < 7
  · have hS : ((phs p).filter fun i : Fin 7 => i.val < k.val + 1) = insert ⟨k.val, h⟩ ((phs p).filter fun i : Fin 7 => i.val < k.val) := by
      subst hp; revert k; decide +kernel
    have hn : (⟨k.val, h⟩ : Fin 7) ∉ ((phs p).filter fun i : Fin 7 => i.val < k.val) := by simp
    have hr : red k = ⟨k.val, h⟩ := Fin.ext (Nat.mod_eq_of_lt h)
    unfold Rights load14 peer
    rw [hS, fam_put hn, dif_pos h, hr]
    exact pull_recv _ _ _ _
  · have hS : ((phs p).filter fun i : Fin 7 => i.val < k.val + 1) = ((phs p).filter fun i : Fin 7 => i.val < k.val) := by
      ext i; have := i.isLt; simp only [Finset.mem_filter]; constructor <;> rintro ⟨h1, h2⟩ <;> exact ⟨h1, by omega⟩
    unfold load14
    rw [hS, dif_neg h, emp_sep_eq]

/-- A phase that is over. -/
theorem Rt_next (c : Dev nD) (p x : ℕ) (h1 : ∀ i ∈ phs p, i.val < x) (h2 : ∀ i ∈ phs (p + 1), x ≤ i.val) :
    (Rt c p x x : sProp 𝕄) = Rt c (p + 1) x x := by
  unfold Rt
  rw [Finset.filter_false_of_mem (fun i hi => by have := h1 i hi; omega), Finset.filter_true_of_mem h1, rights_next,
    Finset.filter_true_of_mem h2, Finset.filter_false_of_mem (fun i hi => by have := h2 i hi; omega)]

end Pure

theorem St_next (c : Dev nD) (n : Fin 4) (p x nw : ℕ) (h1 : ∀ i ∈ phs p, i.val < x) (h2 : ∀ i ∈ phs (p + 1), x ≤ i.val) :
    St I c n p x x nw = St I c n (p + 1) x x nw := by
  unfold St; rw [Rt_next c p x h1 h2]

theorem lv_rcv (c : Dev nD) (k : Fin 14) : lv ((c : Thread nD τ), .dma (dsem (.rcv k))) () ≤ 2 + (ph k).val := by
  have h := lv_dk c (.rcv k)
  exact le_of_eq h
theorem lv_snd (c : Dev nD) (k : Fin 14) : lv ((c : Thread nD τ), .dma (dsem (.snd k))) () ≤ 0 := by
  have h := lv_dk c (.snd k)
  exact le_of_eq h
theorem amount_snd (c : Dev nD) (k : Fin 14) (d : Fin 7) : (Rd I).amount (dcell c (.snd k)) 0 d = N := by rw [amount_at]; rfl
theorem amount_rcv (c : Dev nD) (k : Fin 14) (d : Fin 7) : (Rd I).amount (dcell c (.rcv k)) 0 d = N := by rw [amount_at]; rfl
theorem slot_amount (k : Fin 14) : (slotM k).view.amount (SemLoc.dma (dsem (.rcv k)) : SemLoc sig) = N := rfl
theorem slot_credit (k : Fin 14) : (slotM k).view.dmaCredit = N := rfl
theorem expect_snd (c : Dev nD) (k : Fin 14) : 0 + N = (Rd I).expect (dcell c (.snd k)) 0 := by rw [expect_at I c (.snd k) trivial, Nat.zero_add]; rfl
theorem expect_rcv (c : Dev nD) (k : Fin 14) : 0 + N = (Rd I).expect (dcell c (.rcv k)) 0 := by rw [expect_at I c (.rcv k) trivial, Nat.zero_add]; rfl
theorem duty_snd (c : Dev nD) (k : Fin 14) : (0 : Fin 7) ∈ (Rd I).duties (dcell c (.snd k)) 0 := by
  rw [duties_used I c (.snd k) trivial]; exact Finset.mem_singleton_self _
theorem duty_rcv (c : Dev nD) (k : Fin 14) : (0 : Fin 7) ∈ (Rd I).duties (dcell c (.rcv k)) 0 := by
  rw [duties_used I c (.rcv k) trivial]; exact Finset.mem_singleton_self _

abbrev 𝒱₀ : Variants := Variants.none

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Ops
variable {α : Type} {c : Dev nD} {n : Fin 4} {p ns nr nw : ℕ}

theorem slotAny_open (c : Dev nD) (k : Fin 14) :
    slotAny c k ⊢ (iprop(∃ f, (slotM k).view.loc (c : Thread nD τ) ↦[(slotM k).view.set]{fullShare} f) : sProp 𝕄) := by
  unfold slotAny; iintro H; iexact H

/-- Exchange `k` is sent, out of an accumulator of which the device holds share `q`. -/
theorem send_step (k : Fin 14) (d : Dev nD) (hd : d = peer k c) (m : Memref sig .tc .vmem S128x128 .f32) (q : PosShare TreeShare)
    (f : Buf (Elt F) (m.view.loc (c : Thread nD τ)))
    (hp : p = min (ph k).val 3) (hn : red k ∈ stage n) (hw : nw ≤ k.val)
    (hread : m.view.read (Elt F) f = P I (ph k) c)
    (hacc : (m.view.loc (c : Thread nD τ) ↦[m.view.set]{q} f : sProp 𝕄) ⊢ accPts (ph k) c (qs (ord k)) (P I (ph k) c))
    {sS sR : DmaSem sig} {sl : Memref sig .tc .vmem S128x128 .f32} (hS : sS = dsem (.snd k)) (hR : sR = dsem (.rcv k)) (hsl : sl = slotM k)
    {hsc : (sl : Memref sig (Dev.tc d : Thread nD τ).2.kind .vmem S128x128 .f32).view.ref.isScScratch = false}
    {hsrc : m.view.WordExact} {hdst : sl.view.WordExact}
    {hsem : DmaTarget.Typed .vmem (.dma sR) (.remote (Dev.tc d : Thread nD τ) sl (.dma sS) hsc)}
    {kt : PUnit → Prog (TpuEff nD τ sig (Elt F) Λ₀ .tc) α} {Q : α → sProp 𝕄} :
    iprop(Ctx I K κ ∗ St I c n p k.val nr nw ∗ (m.view.loc (c : Thread nD τ) ↦[m.view.set]{q} f))
      ⊢ iprop((St I c n p (k.val + 1) nr nw -∗ WP c (kt ⟨⟩) Q)
        -∗ WP c (.op (.enqueueDma m (.remote (Dev.tc d : Thread nD τ) sl (.dma sS) hsc) (.dma sR) hsrc hdst hsem) kt) Q) := by
  subst hd hS hR hsl
  have hpay₁ : (m.view.loc (c : Thread nD τ) ↦[m.view.set]{q} f : sProp 𝕄) ⊢ (Rd I).payload (dcell c (.snd k)) 0 0 := by
    rw [payload_at]; exact hacc
  have hpay₂ (fd : Buf (Elt F) ((slotM k).view.loc (peer k c : Thread nD τ))) :
      iprop(((slotM k).view.loc (peer k c : Thread nD τ) ↦[(slotM k).view.set]{fullShare}
        ((slotM k).view.write (Elt F) fd (m.view.read (Elt F) f) Finset.univ)) ∗ load14 c k) ⊢ (Rd I).payload (dcell (peer k c) (.rcv k)) 0 0 := by
    rw [payload_at, hread, slot_landed]
    show _ ⊢ iprop(slotPts (peer k c) k (P I (ph k) (peer k (peer k c))) ∗ load14 (peer k (peer k c)) k)
    rw [peer_peer]
  unfold St
  iintro ⟨#HC, ⟨⟨%W, HO⟩, HB, HS, HR, HD, HT⟩, Hm⟩ Hk
  ihave HS := (fam_turn (Φ := exS c k.val nw) (Ψ := exS c (k.val + 1) nw) k (Finset.mem_univ k) (fun x _ hx => by
    have : x.val ≠ k.val := fun h => hx (Fin.ext h)
    unfold exS; split
    · rfl
    · congr 1; exact propext ⟨fun h => by omega, fun h => by omega⟩)) $$ HS
  icases HS with ⟨Hx, HS⟩
  ihave Hx := (Entails.of_eq (show exS c k.val nw k = _ from (if_neg (Nat.not_lt.mpr hw)).trans (if_neg (Nat.lt_irrefl _)))) $$ Hx
  icases Hx with ⟨Hat, Ht1, Ht2⟩
  ihave HD := (Entails.of_eq (show (bigSep (opn n k.val) fun k => slotAny (peer k c) k : sProp 𝕄)
    = iprop(slotAny (peer k c) k ∗ bigSep (opn n (k.val + 1)) fun k => slotAny (peer k c) k) from by
      rw [opn_send n k hn, fam_put (opn_sent n k)])) $$ HD
  ihave HT := (Entails.of_eq (Rt_send c p k nr hp)) $$ HT
  icases HD with ⟨Hs, HD⟩
  icases HT with ⟨Hl, HT⟩
  ihave Hs := (slotAny_open (peer k c) k) $$ Hs
  icases Hs with ⟨%fd, Hs⟩
  ihave #HI1 := (ctx_inv I K κ c (.snd k)) $$ HC
  ihave #HI2 := (ctx_inv I K κ (peer k c) (.rcv k)) $$ HC
  ihave #HR1 := (ctx_reached I K κ c (.snd k)) $$ HC
  ihave #HR2 := (ctx_reached I K κ (peer k c) (.rcv k)) $$ HC
  iapply (Rounds.wp_send_pointsTo_with 𝒱₀ ER (Rd I) (c : Thread nD τ) none (c' := (peer k c : Thread nD τ)) (src := m) (dst := slotM k) (F := load14 c k)
      (sS := .dma (dsem (.snd k))) (sem := .dma (dsem (.rcv k)))
      (κ₁ := K (c, .snd k)) (κ₂ := K (peer k c, .rcv k)) (r₁ := 0) (r₂ := 0) (d₁ := 0) (d₂ := 0) (fd := fd) (fs := f) (q := q)
      (duty_snd I c k) (duty_rcv I (peer k c) k) () () N (slot_amount k) (amount_snd I c k 0) (amount_rcv I (peer k c) k 0) (Ow c 7 (k.val + 1) 0) (Ow_send c 7 k 0) (W := W)
      hpay₁ (hpay₂ fd)) $$ [HO Hm Hs Hl Ht1 Ht2]
  · isplitr; · iexact HI1
    isplitr; · iexact HI2
    isplitl [Hm]; · iexact Hm
    isplitl [Hs Hl]
    · isplitl [Hs] <;> iassumption
    isplitl [HO]; · iexact HO
    isplitl [Ht1]; · iexact Ht1
    isplitr; · iexact HR1
    isplitl [Ht2]; · iexact Ht2
    iexact HR2
  iintro ⟨Hc, HO⟩
  iapply Hk
  isplitl [HO]; · iexists W; iexact HO
  isplitl [HB]; · iexact HB
  isplitl [HS Hat Hc]
  · iapply HS
    iapply (Entails.of_eq (show exS c (k.val + 1) nw k = _ from (if_neg (Nat.not_lt.mpr hw)).trans (if_pos (Nat.lt_succ_self _))).symm)
    isplitl [Hat] <;> iassumption
  isplitl [HR]; · iexact HR
  isplitl [HD] <;> iassumption

/-- Exchange `k` is waited for: its slot holds the partner's accumulator. -/
theorem recv_step (k : Fin 14) (hp : p = min (ph k).val 3) (nr' : ℕ) (hnr : nr' = k.val + 1) (hlow : ∀ k' : Fin 14, ns ≤ k'.val → (ph k).val < (ph k').val)
    {sp' : Space} {s' : Shape} {e' : EltTy} {src : Memref sig .tc sp' s' e'}
    {sR : DmaSem sig} {sl : Memref sig .tc .vmem S128x128 .f32} (hR : sR = dsem (.rcv k)) (hsl : sl = slotM k) {hsrc : src.view.WordExact} {hdst : sl.view.WordExact}
    {kt : PUnit → Prog (TpuEff nD τ sig (Elt F) Λ₀ .tc) α} {Q : α → sProp 𝕄} :
    iprop(Ctx I K κ ∗ St I c n p ns k.val nw)
      ⊢ iprop((St I c n p ns nr' nw -∗ WP c (kt ⟨⟩) Q)
        -∗ WP c (.op (.waitDma2 sR src sl hsrc hdst) kt) Q) := by
  subst hR hsl hnr
  have hlow' : ∀ k' : Fin 14, ns ≤ k'.val → 2 + (ph k).val < 2 + (ph k').val := fun k' hk' => Nat.add_lt_add_left (hlow k' hk') 2
  have hph : 2 + (ph k).val < 8 := by have := (ph k).isLt; omega
  have hMW : (Lev : sProp 𝕄) ⊢ MayWait (c : Thread nD τ) (.dma (dsem (.rcv k))) () (Ow c 7 ns 0) :=
    (lev_wait c (.dma (dsem (.rcv k))) (2 + (ph k).val) (lv_rcv c k) 7 ns 0 (.inl le_rfl) hlow' hph)
  unfold St
  iintro ⟨#HC, ⟨⟨%W, HO⟩, HB, HS, HR, HD, HT⟩⟩ Hk
  ihave HR := (fam_turn (Φ := exR I c k.val) (Ψ := exR I c (k.val + 1)) k (Finset.mem_univ k) (fun x _ hx => by
    have : x.val ≠ k.val := fun h => hx (Fin.ext h)
    unfold exR; congr 1; exact propext ⟨fun h => by omega, fun h => by omega⟩)) $$ HR
  icases HR with ⟨Hx, HR⟩
  ihave Hx := (Entails.of_eq (show exR I c k.val k = _ from if_neg (Nat.lt_irrefl _))) $$ Hx
  icases Hx with ⟨Hat, Hc⟩
  ihave #HI := (ctx_inv I K κ c (.rcv k)) $$ HC
  ihave #HL := (ctx_lev I K κ) $$ HC
  iapply (Rounds.wp_wait_rest_token 𝒱₀ ER (Rd I) (c : Thread nD τ) none (κ := K (c, .rcv k)) (sm := .dma (dsem (.rcv k))) (k' := N)
      (fun K' => (wpE_waitDma2_eq 𝒱₀ (c : Thread nD τ) none Set.univ K').trans (by rw [slot_credit])) (Set.mem_univ _) () (O := Ow c 7 ns 0) (W := W) (R := 0) (m := 0) (T := ∅)
      (expect_rcv I c k)) $$ [Hc HO Hat]
  · isplitr; · iexact HI
    isplitl [Hc]; · iexact Hc
    isplitl [HO]; · iexact HO
    isplitr
    · iapply hMW
      iexact HL
    iexact Hat
  iintro ⟨HO, Hat, -, Hpay⟩
  ihave Hp := (Entails.of_eq (rest_at I c (.rcv k) trivial)) $$ Hpay
  unfold pay
  icases Hp with ⟨Hs, Hl⟩
  imod (Rounds.cell_close ER (Rd I) (Set.mem_univ (K (c, .rcv k))) (fun h => h) (R := 0 + 1) (duties_later I (dcell c (.rcv k)))) $$ [Hat] with Hz
  · isplitr; · iexact HI
    iexact Hat
  iapply Hk
  rw [← Rt_recv c p ns k hp]
  isplitl [HO]; · iexists _; iexact HO
  isplitl [HB]; · iexact HB
  isplitl [HS]; · iexact HS
  isplitl [HR Hs Hz]
  · iapply HR
    iapply (Entails.of_eq (show exR I c (k.val + 1) k = _ from if_pos (Nat.lt_succ_self _)).symm)
    isplitl [Hz] <;> iassumption
  isplitl [HD]; · iexact HD
  isplitl [Hl] <;> iassumption

/-- The device's own transfer `k` is waited for: it reads the accumulator no more. -/
theorem wsend_step (k : Fin 14) (hns : k.val < ns)
    {sp' : Space} {s' : Shape} {e' : EltTy} {src : Memref sig .tc sp' s' e'} {m : Memref sig .tc .vmem S128x128 .f32} (hN : m.view.dmaCredit = N)
    {sS : DmaSem sig} (hS : sS = dsem (.snd k))
    {hsrc : src.view.WordExact} {hdst : m.view.WordExact} {kt : PUnit → Prog (TpuEff nD τ sig (Elt F) Λ₀ .tc) α} {Q : α → sProp 𝕄} :
    iprop(Ctx I K κ ∗ St I c n p ns nr k.val)
      ⊢ iprop((St I c n p ns nr (k.val + 1) ∗ accPts (ph k) c (qs (ord k)) (P I (ph k) c) -∗ WP c (kt ⟨⟩) Q)
        -∗ WP c (.op (.waitDma2 sS src m hsrc hdst) kt) Q) := by
  subst hS
  have hMW : (Lev : sProp 𝕄) ⊢ MayWait (c : Thread nD τ) (.dma (dsem (.snd k))) () (Ow c 7 ns 0) :=
    (lev_wait c (.dma (dsem (.snd k))) 0 (lv_snd c k) 7 ns 0 (.inl le_rfl) (fun k' _ => Nat.lt_of_lt_of_le (by decide) (Nat.le_add_right 2 _)) (by decide))
  unfold St
  iintro ⟨#HC, ⟨⟨%W, HO⟩, HB, HS, HR, HD, HT⟩⟩ Hk
  ihave HS := (fam_turn (Φ := exS c ns k.val) (Ψ := exS c ns (k.val + 1)) k (Finset.mem_univ k) (fun x _ hx => by
    have : x.val ≠ k.val := fun h => hx (Fin.ext h)
    unfold exS; congr 1; exact propext ⟨fun h => by omega, fun h => by omega⟩)) $$ HS
  icases HS with ⟨Hx, HS⟩
  ihave Hx := (Entails.of_eq (show exS c ns k.val k = _ from (if_neg (Nat.lt_irrefl _)).trans (if_pos hns))) $$ Hx
  icases Hx with ⟨Hat, Hc⟩
  ihave #HI := (ctx_inv I K κ c (.snd k)) $$ HC
  ihave #HL := (ctx_lev I K κ) $$ HC
  iapply (Rounds.wp_wait_rest_token 𝒱₀ ER (Rd I) (c : Thread nD τ) none (κ := K (c, .snd k)) (sm := .dma (dsem (.snd k))) (k' := N)
      (fun K' => (wpE_waitDma2_eq 𝒱₀ (c : Thread nD τ) none Set.univ K').trans (by rw [hN])) (Set.mem_univ _) () (O := Ow c 7 ns 0) (W := W) (R := 0) (m := 0) (T := ∅)
      (expect_snd I c k)) $$ [Hc HO Hat]
  · isplitr; · iexact HI
    isplitl [Hc]; · iexact Hc
    isplitl [HO]; · iexact HO
    isplitr
    · iapply hMW
      iexact HL
    iexact Hat
  iintro ⟨HO, Hat, -, Hpay⟩
  ihave Hp := (Entails.of_eq (rest_at I c (.snd k) trivial)) $$ Hpay
  unfold pay
  imod (Rounds.cell_close ER (Rd I) (Set.mem_univ (K (c, .snd k))) (fun h => h) (R := 0 + 1) (duties_later I (dcell c (.snd k)))) $$ [Hat] with Hz
  · isplitr; · iexact HI
    iexact Hat
  iapply Hk
  isplitr [Hp]
  · isplitl [HO]; · iexists _; iexact HO
    isplitl [HB]; · iexact HB
    isplitl [HS Hz]
    · iapply HS
      iapply (Entails.of_eq (show exS c ns (k.val + 1) k = _ from if_pos (Nat.lt_succ_self _)).symm)
      iexact Hz
    isplitl [HR]; · iexact HR
    isplitl [HD] <;> iassumption
  iexact Hp

section Pure
omit [FloatOps F]
/-- The slots the signals of one stage open. -/
theorem opn_wait (n : Fin 3) (ns : ℕ) (h : ∀ i ∈ stage n.succ \ stage n.castSucc, ns ≤ i.val) :
    (bigSep (opn n.succ ns) fun k => slotAny (peer k c) k : sProp 𝕄)
      = iprop((bigSep (opn n.castSucc ns) fun k => slotAny (peer k c) k) ∗ bigSep (stage n.succ \ stage n.castSucc) fun i => barPay c i) := by
  have hlo : ∀ i, red (lo i) = i := by decide
  have hhi : ∀ i, red (hi i) = i := by decide
  have hil : Function.Injective lo := by decide
  have hih : Function.Injective hi := by decide
  have hd : Disjoint ((stage n.succ \ stage n.castSucc).map ⟨lo, hil⟩) ((stage n.succ \ stage n.castSucc).map ⟨hi, hih⟩) := by
    rw [Finset.disjoint_left]
    intro x hx hy
    obtain ⟨i, -, rfl⟩ := Finset.mem_map.mp hx
    obtain ⟨j, -, hj⟩ := Finset.mem_map.mp hy
    have h1 : 7 + j.val = i.val := congrArg Fin.val hj
    have := i.isLt; omega
  have hnew : opn n.succ ns \ opn n.castSucc ns = (stage n.succ \ stage n.castSucc).map ⟨lo, hil⟩ ∪ (stage n.succ \ stage n.castSucc).map ⟨hi, hih⟩ := by
    ext x
    have hx : (∃ i, x = lo i) ∨ ∃ i, x = hi i := by revert x; decide
    simp only [opn, Finset.mem_sdiff, Finset.mem_filter, Finset.mem_univ, true_and, Finset.mem_union, Finset.mem_map, Function.Embedding.coeFn_mk]
    constructor
    · rintro ⟨⟨h1, h2⟩, h3⟩
      have h4 : red x ∉ stage n.castSucc := fun hs => h3 ⟨h1, hs⟩
      rcases hx with ⟨i, rfl⟩ | ⟨i, rfl⟩
      · rw [hlo] at h2 h4; exact .inl ⟨i, ⟨h2, h4⟩, rfl⟩
      · rw [hhi] at h2 h4; exact .inr ⟨i, ⟨h2, h4⟩, rfl⟩
    · rintro (⟨i, hi', rfl⟩ | ⟨i, hi', rfl⟩)
      · rw [hlo]
        exact ⟨⟨h i (Finset.mem_sdiff.mpr hi'), hi'.1⟩, fun hs => hi'.2 hs.2⟩
      · rw [hhi]
        have := h i (Finset.mem_sdiff.mpr hi')
        exact ⟨⟨by show ns ≤ 7 + i.val; omega, hi'.1⟩, fun hs => hi'.2 hs.2⟩
  have hsub : opn n.castSucc ns ⊆ opn n.succ ns := fun x hx => by
    simp only [opn, Finset.mem_filter, Finset.mem_univ, true_and] at hx ⊢
    exact ⟨hx.1, stage_mono n hx.2⟩
  rw [fam_split hsub, hnew, fam_union hd, bigSep_map, bigSep_map]
  congr 1
  refine Eq.trans ?_ (bigSep_sep' _ _ _).symm
  congr 1
  · exact bigSep_congr fun i _ => by show slotAny (par (red (lo i)) c) (lo i) = _; rw [hlo]
  · exact bigSep_congr fun i _ => by show slotAny (par (red (hi i)) c) (hi i) = _; rw [hhi]
end Pure

/-- A barrier wait: the slots of the partners that signalled. -/
theorem bar_step (m : Fin 3) (h : ∀ i ∈ stage m.succ \ stage m.castSucc, ns ≤ i.val)
    {kt : PUnit → Prog (TpuEff nD τ sig (Elt F) Λ₀ .tc) α} {Q : α → sProp 𝕄} :
    iprop(Ctx I K κ ∗ St I c m.castSucc p ns nr nw)
      ⊢ iprop((St I c m.succ p ns nr nw -∗ WP c (kt ⟨⟩) Q)
        -∗ WP c (.op (.semWait barS (wamt m)) kt) Q) := by
  have hMW : (Lev : sProp 𝕄) ⊢ MayWait (c : Thread nD τ) (.reg barS) () (Ow c 7 ns 0) :=
    (lev_wait c (.reg barS) 1 (le_of_eq (lv_bar c)) 7 ns 0 (.inl le_rfl) (fun k' _ => Nat.lt_of_lt_of_le (by decide) (Nat.le_add_right 2 _)) (by decide))
  unfold St Bar
  iintro ⟨#HC, ⟨⟨%W, HO⟩, ⟨Hat, Hc⟩, HS, HR, HD, HT⟩⟩ Hk
  ihave Hc := (Entails.of_eq (show (bigSep (since m.castSucc.val) fun m => cred (tallyAt (barCell c) () (wamt m)) : sProp 𝕄)
    = iprop(cred (tallyAt (barCell c) () (wamt m)) ∗ bigSep (since m.succ.val) fun m => cred (tallyAt (barCell c) () (wamt m))) from by
      rw [show (since m.castSucc.val : Finset (Fin 3)) = insert m (since m.succ.val) from since_step m]
      exact fam_put (show m ∉ since m.succ.val from since_new m) _)) $$ Hc
  icases Hc with ⟨Hc1, Hc⟩
  ihave #HI := (ctx_bar I K κ c) $$ HC
  ihave #HL := (ctx_lev I K κ) $$ HC
  iapply (bar_wait 𝒱₀ c m (κ c) (Ow c 7 ns 0) W) $$ [Hc1 HO Hat]
  · isplitr; · iexact HI
    isplitl [Hc1]; · iexact Hc1
    isplitl [HO]; · iexact HO
    isplitr
    · iapply hMW
      iexact HL
    iexact Hat
  iintro ⟨HO, Hat, Hp⟩
  iapply Hk
  isplitl [HO]; · iexact HO
  isplitl [Hat Hc]
  · isplitl [Hat] <;> iassumption
  isplitl [HS]; · iexact HS
  isplitl [HR]; · iexact HR
  isplitl [HD Hp]
  · iapply (Entails.of_eq (opn_wait m ns h).symm)
    isplitl [HD] <;> iassumption
  iexact HT

/-- A received slot is read. -/
theorem slot_step (k : Fin 14) (hk : k.val < nr) (v : Vec F S128x128 .f32) (hv : P I (ph k) (peer k c) = v) {hl : (vM : Memref sig .tc .vmem S14x128x128 .f32).view.LoadsAt (slotR k).toLoadRect}
    {kt : Vec F S1x128x128 .f32 → Prog (TpuEff nD τ sig (Elt F) Λ₀ .tc) α} {Q : α → sProp 𝕄} :
    St I c n p ns nr nw
      ⊢ iprop((St I c n p ns nr nw -∗ WP c (kt (up v)) Q)
        -∗ WP c (.op (.load vM (slotR k).toLoadRect hl) kt) Q) := by
  subst hv
  have hset : (vM : Memref sig .tc .vmem S14x128x128 .f32).view.setOn (slotR k).toLoadRect.set ⊆ (slotM k).view.set := by
    rw [slot_set]
    exact subset_of_eq ((View.set_slice (v := (vM : Memref sig .tc .vmem S14x128x128 .f32).view) (slotR k)).symm.trans (View.set_slice_whole (cc0_scratch2 : Ref sig .tc) (slotR k)))
  unfold St
  iintro ⟨HO, HB, HS, HR, HD, HT⟩ Hk
  ihave HR := (fam_look (Φ := exR I c nr) k (Finset.mem_univ k)) $$ HR
  icases HR with ⟨Hx, HR⟩
  ihave Hx := (Entails.of_eq (show exR I c nr k = _ from if_pos hk)) $$ Hx
  icases Hx with ⟨Hz, Hs⟩
  unfold slotPts
  iapply (wp_load 𝒱₀ (c : Thread nD τ) none Set.univ (m := vM) (r := (slotR k).toLoadRect) (S := (slotM k).view.set) hset) $$ Hs
  iintro Hs
  rw [slot_load]
  iapply Hk
  isplitl [HO]; · iexact HO
  isplitl [HB]; · iexact HB
  isplitl [HS]; · iexact HS
  isplitl [HR Hz Hs]
  · iapply HR
    iapply (Entails.of_eq (show exR I c nr k = _ from if_pos hk).symm)
    isplitl [Hz]; · iexact Hz
    unfold slotPts; iexact Hs
  isplitl [HD] <;> iassumption

end Ops
end Steps

end Cert.Mlp

end
-- ==== Proof.Mem.lean ====
module

public import proofs.«01_k».proof.Proof.Steps

/-!
# The operations on the accumulators, the operands and the barrier's signals
-/

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

section Whole
variable {α : Type} {c : Dev nD}

/-- A buffer is read through some view. -/
theorem load_all {cs : CoreSpace} {s : Shape} {e : EltTy} {m : Memref sig .tc cs s e} {r : LoadRect s} {hl : m.view.LoadsAt r}
    (q : PosShare TreeShare) (f : Buf (Elt F) (m.view.loc (c : Thread nD τ))) (w : r.shape.Idx → Elt F e) (hr : m.view.readAt (Elt F) r f = w)
    {kt : (r.shape.Idx → Elt F e) → Prog (TpuEff nD τ sig (Elt F) Λ₀ .tc) α} {Q : α → sProp 𝕄} :
    (m.view.loc (c : Thread nD τ) ↦{q} f)
      ⊢ iprop(((m.view.loc (c : Thread nD τ) ↦{q} f) -∗ WP c (kt w) Q) -∗ WP c (.op (.load m r hl) kt) Q) := by
  subst hr
  exact wp_load 𝒱₀ (c : Thread nD τ) none Set.univ (m := m) (Finset.subset_univ _)

/-- A buffer is written through some view. -/
theorem store_all {cs : CoreSpace} {s : Shape} {e : EltTy} {m : Memref sig .tc cs s e} {r : Rect s} {hx : (m.access r).Stores Finset.univ} {hm}
    (f : Buf (Elt F) ((m.access r).loc (c : Thread nD τ))) (w : r.shape.Idx → Elt F e) (f' : Buf (Elt F) ((m.access r).loc (c : Thread nD τ)))
    (hr : (m.access r).write (Elt F) f w Finset.univ = f')
    {kt : PUnit → Prog (TpuEff nD τ sig (Elt F) Λ₀ .tc) α} {Q : α → sProp 𝕄} :
    ((m.access r).loc (c : Thread nD τ) ↦{fullShare} f)
      ⊢ iprop((((m.access r).loc (c : Thread nD τ) ↦{fullShare} f') -∗ WP c (kt ⟨⟩) Q) -∗ WP c (.op (.store m r w Finset.univ hx hm) kt) Q) := by
  subst hr
  exact wp_store 𝒱₀ (c : Thread nD τ) none Set.univ (m := m) (Finset.subset_univ _)

/-- An accumulator is read. -/
theorem load_a {q : PosShare TreeShare} {v : Vec F S128x128 .f32} {inb} {hl : (aM : Memref sig .tc .vmem S128x128 .f32).view.LoadsAt (Rect.unit (s := S128x128) ![0, 0] S128x128.size inb).toLoadRect}
    {kt : Vec F S128x128 .f32 → Prog (TpuEff nD τ sig (Elt F) Λ₀ .tc) α} {Q : α → sProp 𝕄} :
    aPts c q v ⊢ iprop((aPts c q v -∗ WP c (kt v) Q)
      -∗ WP c (.op (.load aM (Rect.unit (s := S128x128) ![0, 0] S128x128.size inb).toLoadRect hl) kt) Q) := by
  rw [aPts_whole]
  exact load_all (m := aM) (r := (Rect.unit (s := S128x128) ![0, 0] S128x128.size inb).toLoadRect) q v v (Memref.readAt_unit_zero (Elt F) cc0_scratch0 hz2 inb v)
theorem load_b {q : PosShare TreeShare} {v : Vec F S128x128 .f32} {inb} {hl : (bM : Memref sig .tc .vmem S128x128 .f32).view.LoadsAt (Rect.unit (s := S128x128) ![0, 0] S128x128.size inb).toLoadRect}
    {kt : Vec F S128x128 .f32 → Prog (TpuEff nD τ sig (Elt F) Λ₀ .tc) α} {Q : α → sProp 𝕄} :
    bPts c q v ⊢ iprop((bPts c q v -∗ WP c (kt v) Q)
      -∗ WP c (.op (.load bM (Rect.unit (s := S128x128) ![0, 0] S128x128.size inb).toLoadRect hl) kt) Q) := by
  rw [bPts_whole]
  exact load_all (m := bM) (r := (Rect.unit (s := S128x128) ![0, 0] S128x128.size inb).toLoadRect) q v v (Memref.readAt_unit_zero (Elt F) cc0_scratch1 hz2 inb v)

/-- An accumulator is overwritten; it comes back as the four shares of it. -/
theorem store_a {v w : Vec F S128x128 .f32} (w' : Vec F S128x128 .f32) (hw : w = w') {inb} {hx : ((aM : Memref sig .tc .vmem S128x128 .f32).access (Rect.unit (s := S128x128) ![0, 0] S128x128.size inb)).Stores Finset.univ} {hm}
    {kt : PUnit → Prog (TpuEff nD τ sig (Elt F) Λ₀ .tc) α} {Q : α → sProp 𝕄} :
    aPts c fullShare v ⊢ iprop((iprop(aPts c (qs 0) w' ∗ aPts c (qs 1) w' ∗ aPts c (qs 2) w' ∗ aPts c qk w') -∗ WP c (kt ⟨⟩) Q)
      -∗ WP c (.op (.store aM (Rect.unit (s := S128x128) ![0, 0] S128x128.size inb) w Finset.univ hx hm) kt) Q) := by
  subst hw
  have e := store_all (c := c) (m := aM) (r := Rect.unit (s := S128x128) ![0, 0] S128x128.size inb) (hx := hx) (hm := hm) (kt := kt) (Q := Q) v w w
    (Memref.write_access_unit_zero_univ (Elt F) cc0_scratch0 hz2 inb v w)
  rw [aPts_whole]
  iintro H Hk
  iapply e $$ H
  iintro H
  iapply Hk
  iapply (aPts_quarters c w)
  rw [aPts_whole]
  iexact H
theorem store_b {v w : Vec F S128x128 .f32} (w' : Vec F S128x128 .f32) (hw : w = w') {inb} {hx : ((bM : Memref sig .tc .vmem S128x128 .f32).access (Rect.unit (s := S128x128) ![0, 0] S128x128.size inb)).Stores Finset.univ} {hm}
    {kt : PUnit → Prog (TpuEff nD τ sig (Elt F) Λ₀ .tc) α} {Q : α → sProp 𝕄} :
    bPts c fullShare v ⊢ iprop((iprop(bPts c (qs 0) w' ∗ bPts c (qs 1) w' ∗ bPts c (qs 2) w' ∗ bPts c qk w') -∗ WP c (kt ⟨⟩) Q)
      -∗ WP c (.op (.store bM (Rect.unit (s := S128x128) ![0, 0] S128x128.size inb) w Finset.univ hx hm) kt) Q) := by
  subst hw
  have e := store_all (c := c) (m := bM) (r := Rect.unit (s := S128x128) ![0, 0] S128x128.size inb) (hx := hx) (hm := hm) (kt := kt) (Q := Q) v w w
    (Memref.write_access_unit_zero_univ (Elt F) cc0_scratch1 hz2 inb v w)
  rw [bPts_whole]
  iintro H Hk
  iapply e $$ H
  iintro H
  iapply Hk
  iapply (bPts_quarters c w)
  rw [bPts_whole]
  iexact H

end Whole

/-! ## The signals -/

section Signals
variable (I : Dev nD → Ins F) (K : Dev nD × DK → ℕ) (κ : Dev nD → ℕ)

/-- What device `c` holds for its signals, `m` of them sent: their tokens and the slots they hand over. -/
def Sg (c : Dev nD) (m : ℕ) : sProp 𝕄 :=
  iprop((∃ W, owes (c : Thread nD τ) (Ow c m 0 0) W)
    ∗ bigSep (since m : Finset (Fin 7)) fun i => iprop(dutyTok ER (barCell (par i c)) 0 i ∗ slotAny c (lo i) ∗ slotAny c (hi i)))
/-- The rest of what it holds then. -/
def Rest (c : Dev nD) : sProp 𝕄 :=
  iprop(Bar c 0 ∗ bigSep Finset.univ (exS c 0 0) ∗ bigSep Finset.univ (exR I c 0) ∗ Rt c 0 0 0)

theorem signal_step {α : Type} {c : Dev nD} (i : Fin 7) (d : Dev nD) (hd : d = par i c) (w : ℤ) (hw : w = (wts i : ℕ))
    {kt : PUnit → Prog (TpuEff nD τ sig (Elt F) Λ₀ .tc) α} {Q : α → sProp 𝕄} :
    iprop(Ctx I K κ ∗ Sg c i.val)
      ⊢ iprop((Sg c (i.val + 1) -∗ WP c (kt ⟨⟩) Q) -∗ WP c (.op (.semSignal (d : Thread nD τ) barS w) kt) Q) := by
  subst hd hw
  have hT : (bigSep (since i.val : Finset (Fin 7)) fun i => iprop(dutyTok ER (barCell (par i c)) 0 i ∗ slotAny c (lo i) ∗ slotAny c (hi i)) : sProp 𝕄)
      = iprop((dutyTok ER (barCell (par i c)) 0 i ∗ slotAny c (lo i) ∗ slotAny c (hi i))
        ∗ bigSep (since (i.val + 1) : Finset (Fin 7)) fun i => iprop(dutyTok ER (barCell (par i c)) 0 i ∗ slotAny c (lo i) ∗ slotAny c (hi i))) := by
    rw [since_step i]; exact fam_put (since_new i) _
  have hp : (iprop(slotAny c (lo i) ∗ slotAny c (hi i)) : sProp 𝕄) = barPay (par i c) i := by unfold barPay; rw [par_par]
  unfold Sg
  iintro ⟨#HC, ⟨⟨%W, HO⟩, HT⟩⟩ Hk
  ihave HT := (Entails.of_eq hT) $$ HT
  icases HT with ⟨⟨Ht, Hs⟩, HT⟩
  ihave #HI := (ctx_bar I K κ (par i c)) $$ HC
  iapply (bar_signal 𝒱₀ c (par i c) i (κ (par i c)) (Ow c (i.val + 1) 0 0) (Ow_signal c i 0 0) W) $$ [HO Ht Hs]
  · isplitr; · iexact HI
    isplitl [HO]; · iexact HO
    isplitl [Ht]; · iexact Ht
    iapply (Entails.of_eq hp)
    iexact Hs
  iintro HO
  iapply Hk
  isplitl [HO]; · iexists W; iexact HO
  iexact HT

theorem St_begin (c : Dev nD) : iprop(Sg c 7 ∗ Rest I c) ⊢ St I c 0 0 0 0 0 := by
  have h0 : opn 0 0 = ∅ := by decide
  unfold St Sg Rest
  iintro ⟨⟨HO, -⟩, HB, HS, HR, HT⟩
  isplitl [HO]; · iexact HO
  isplitl [HB]; · iexact HB
  isplitl [HS]; · iexact HS
  isplitl [HR]; · iexact HR
  isplitr
  · rw [h0, bigSep_empty]; iempintro
  iexact HT

end Signals

/-! ## The transfers out of either accumulator -/

section Send
variable (I : Dev nD → Ins F) (K : Dev nD × DK → ℕ) (κ : Dev nD → ℕ)
variable {α : Type} {c : Dev nD} {n : Fin 4} {p ns nr nw : ℕ}

theorem acc_a (k : Fin 14) (hk : ¬(ph k = 1 ∨ ph k = 4)) (v : Vec F S128x128 .f32) (q) : (accPts (ph k) c q v : sProp 𝕄) = aPts c q v := if_neg hk
theorem acc_b (k : Fin 14) (hk : ph k = 1 ∨ ph k = 4) (v : Vec F S128x128 .f32) (q) : (accPts (ph k) c q v : sProp 𝕄) = bPts c q v := if_pos hk

theorem send_a (k : Fin 14) (d : Dev nD) (hd : d = peer k c) (hp : p = min (ph k).val 3) (hn : red k ∈ stage n) (hw : nw ≤ k.val) (hk : ¬(ph k = 1 ∨ ph k = 4))
    {sS sR : DmaSem sig} {sl : Memref sig .tc .vmem S128x128 .f32} (hS : sS = dsem (.snd k)) (hR : sR = dsem (.rcv k)) (hsl : sl = slotM k)
    {hsc : (sl : Memref sig (Dev.tc d : Thread nD τ).2.kind .vmem S128x128 .f32).view.ref.isScScratch = false}
    {hsrc : (aM : Memref sig .tc .vmem S128x128 .f32).view.WordExact} {hdst : sl.view.WordExact}
    {hsem : DmaTarget.Typed .vmem (.dma sR) (.remote (Dev.tc d : Thread nD τ) sl (.dma sS) hsc)}
    {kt : PUnit → Prog (TpuEff nD τ sig (Elt F) Λ₀ .tc) α} {Q : α → sProp 𝕄} :
    iprop(Ctx I K κ ∗ St I c n p k.val nr nw ∗ aPts c (qs (ord k)) (P I (ph k) c))
      ⊢ iprop((St I c n p (k.val + 1) nr nw -∗ WP c (kt ⟨⟩) Q)
        -∗ WP c (.op (.enqueueDma aM (.remote (Dev.tc d : Thread nD τ) sl (.dma sS) hsc) (.dma sR) hsrc hdst hsem) kt) Q) := by
  have hacc : ((aM : Memref sig .tc .vmem S128x128 .f32).view.loc (c : Thread nD τ) ↦[(aM : Memref sig .tc .vmem S128x128 .f32).view.set]{qs (ord k)} (P I (ph k) c) : sProp 𝕄)
      ⊢ accPts (ph k) c (qs (ord k)) (P I (ph k) c) := by rw [acc_a k hk]; unfold aPts; iintro H; iexact H
  unfold aPts
  exact send_step I K κ k d hd aM (qs (ord k)) (P I (ph k) c) hp hn hw rfl hacc hS hR hsl
theorem send_b (k : Fin 14) (d : Dev nD) (hd : d = peer k c) (hp : p = min (ph k).val 3) (hn : red k ∈ stage n) (hw : nw ≤ k.val) (hk : ph k = 1 ∨ ph k = 4)
    {sS sR : DmaSem sig} {sl : Memref sig .tc .vmem S128x128 .f32} (hS : sS = dsem (.snd k)) (hR : sR = dsem (.rcv k)) (hsl : sl = slotM k)
    {hsc : (sl : Memref sig (Dev.tc d : Thread nD τ).2.kind .vmem S128x128 .f32).view.ref.isScScratch = false}
    {hsrc : (bM : Memref sig .tc .vmem S128x128 .f32).view.WordExact} {hdst : sl.view.WordExact}
    {hsem : DmaTarget.Typed .vmem (.dma sR) (.remote (Dev.tc d : Thread nD τ) sl (.dma sS) hsc)}
    {kt : PUnit → Prog (TpuEff nD τ sig (Elt F) Λ₀ .tc) α} {Q : α → sProp 𝕄} :
    iprop(Ctx I K κ ∗ St I c n p k.val nr nw ∗ bPts c (qs (ord k)) (P I (ph k) c))
      ⊢ iprop((St I c n p (k.val + 1) nr nw -∗ WP c (kt ⟨⟩) Q)
        -∗ WP c (.op (.enqueueDma bM (.remote (Dev.tc d : Thread nD τ) sl (.dma sS) hsc) (.dma sR) hsrc hdst hsem) kt) Q) := by
  have hacc : ((bM : Memref sig .tc .vmem S128x128 .f32).view.loc (c : Thread nD τ) ↦[(bM : Memref sig .tc .vmem S128x128 .f32).view.set]{qs (ord k)} (P I (ph k) c) : sProp 𝕄)
      ⊢ accPts (ph k) c (qs (ord k)) (P I (ph k) c) := by rw [acc_b k hk]; unfold bPts; iintro H; iexact H
  unfold bPts
  exact send_step I K κ k d hd bM (qs (ord k)) (P I (ph k) c) hp hn hw rfl hacc hS hR hsl

theorem wsend_a (k : Fin 14) (hns : k.val < ns) (hk : ¬(ph k = 1 ∨ ph k = 4))
    {sp' : Space} {s' : Shape} {e' : EltTy} {src : Memref sig .tc sp' s' e'} {sS : DmaSem sig} (hS : sS = dsem (.snd k))
    {hsrc : src.view.WordExact} {hdst : (aM : Memref sig .tc .vmem S128x128 .f32).view.WordExact}
    {kt : PUnit → Prog (TpuEff nD τ sig (Elt F) Λ₀ .tc) α} {Q : α → sProp 𝕄} :
    iprop(Ctx I K κ ∗ St I c n p ns nr k.val)
      ⊢ iprop((St I c n p ns nr (k.val + 1) ∗ aPts c (qs (ord k)) (P I (ph k) c) -∗ WP c (kt ⟨⟩) Q)
        -∗ WP c (.op (.waitDma2 sS src aM hsrc hdst) kt) Q) := by
  have e := wsend_step I K κ (c := c) (n := n) (p := p) (ns := ns) (nr := nr) k hns (src := src) (m := aM) rfl hS (hsrc := hsrc) (hdst := hdst) (kt := kt) (Q := Q)
  rw [acc_a k hk] at e
  exact e
theorem wsend_b (k : Fin 14) (hns : k.val < ns) (hk : ph k = 1 ∨ ph k = 4)
    {sp' : Space} {s' : Shape} {e' : EltTy} {src : Memref sig .tc sp' s' e'} {sS : DmaSem sig} (hS : sS = dsem (.snd k))
    {hsrc : src.view.WordExact} {hdst : (bM : Memref sig .tc .vmem S128x128 .f32).view.WordExact}
    {kt : PUnit → Prog (TpuEff nD τ sig (Elt F) Λ₀ .tc) α} {Q : α → sProp 𝕄} :
    iprop(Ctx I K κ ∗ St I c n p ns nr k.val)
      ⊢ iprop((St I c n p ns nr (k.val + 1) ∗ bPts c (qs (ord k)) (P I (ph k) c) -∗ WP c (kt ⟨⟩) Q)
        -∗ WP c (.op (.waitDma2 sS src bM hsrc hdst) kt) Q) := by
  have e := wsend_step I K κ (c := c) (n := n) (p := p) (ns := ns) (nr := nr) k hns (src := src) (m := bM) rfl hS (hsrc := hsrc) (hdst := hdst) (kt := kt) (Q := Q)
  rw [acc_b k hk] at e
  exact e

end Send

end Cert.Mlp
-- ==== Proof.Parts.lean ====
module

public import proofs.«01_k».proof.Proof.Mem

/-!
# The two all-reduced layers

Each part of the body up to the last partial product, as a rule from what the device holds before it to what it holds after.
-/

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

/-- A part of the body at the kernel's buffers. -/
abbrev onArgs {β : Type 1} (f : ∀ (arg0 : Memref sig .tc .vmem S128x128 .f32) (harg0 : arg0.IsWhole) (arg1 : Memref sig .tc .vmem S128x256 .f32) (harg1 : arg1.IsWhole) (arg2 : Memref sig .tc .vmem S256x128 .f32) (harg2 : arg2.IsWhole) (arg3 : Memref sig .tc .vmem S128x256 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S256x128 .f32) (harg6 : arg6.IsWhole) (arg7 : Memref sig .tc .vmem S4x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S14x128x128 .f32) (harg10 : arg10.IsWhole) (arg11 : DmaSems sig S14) (arg12 : DmaSems sig S14) (arg13 : Memref sig .tc .vmem S128x128 .f32) (harg13 : arg13.IsWhole) (arg14 : DmaSems sig S32) (arg15 : DmaSems sig S32), β) : β :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) vM (Memref.isWhole_whole _) cc0_scratch3 cc0_scratch4 gM (Memref.isWhole_whole _) cc0_scratch6 cc0_scratch7

section Parts
variable (I : Dev nD → Ins F) (K : Dev nD × DK → ℕ) (κ : Dev nD → ℕ)

/-- A staged operand. -/
abbrev stgPts (c : Dev nD) (b : Ref sig .tc) (X : b.ty.Contents (Elt F)) : sProp 𝕄 := ((c : Thread nD τ).loc b) ↦{fullShare} X

/-- The word of a device. -/
abbrev dw (c : Dev nD) : BitVec 32 := Scalar.remsi (Scalar.divsi (Dev.word c) 1#32) 32#32

theorem ret_step {α : Type} {c : Dev nD} (a : α) {Q : α → sProp 𝕄} : Q a ⊢ WP c (.ret a) Q := by
  unfold WP; rw [wp_ret]; iintro H; imodintro; iexact H

theorem part1 (c : Dev nD) (Kt : (Σ' (d0 : Dev nD) (v2 : BitVec 32) (v3 : Sems sig S_), BitVec 32) → sProp 𝕄) :
    iprop(Ctx I K κ ∗ Sg c 0 ∗ (Sg c 6 -∗ Kt ⟨c, dw c, SemArray.scalar (sig.barrier 0 rfl), Scalar.muli (Scalar.xori (dw c) 8#32) 1#32⟩))
      ⊢ WP c (onArgs (k0_part1_skel (F := F))) Kt := by
  unfold k0_part1_skel
  simp only [semSignalWord, Prog.lift, Prog.bind_op, Prog.bind_ret, Prog.pure_eq_ret, wp_deviceId]
  iintro ⟨#HC, HS, Hk⟩
  iapply (signal_step I K κ 0 _ (dev1_eq c) _ rfl) $$ [HS]
  · isplitr <;> [iexact HC; iexact HS]
  iintro HS
  iapply (signal_step I K κ 1 _ (dev2_eq c) _ rfl) $$ [HS]
  · isplitr <;> [iexact HC; iexact HS]
  iintro HS
  iapply (signal_step I K κ 2 _ (dev3_eq c) _ rfl) $$ [HS]
  · isplitr <;> [iexact HC; iexact HS]
  iintro HS
  iapply (signal_step I K κ 3 _ (dev4_eq c) _ rfl) $$ [HS]
  · isplitr <;> [iexact HC; iexact HS]
  iintro HS
  iapply (signal_step I K κ 4 _ (dev5_eq c) _ rfl) $$ [HS]
  · isplitr <;> [iexact HC; iexact HS]
  iintro HS
  iapply (signal_step I K κ 5 _ (dev6_eq c) _ rfl) $$ [HS]
  · isplitr <;> [iexact HC; iexact HS]
  iintro HS
  iapply ret_step
  iapply Hk
  iexact HS

theorem part2 (c : Dev nD) (v2 v23 : BitVec 32) (fa : Vec F S128x128 .f32) (Kt : PUnit → sProp 𝕄) :
    iprop(Ctx I K κ ∗ Sg c 6 ∗ Rest I c ∗ stgPts c cc0_stg0_0 (I c).x ∗ stgPts c cc0_stg1_0 (I c).w0 ∗ stgPts c cc0_stg2_0 (I c).u0 ∗ aPts c fullShare fa
        ∗ ((St I c 1 0 1 0 0 ∗ stgPts c cc0_stg0_0 (I c).x ∗ stgPts c cc0_stg1_0 (I c).w0 ∗ stgPts c cc0_stg2_0 (I c).u0
          ∗ aPts c (qs 1) (P0 I c) ∗ aPts c (qs 2) (P0 I c) ∗ aPts c qk (P0 I c)) -∗ Kt ⟨⟩))
      ⊢ WP c (onArgs (k0_part2_skel (F := F)) c v2 (SemArray.scalar (sig.barrier 0 rfl)) v23) Kt := by
  unfold k0_part2_skel
  simp only [semSignalWord, semWaitWord, Prog.lift, Prog.bind_op, Prog.bind_ret, Prog.pure_eq_ret]
  iintro ⟨#HC, HS, HR, Hx, Hw, Hu, Ha, Hk⟩
  iapply (signal_step I K κ 6 _ (dev7_eq c) _ rfl) $$ [HS]
  · isplitr <;> [iexact HC; iexact HS]
  iintro HS
  iapply (load_all (m := Memref.whole cc0_stg0_0) fullShare (I c).x (I c).x (Memref.readAt_unit_zero (Elt F) cc0_stg0_0 hz2 _ _)) $$ Hx
  iintro Hx
  iapply (load_all (m := Memref.whole cc0_stg1_0) fullShare (I c).w0 (I c).w0 (Memref.readAt_unit_zero (Elt F) cc0_stg1_0 hz2 _ _)) $$ Hw
  iintro Hw
  iapply (load_all (m := Memref.whole cc0_stg2_0) fullShare (I c).u0 (I c).u0 (Memref.readAt_unit_zero (Elt F) cc0_stg2_0 hz2 _ _)) $$ Hu
  iintro Hu
  iapply load_a $$ Ha
  iintro Ha
  iapply (store_a (P0 I c) rfl) $$ Ha
  iintro ⟨Ha0, Ha1, Ha2, Hak⟩
  ihave HS := (St_begin I c) $$ [HS HR]
  · isplitl [HS] <;> [iexact HS; iexact HR]
  iapply (bar_step I K κ (p := 0) (ns := 0) (nr := 0) (nw := 0) 0 (fun _ _ => Nat.zero_le _)) $$ [HS]
  · isplitr <;> [iexact HC; iexact HS]
  iintro HS
  iapply (send_a I K κ (n := 1) (p := 0) (nr := 0) (nw := 0) 0 _ (dev8_eq c) rfl (by decide) le_rfl (by decide) rfl rfl rfl) $$ [HS Ha0]
  · isplitr; · iexact HC
    isplitl [HS] <;> [iexact HS; iexact Ha0]
  iintro HS
  iapply ret_step
  iapply Hk
  isplitl [HS]; · iexact HS
  isplitl [Hx]; · iexact Hx
  isplitl [Hw]; · iexact Hw
  isplitl [Hu]; · iexact Hu
  isplitl [Ha1]; · iexact Ha1
  isplitl [Ha2] <;> [iexact Ha2; iexact Hak]

theorem part3 (c : Dev nD) (v2 : BitVec 32) (fb : Vec F S128x128 .f32) (Kt : (Σ' (v60 : BitVec 32) (v69 : BitVec 32), BitVec 32) → sProp 𝕄) :
    iprop(Ctx I K κ ∗ St I c 1 0 1 0 0 ∗ aPts c (qs 1) (P0 I c) ∗ aPts c (qs 2) (P0 I c) ∗ aPts c qk (P0 I c) ∗ bPts c fullShare fb
        ∗ ((St I c 2 1 3 1 0 ∗ aPts c (qs 1) (P0 I c) ∗ aPts c (qs 2) (P0 I c) ∗ aPts c qk (P0 I c) ∗ bPts c (qs 2) (P1 I c) ∗ bPts c qk (P1 I c)) -∗ Kt ⟨Scalar.xori v2 7#32, Scalar.xori v2 4#32, Scalar.xori v2 3#32⟩))
      ⊢ WP c (onArgs (k0_part3_skel (F := F)) c v2 (SemArray.scalar (sig.barrier 0 rfl))) Kt := by
  unfold k0_part3_skel
  simp only [semWaitWord, Prog.lift, Prog.bind_op, Prog.bind_ret, Prog.pure_eq_ret]
  iintro ⟨#HC, HS, Ha1, Ha2, Hak, Hbf, Hk⟩
  iapply (recv_step I K κ (n := 1) (p := 0) (ns := 1) (nw := 0) 0 rfl 1 rfl (by decide) rfl rfl) $$ [HS]
  · isplitr <;> [iexact HC; iexact HS]
  iintro HS
  ihave HS := (Entails.of_eq (St_next I c 1 0 1 0 (by decide) (by decide))) $$ HS
  iapply load_a $$ Hak
  iintro Hak
  iapply (slot_step (I := I) (nr := 1) 0 (by decide) (P0 I (par 0 c)) rfl) $$ HS
  iintro HS
  iapply load_b $$ Hbf
  iintro Hbf
  iapply (store_b (P1 I c) rfl) $$ Hbf
  iintro ⟨Hb0, Hb1, Hb2, Hbk⟩
  iapply (bar_step I K κ (p := 1) (ns := 1) (nr := 1) (nw := 0) 1 (by decide)) $$ [HS]
  · isplitr <;> [iexact HC; iexact HS]
  iintro HS
  iapply (send_b I K κ (n := 2) (p := 1) (nr := 1) (nw := 0) 1 _ (dev9_eq c) rfl (by decide) (by decide) (by decide) rfl rfl rfl) $$ [HS Hb0]
  · isplitr; · iexact HC
    isplitl [HS] <;> [iexact HS; iexact Hb0]
  iintro HS
  iapply (send_b I K κ (n := 2) (p := 1) (nr := 1) (nw := 0) 2 _ (dev10_eq c) rfl (by decide) (by decide) (by decide) rfl rfl rfl) $$ [HS Hb1]
  · isplitr; · iexact HC
    isplitl [HS] <;> [iexact HS; iexact Hb1]
  iintro HS
  iapply ret_step
  iapply Hk
  isplitl [HS]; · iexact HS
  isplitl [Ha1]; · iexact Ha1
  isplitl [Ha2]; · iexact Ha2
  isplitl [Hak]; · iexact Hak
  isplitl [Hb2]; · iexact Hb2
  iexact Hbk

theorem part4 (c : Dev nD) (v60 v69 v78 : BitVec 32) (Kt : PUnit → sProp 𝕄) :
    iprop(Ctx I K κ ∗ St I c 2 1 3 1 0 ∗ aPts c (qs 1) (P0 I c) ∗ aPts c (qs 2) (P0 I c) ∗ aPts c qk (P0 I c) ∗ bPts c (qs 2) (P1 I c) ∗ bPts c qk (P1 I c)
        ∗ ((St I c 2 2 4 4 0 ∗ aPts c (qs 1) (P0 I c) ∗ aPts c (qs 2) (P0 I c) ∗ aPts c qk (P0 I c) ∗ bPts c qk (P1 I c)) -∗ Kt ⟨⟩))
      ⊢ WP c (onArgs (k0_part4_skel (F := F)) c v60 v69 v78) Kt := by
  unfold k0_part4_skel
  simp only [semWaitWord, Prog.lift, Prog.bind_op, Prog.bind_ret, Prog.pure_eq_ret]
  iintro ⟨#HC, HS, Ha1, Ha2, Hak, Hb2, Hbk, Hk⟩
  iapply (send_b I K κ (n := 2) (p := 1) (nr := 1) (nw := 0) 3 _ (dev11_eq c) rfl (by decide) (by decide) (by decide) rfl rfl rfl) $$ [HS Hb2]
  · isplitr; · iexact HC
    isplitl [HS] <;> [iexact HS; iexact Hb2]
  iintro HS
  iapply (recv_step I K κ (n := 2) (p := 1) (ns := 4) (nw := 0) 1 rfl 2 rfl (by decide) rfl rfl) $$ [HS]
  · isplitr <;> [iexact HC; iexact HS]
  iintro HS
  iapply (recv_step I K κ (n := 2) (p := 1) (ns := 4) (nw := 0) 2 rfl 3 rfl (by decide) rfl rfl) $$ [HS]
  · isplitr <;> [iexact HC; iexact HS]
  iintro HS
  iapply (recv_step I K κ (n := 2) (p := 1) (ns := 4) (nw := 0) 3 rfl 4 rfl (by decide) rfl rfl) $$ [HS]
  · isplitr <;> [iexact HC; iexact HS]
  iintro HS
  ihave HS := (Entails.of_eq (St_next I c 2 1 4 0 (by decide) (by decide))) $$ HS
  iapply ret_step
  iapply Hk
  isplitl [HS]; · iexact HS
  isplitl [Ha1]; · iexact Ha1
  isplitl [Ha2]; · iexact Ha2
  isplitl [Hak]; · iexact Hak
  iexact Hbk

theorem part5 (c : Dev nD) (v2 : BitVec 32) (Kt : (Σ' (v122 : BitVec 32), BitVec 32) → sProp 𝕄) :
    iprop(Ctx I K κ ∗ St I c 2 2 4 4 0 ∗ aPts c (qs 1) (P0 I c) ∗ aPts c (qs 2) (P0 I c) ∗ aPts c qk (P0 I c) ∗ bPts c qk (P1 I c)
        ∗ ((St I c 3 2 5 4 1 ∗ aPts c (qs 1) (P2 I c) ∗ aPts c (qs 2) (P2 I c) ∗ aPts c qk (P2 I c) ∗ bPts c qk (P1 I c)) -∗ Kt ⟨Scalar.xori v2 24#32, Scalar.xori v2 16#32⟩))
      ⊢ WP c (onArgs (k0_part5_skel (F := F)) c v2 (SemArray.scalar (sig.barrier 0 rfl))) Kt := by
  unfold k0_part5_skel
  simp only [semWaitWord, Prog.lift, Prog.bind_op, Prog.bind_ret, Prog.pure_eq_ret]
  iintro ⟨#HC, HS, Ha1, Ha2, Hak, Hbk, Hk⟩
  iapply (wsend_a I K κ (n := 2) (p := 2) (ns := 4) (nr := 4) 0 (by decide) (by decide) rfl) $$ [HS]
  · isplitr <;> [iexact HC; iexact HS]
  iintro ⟨HS, Ha0⟩
  iapply load_b $$ Hbk
  iintro Hbk
  iapply (slot_step (I := I) (nr := 4) 1 (by decide) (P1 I (par 1 c)) rfl) $$ HS
  iintro HS
  iapply (slot_step (I := I) (nr := 4) 2 (by decide) (P1 I (par 2 c)) rfl) $$ HS
  iintro HS
  iapply (slot_step (I := I) (nr := 4) 3 (by decide) (P1 I (par 3 c)) rfl) $$ HS
  iintro HS
  ihave Haf := (aPts_join c (P0 I c)) $$ [Ha0 Ha1 Ha2 Hak]
  · isplitl [Ha0]; · iexact Ha0
    isplitl [Ha1]; · iexact Ha1
    isplitl [Ha2] <;> [iexact Ha2; iexact Hak]
  iapply load_a $$ Haf
  iintro Haf
  iapply (store_a (P2 I c) rfl) $$ Haf
  iintro ⟨Ha0, Ha1, Ha2, Hak⟩
  iapply (bar_step I K κ (p := 2) (ns := 4) (nr := 4) (nw := 1) 2 (by decide)) $$ [HS]
  · isplitr <;> [iexact HC; iexact HS]
  iintro HS
  iapply (send_a I K κ (n := 3) (p := 2) (nr := 4) (nw := 1) 4 _ (dev12_eq c) rfl (by decide) (by decide) (by decide) rfl rfl rfl) $$ [HS Ha0]
  · isplitr; · iexact HC
    isplitl [HS] <;> [iexact HS; iexact Ha0]
  iintro HS
  iapply ret_step
  iapply Hk
  isplitl [HS]; · iexact HS
  isplitl [Ha1]; · iexact Ha1
  isplitl [Ha2]; · iexact Ha2
  isplitl [Hak]; · iexact Hak
  iexact Hbk

theorem part6 (c : Dev nD) (v2 v122 v131 : BitVec 32) (Kt : (BitVec 32) → sProp 𝕄) :
    iprop(Ctx I K κ ∗ St I c 3 2 5 4 1 ∗ aPts c (qs 1) (P2 I c) ∗ aPts c (qs 2) (P2 I c) ∗ aPts c qk (P2 I c) ∗ bPts c qk (P1 I c)
        ∗ ((St I c 3 2 7 6 1 ∗ aPts c qk (P2 I c) ∗ bPts c qk (P1 I c)) -∗ Kt (Scalar.xori v2 8#32)))
      ⊢ WP c (onArgs (k0_part6_skel (F := F)) c v2 v122 v131) Kt := by
  unfold k0_part6_skel
  simp only [semWaitWord, Prog.lift, Prog.bind_op, Prog.bind_ret, Prog.pure_eq_ret]
  iintro ⟨#HC, HS, Ha1, Ha2, Hak, Hbk, Hk⟩
  iapply (send_a I K κ (n := 3) (p := 2) (nr := 4) (nw := 1) 5 _ (dev13_eq c) rfl (by decide) (by decide) (by decide) rfl rfl rfl) $$ [HS Ha1]
  · isplitr; · iexact HC
    isplitl [HS] <;> [iexact HS; iexact Ha1]
  iintro HS
  iapply (send_a I K κ (n := 3) (p := 2) (nr := 4) (nw := 1) 6 _ (dev14_eq c) rfl (by decide) (by decide) (by decide) rfl rfl rfl) $$ [HS Ha2]
  · isplitr; · iexact HC
    isplitl [HS] <;> [iexact HS; iexact Ha2]
  iintro HS
  iapply (recv_step I K κ (n := 3) (p := 2) (ns := 7) (nw := 1) 4 rfl 5 rfl (by decide) rfl rfl) $$ [HS]
  · isplitr <;> [iexact HC; iexact HS]
  iintro HS
  iapply (recv_step I K κ (n := 3) (p := 2) (ns := 7) (nw := 1) 5 rfl 6 rfl (by decide) rfl rfl) $$ [HS]
  · isplitr <;> [iexact HC; iexact HS]
  iintro HS
  iapply ret_step
  iapply Hk
  isplitl [HS]; · iexact HS
  isplitl [Hak]; · iexact Hak
  iexact Hbk

theorem part7 (c : Dev nD) (v140 : BitVec 32) (Kt : (Σ' (v182 : FVec F S128x128 .f32), Vec F S1x128x128 .f32) → sProp 𝕄) :
    iprop(Ctx I K κ ∗ St I c 3 2 7 6 1 ∗ aPts c qk (P2 I c) ∗ bPts c qk (P1 I c)
        ∗ ((St I c 3 3 7 7 4 ∗ aPts c qk (P2 I c) ∗ bPts c (qs 0) (P1 I c) ∗ bPts c (qs 1) (P1 I c) ∗ bPts c (qs 2) (P1 I c) ∗ bPts c qk (P1 I c)) -∗ Kt ⟨k0_pay4 (P2 I c) (up (P2 I (par 4 c))), up (P2 I (par 5 c))⟩))
      ⊢ WP c (onArgs (k0_part7_skel (F := F)) v140) Kt := by
  unfold k0_part7_skel
  simp only [semWaitWord, Prog.lift, Prog.bind_op, Prog.bind_ret, Prog.pure_eq_ret]
  iintro ⟨#HC, HS, Hak, Hbk, Hk⟩
  iapply (recv_step I K κ (n := 3) (p := 2) (ns := 7) (nw := 1) 6 rfl 7 rfl (by decide) rfl rfl) $$ [HS]
  · isplitr <;> [iexact HC; iexact HS]
  iintro HS
  ihave HS := (Entails.of_eq (St_next I c 3 2 7 1 (by decide) (by decide))) $$ HS
  iapply (wsend_b I K κ (n := 3) (p := 3) (ns := 7) (nr := 7) 1 (by decide) (by decide) rfl) $$ [HS]
  · isplitr <;> [iexact HC; iexact HS]
  iintro ⟨HS, Hb0⟩
  iapply (wsend_b I K κ (n := 3) (p := 3) (ns := 7) (nr := 7) 2 (by decide) (by decide) rfl) $$ [HS]
  · isplitr <;> [iexact HC; iexact HS]
  iintro ⟨HS, Hb1⟩
  iapply (wsend_b I K κ (n := 3) (p := 3) (ns := 7) (nr := 7) 3 (by decide) (by decide) rfl) $$ [HS]
  · isplitr <;> [iexact HC; iexact HS]
  iintro ⟨HS, Hb2⟩
  iapply load_a $$ Hak
  iintro Hak
  iapply (slot_step (I := I) (nr := 7) 4 (by decide) (P2 I (par 4 c)) rfl) $$ HS
  iintro HS
  iapply (slot_step (I := I) (nr := 7) 5 (by decide) (P2 I (par 5 c)) rfl) $$ HS
  iintro HS
  iapply ret_step
  iapply Hk
  isplitl [HS]; · iexact HS
  isplitl [Hak]; · iexact Hak
  isplitl [Hb0]; · iexact Hb0
  isplitl [Hb1]; · iexact Hb1
  isplitl [Hb2]; · iexact Hb2
  iexact Hbk

theorem part8 (c : Dev nD) (Kt : (FVec F S128x256 .f32) → sProp 𝕄) :
    iprop(Ctx I K κ ∗ St I c 3 3 7 7 4 ∗ aPts c qk (P2 I c) ∗ bPts c (qs 0) (P1 I c) ∗ bPts c (qs 1) (P1 I c) ∗ bPts c (qs 2) (P1 I c) ∗ bPts c qk (P1 I c) ∗ stgPts c cc0_stg3_0 (I c).w1
        ∗ ((St I c 3 3 7 7 7 ∗ aPts c (qs 0) (P2 I c) ∗ aPts c (qs 1) (P2 I c) ∗ aPts c (qs 2) (P2 I c) ∗ aPts c qk (P2 I c) ∗ bPts c (qs 0) (H1 I c) ∗ bPts c (qs 1) (H1 I c) ∗ bPts c (qs 2) (H1 I c) ∗ bPts c qk (H1 I c) ∗ stgPts c cc0_stg3_0 (I c).w1) -∗ Kt (k0_pay6 (H1 I c) (I c).w1)))
      ⊢ WP c (onArgs (k0_part8_skel (F := F)) (k0_pay4 (P2 I c) (up (P2 I (par 4 c)))) (up (P2 I (par 5 c)))) Kt := by
  unfold k0_part8_skel
  simp only [semWaitWord, Prog.lift, Prog.bind_op, Prog.bind_ret, Prog.pure_eq_ret]
  iintro ⟨#HC, HS, Hak, Hb0, Hb1, Hb2, Hbk, Ho3, Hk⟩
  iapply (slot_step (I := I) (nr := 7) 6 (by decide) (P2 I (par 6 c)) rfl) $$ HS
  iintro HS
  ihave Hbf := (bPts_join c (P1 I c)) $$ [Hb0 Hb1 Hb2 Hbk]
  · isplitl [Hb0]; · iexact Hb0
    isplitl [Hb1]; · iexact Hb1
    isplitl [Hb2] <;> [iexact Hb2; iexact Hbk]
  iapply load_b $$ Hbf
  iintro Hbf
  iapply (store_b (H1 I c) rfl) $$ Hbf
  iintro ⟨Hb0, Hb1, Hb2, Hbk⟩
  iapply (wsend_a I K κ (n := 3) (p := 3) (ns := 7) (nr := 7) 4 (by decide) (by decide) rfl) $$ [HS]
  · isplitr <;> [iexact HC; iexact HS]
  iintro ⟨HS, Ha0⟩
  iapply (wsend_a I K κ (n := 3) (p := 3) (ns := 7) (nr := 7) 5 (by decide) (by decide) rfl) $$ [HS]
  · isplitr <;> [iexact HC; iexact HS]
  iintro ⟨HS, Ha1⟩
  iapply (wsend_a I K κ (n := 3) (p := 3) (ns := 7) (nr := 7) 6 (by decide) (by decide) rfl) $$ [HS]
  · isplitr <;> [iexact HC; iexact HS]
  iintro ⟨HS, Ha2⟩
  iapply load_b $$ Hbk
  iintro Hbk
  iapply (load_all (m := Memref.whole cc0_stg3_0) fullShare (I c).w1 (I c).w1 (Memref.readAt_unit_zero (Elt F) cc0_stg3_0 hz2 _ _)) $$ Ho3
  iintro Ho3
  iapply ret_step
  iapply Hk
  isplitl [HS]; · iexact HS
  isplitl [Ha0]; · iexact Ha0
  isplitl [Ha1]; · iexact Ha1
  isplitl [Ha2]; · iexact Ha2
  isplitl [Hak]; · iexact Hak
  isplitl [Hb0]; · iexact Hb0
  isplitl [Hb1]; · iexact Hb1
  isplitl [Hb2]; · iexact Hb2
  isplitl [Hbk]; · iexact Hbk
  iexact Ho3

theorem part9 (c : Dev nD) (v2 : BitVec 32) (Kt : (BitVec 32) → sProp 𝕄) :
    iprop(Ctx I K κ ∗ St I c 3 3 7 7 7 ∗ aPts c (qs 0) (P2 I c) ∗ aPts c (qs 1) (P2 I c) ∗ aPts c (qs 2) (P2 I c) ∗ aPts c qk (P2 I c) ∗ bPts c (qs 0) (H1 I c) ∗ bPts c (qs 1) (H1 I c) ∗ bPts c (qs 2) (H1 I c) ∗ bPts c qk (H1 I c) ∗ stgPts c cc0_stg4_0 (I c).u1
        ∗ ((St I c 3 3 8 8 7 ∗ aPts c (qs 1) (P3 I c) ∗ aPts c (qs 2) (P3 I c) ∗ aPts c qk (P3 I c) ∗ bPts c (qs 0) (P4 I c) ∗ bPts c (qs 1) (P4 I c) ∗ bPts c (qs 2) (P4 I c) ∗ bPts c qk (P4 I c) ∗ stgPts c cc0_stg4_0 (I c).u1) -∗ Kt (Scalar.xori v2 7#32)))
      ⊢ WP c (onArgs (k0_part9_skel (F := F)) c v2 (k0_pay6 (H1 I c) (I c).w1)) Kt := by
  unfold k0_part9_skel
  simp only [semWaitWord, Prog.lift, Prog.bind_op, Prog.bind_ret, Prog.pure_eq_ret]
  iintro ⟨#HC, HS, Ha0, Ha1, Ha2, Hak, Hb0, Hb1, Hb2, Hbk, Ho4, Hk⟩
  iapply (load_all (m := Memref.whole cc0_stg4_0) fullShare (I c).u1 (I c).u1 (Memref.readAt_unit_zero (Elt F) cc0_stg4_0 hz2 _ _)) $$ Ho4
  iintro Ho4
  ihave Haf := (aPts_join c (P2 I c)) $$ [Ha0 Ha1 Ha2 Hak]
  · isplitl [Ha0]; · iexact Ha0
    isplitl [Ha1]; · iexact Ha1
    isplitl [Ha2] <;> [iexact Ha2; iexact Hak]
  iapply load_a $$ Haf
  iintro Haf
  iapply (store_a (P3 I c) rfl) $$ Haf
  iintro ⟨Ha0, Ha1, Ha2, Hak⟩
  iapply (send_a I K κ (n := 3) (p := 3) (nr := 7) (nw := 7) 7 _ (dev15_eq c) rfl (by decide) (by decide) (by decide) rfl rfl rfl) $$ [HS Ha0]
  · isplitr; · iexact HC
    isplitl [HS] <;> [iexact HS; iexact Ha0]
  iintro HS
  iapply (recv_step I K κ (n := 3) (p := 3) (ns := 8) (nw := 7) 7 rfl 8 rfl (by decide) rfl rfl) $$ [HS]
  · isplitr <;> [iexact HC; iexact HS]
  iintro HS
  iapply load_a $$ Hak
  iintro Hak
  iapply (slot_step (I := I) (nr := 8) 7 (by decide) (P3 I (par 0 c)) rfl) $$ HS
  iintro HS
  ihave Hbf := (bPts_join c (H1 I c)) $$ [Hb0 Hb1 Hb2 Hbk]
  · isplitl [Hb0]; · iexact Hb0
    isplitl [Hb1]; · iexact Hb1
    isplitl [Hb2] <;> [iexact Hb2; iexact Hbk]
  iapply load_b $$ Hbf
  iintro Hbf
  iapply (store_b (P4 I c) rfl) $$ Hbf
  iintro ⟨Hb0, Hb1, Hb2, Hbk⟩
  iapply ret_step
  iapply Hk
  isplitl [HS]; · iexact HS
  isplitl [Ha1]; · iexact Ha1
  isplitl [Ha2]; · iexact Ha2
  isplitl [Hak]; · iexact Hak
  isplitl [Hb0]; · iexact Hb0
  isplitl [Hb1]; · iexact Hb1
  isplitl [Hb2]; · iexact Hb2
  isplitl [Hbk]; · iexact Hbk
  iexact Ho4

theorem part10 (c : Dev nD) (v2 v238 : BitVec 32) (Kt : (Σ' (v247 : BitVec 32), BitVec 32) → sProp 𝕄) :
    iprop(Ctx I K κ ∗ St I c 3 3 8 8 7 ∗ aPts c (qs 1) (P3 I c) ∗ aPts c (qs 2) (P3 I c) ∗ aPts c qk (P3 I c) ∗ bPts c (qs 0) (P4 I c) ∗ bPts c (qs 1) (P4 I c) ∗ bPts c (qs 2) (P4 I c) ∗ bPts c qk (P4 I c)
        ∗ ((St I c 3 3 11 8 7 ∗ aPts c (qs 1) (P3 I c) ∗ aPts c (qs 2) (P3 I c) ∗ aPts c qk (P3 I c) ∗ bPts c qk (P4 I c)) -∗ Kt ⟨Scalar.xori v2 4#32, Scalar.xori v2 3#32⟩))
      ⊢ WP c (onArgs (k0_part10_skel (F := F)) c v2 v238) Kt := by
  unfold k0_part10_skel
  simp only [semWaitWord, Prog.lift, Prog.bind_op, Prog.bind_ret, Prog.pure_eq_ret]
  iintro ⟨#HC, HS, Ha1, Ha2, Hak, Hb0, Hb1, Hb2, Hbk, Hk⟩
  iapply (send_b I K κ (n := 3) (p := 3) (nr := 8) (nw := 7) 8 _ (dev16_eq c) rfl (by decide) (by decide) (by decide) rfl rfl rfl) $$ [HS Hb0]
  · isplitr; · iexact HC
    isplitl [HS] <;> [iexact HS; iexact Hb0]
  iintro HS
  iapply (send_b I K κ (n := 3) (p := 3) (nr := 8) (nw := 7) 9 _ (dev17_eq c) rfl (by decide) (by decide) (by decide) rfl rfl rfl) $$ [HS Hb1]
  · isplitr; · iexact HC
    isplitl [HS] <;> [iexact HS; iexact Hb1]
  iintro HS
  iapply (send_b I K κ (n := 3) (p := 3) (nr := 8) (nw := 7) 10 _ (dev18_eq c) rfl (by decide) (by decide) (by decide) rfl rfl rfl) $$ [HS Hb2]
  · isplitr; · iexact HC
    isplitl [HS] <;> [iexact HS; iexact Hb2]
  iintro HS
  iapply ret_step
  iapply Hk
  isplitl [HS]; · iexact HS
  isplitl [Ha1]; · iexact Ha1
  isplitl [Ha2]; · iexact Ha2
  isplitl [Hak]; · iexact Hak
  iexact Hbk

theorem part11 (c : Dev nD) (v247 v256 : BitVec 32) (Kt : (FVec F S128x128 .f32) → sProp 𝕄) :
    iprop(Ctx I K κ ∗ St I c 3 3 11 8 7 ∗ aPts c (qs 1) (P3 I c) ∗ aPts c (qs 2) (P3 I c) ∗ aPts c qk (P3 I c) ∗ bPts c qk (P4 I c)
        ∗ ((St I c 3 3 11 11 8 ∗ aPts c (qs 0) (P3 I c) ∗ aPts c (qs 1) (P3 I c) ∗ aPts c (qs 2) (P3 I c) ∗ aPts c qk (P3 I c) ∗ bPts c qk (P4 I c)) -∗ Kt (k0_pay9 (P4 I c) (up (P4 I (par 1 c))) (up (P4 I (par 2 c))))))
      ⊢ WP c (onArgs (k0_part11_skel (F := F)) v247 v256) Kt := by
  unfold k0_part11_skel
  simp only [semWaitWord, Prog.lift, Prog.bind_op, Prog.bind_ret, Prog.pure_eq_ret]
  iintro ⟨#HC, HS, Ha1, Ha2, Hak, Hbk, Hk⟩
  iapply (recv_step I K κ (n := 3) (p := 3) (ns := 11) (nw := 7) 8 rfl 9 rfl (by decide) rfl rfl) $$ [HS]
  · isplitr <;> [iexact HC; iexact HS]
  iintro HS
  iapply (recv_step I K κ (n := 3) (p := 3) (ns := 11) (nw := 7) 9 rfl 10 rfl (by decide) rfl rfl) $$ [HS]
  · isplitr <;> [iexact HC; iexact HS]
  iintro HS
  iapply (recv_step I K κ (n := 3) (p := 3) (ns := 11) (nw := 7) 10 rfl 11 rfl (by decide) rfl rfl) $$ [HS]
  · isplitr <;> [iexact HC; iexact HS]
  iintro HS
  iapply (wsend_a I K κ (n := 3) (p := 3) (ns := 11) (nr := 11) 7 (by decide) (by decide) rfl) $$ [HS]
  · isplitr <;> [iexact HC; iexact HS]
  iintro ⟨HS, Ha0⟩
  iapply load_b $$ Hbk
  iintro Hbk
  iapply (slot_step (I := I) (nr := 11) 8 (by decide) (P4 I (par 1 c)) rfl) $$ HS
  iintro HS
  iapply (slot_step (I := I) (nr := 11) 9 (by decide) (P4 I (par 2 c)) rfl) $$ HS
  iintro HS
  iapply ret_step
  iapply Hk
  isplitl [HS]; · iexact HS
  isplitl [Ha0]; · iexact Ha0
  isplitl [Ha1]; · iexact Ha1
  isplitl [Ha2]; · iexact Ha2
  isplitl [Hak]; · iexact Hak
  iexact Hbk

theorem part12 (c : Dev nD) (v2 : BitVec 32) (Kt : (Σ' (v300 : BitVec 32) (v309 : BitVec 32), BitVec 32) → sProp 𝕄) :
    iprop(Ctx I K κ ∗ St I c 3 3 11 11 8 ∗ aPts c (qs 0) (P3 I c) ∗ aPts c (qs 1) (P3 I c) ∗ aPts c (qs 2) (P3 I c) ∗ aPts c qk (P3 I c) ∗ bPts c qk (P4 I c)
        ∗ ((St I c 3 3 13 11 8 ∗ aPts c (qs 2) (P5 I c) ∗ aPts c qk (P5 I c) ∗ bPts c qk (P4 I c)) -∗ Kt ⟨Scalar.xori v2 24#32, Scalar.xori v2 16#32, Scalar.xori v2 8#32⟩))
      ⊢ WP c (onArgs (k0_part12_skel (F := F)) c v2 (k0_pay9 (P4 I c) (up (P4 I (par 1 c))) (up (P4 I (par 2 c))))) Kt := by
  unfold k0_part12_skel
  simp only [semWaitWord, Prog.lift, Prog.bind_op, Prog.bind_ret, Prog.pure_eq_ret]
  iintro ⟨#HC, HS, Ha0, Ha1, Ha2, Hak, Hbk, Hk⟩
  iapply (slot_step (I := I) (nr := 11) 10 (by decide) (P4 I (par 3 c)) rfl) $$ HS
  iintro HS
  ihave Haf := (aPts_join c (P3 I c)) $$ [Ha0 Ha1 Ha2 Hak]
  · isplitl [Ha0]; · iexact Ha0
    isplitl [Ha1]; · iexact Ha1
    isplitl [Ha2] <;> [iexact Ha2; iexact Hak]
  iapply load_a $$ Haf
  iintro Haf
  iapply (store_a (P5 I c) rfl) $$ Haf
  iintro ⟨Ha0, Ha1, Ha2, Hak⟩
  iapply (send_a I K κ (n := 3) (p := 3) (nr := 11) (nw := 8) 11 _ (dev19_eq c) rfl (by decide) (by decide) (by decide) rfl rfl rfl) $$ [HS Ha0]
  · isplitr; · iexact HC
    isplitl [HS] <;> [iexact HS; iexact Ha0]
  iintro HS
  iapply (send_a I K κ (n := 3) (p := 3) (nr := 11) (nw := 8) 12 _ (dev20_eq c) rfl (by decide) (by decide) (by decide) rfl rfl rfl) $$ [HS Ha1]
  · isplitr; · iexact HC
    isplitl [HS] <;> [iexact HS; iexact Ha1]
  iintro HS
  iapply ret_step
  iapply Hk
  isplitl [HS]; · iexact HS
  isplitl [Ha2]; · iexact Ha2
  isplitl [Hak]; · iexact Hak
  iexact Hbk

theorem part13 (c : Dev nD) (v300 v309 v318 : BitVec 32) (Kt : PUnit → sProp 𝕄) :
    iprop(Ctx I K κ ∗ St I c 3 3 13 11 8 ∗ aPts c (qs 2) (P5 I c) ∗ aPts c qk (P5 I c) ∗ bPts c qk (P4 I c)
        ∗ ((St I c 3 3 14 14 9 ∗ aPts c qk (P5 I c) ∗ bPts c (qs 0) (P4 I c) ∗ bPts c qk (P4 I c)) -∗ Kt ⟨⟩))
      ⊢ WP c (onArgs (k0_part13_skel (F := F)) c v300 v309 v318) Kt := by
  unfold k0_part13_skel
  simp only [semWaitWord, Prog.lift, Prog.bind_op, Prog.bind_ret, Prog.pure_eq_ret]
  iintro ⟨#HC, HS, Ha2, Hak, Hbk, Hk⟩
  iapply (send_a I K κ (n := 3) (p := 3) (nr := 11) (nw := 8) 13 _ (dev21_eq c) rfl (by decide) (by decide) (by decide) rfl rfl rfl) $$ [HS Ha2]
  · isplitr; · iexact HC
    isplitl [HS] <;> [iexact HS; iexact Ha2]
  iintro HS
  iapply (recv_step I K κ (n := 3) (p := 3) (ns := 14) (nw := 8) 11 rfl 12 rfl (by decide) rfl rfl) $$ [HS]
  · isplitr <;> [iexact HC; iexact HS]
  iintro HS
  iapply (recv_step I K κ (n := 3) (p := 3) (ns := 14) (nw := 8) 12 rfl 13 rfl (by decide) rfl rfl) $$ [HS]
  · isplitr <;> [iexact HC; iexact HS]
  iintro HS
  iapply (recv_step I K κ (n := 3) (p := 3) (ns := 14) (nw := 8) 13 rfl 14 rfl (by decide) rfl rfl) $$ [HS]
  · isplitr <;> [iexact HC; iexact HS]
  iintro HS
  iapply (wsend_b I K κ (n := 3) (p := 3) (ns := 14) (nr := 14) 8 (by decide) (by decide) rfl) $$ [HS]
  · isplitr <;> [iexact HC; iexact HS]
  iintro ⟨HS, Hb0⟩
  iapply ret_step
  iapply Hk
  isplitl [HS]; · iexact HS
  isplitl [Hak]; · iexact Hak
  isplitl [Hb0]; · iexact Hb0
  iexact Hbk

theorem part14 (c : Dev nD) (Kt : PUnit → sProp 𝕄) :
    iprop(Ctx I K κ ∗ St I c 3 3 14 14 9 ∗ aPts c qk (P5 I c) ∗ bPts c (qs 0) (P4 I c) ∗ bPts c qk (P4 I c)
        ∗ ((St I c 3 3 14 14 12 ∗ aPts c (qs 0) (P5 I c) ∗ aPts c qk (P5 I c) ∗ bPts c (qs 0) (H2 I c) ∗ bPts c (qs 1) (H2 I c) ∗ bPts c (qs 2) (H2 I c) ∗ bPts c qk (H2 I c)) -∗ Kt ⟨⟩))
      ⊢ WP c (onArgs (k0_part14_skel (F := F))) Kt := by
  unfold k0_part14_skel
  simp only [semWaitWord, Prog.lift, Prog.bind_op, Prog.bind_ret, Prog.pure_eq_ret]
  iintro ⟨#HC, HS, Hak, Hb0, Hbk, Hk⟩
  iapply (wsend_b I K κ (n := 3) (p := 3) (ns := 14) (nr := 14) 9 (by decide) (by decide) rfl) $$ [HS]
  · isplitr <;> [iexact HC; iexact HS]
  iintro ⟨HS, Hb1⟩
  iapply (wsend_b I K κ (n := 3) (p := 3) (ns := 14) (nr := 14) 10 (by decide) (by decide) rfl) $$ [HS]
  · isplitr <;> [iexact HC; iexact HS]
  iintro ⟨HS, Hb2⟩
  iapply load_a $$ Hak
  iintro Hak
  iapply (slot_step (I := I) (nr := 14) 11 (by decide) (P5 I (par 4 c)) rfl) $$ HS
  iintro HS
  iapply (slot_step (I := I) (nr := 14) 12 (by decide) (P5 I (par 5 c)) rfl) $$ HS
  iintro HS
  iapply (slot_step (I := I) (nr := 14) 13 (by decide) (P5 I (par 6 c)) rfl) $$ HS
  iintro HS
  ihave Hbf := (bPts_join c (P4 I c)) $$ [Hb0 Hb1 Hb2 Hbk]
  · isplitl [Hb0]; · iexact Hb0
    isplitl [Hb1]; · iexact Hb1
    isplitl [Hb2] <;> [iexact Hb2; iexact Hbk]
  iapply load_b $$ Hbf
  iintro Hbf
  iapply (store_b (H2 I c) rfl) $$ Hbf
  iintro ⟨Hb0, Hb1, Hb2, Hbk⟩
  iapply (wsend_a I K κ (n := 3) (p := 3) (ns := 14) (nr := 14) 11 (by decide) (by decide) rfl) $$ [HS]
  · isplitr <;> [iexact HC; iexact HS]
  iintro ⟨HS, Ha0⟩
  iapply ret_step
  iapply Hk
  isplitl [HS]; · iexact HS
  isplitl [Ha0]; · iexact Ha0
  isplitl [Hak]; · iexact Hak
  isplitl [Hb0]; · iexact Hb0
  isplitl [Hb1]; · iexact Hb1
  isplitl [Hb2]; · iexact Hb2
  iexact Hbk

end Parts

end Cert.Mlp
-- ==== Proof.Scatter.lean ====
module

public import proofs.«01_k».proof.Proof.Parts

/-!
# The reduce-scatter

What a device holds between two operations of the reduce-scatter, and the rule of each of its guarded blocks.
-/

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

section Scatter
variable (I : Dev nD → Ins F) (K : Dev nD × DK → ℕ) (κ : Dev nD → ℕ)

/-- The tokens of block `j`, which the device sends to device `j`: those of its own landing and of the one there. -/
def tk2 (c : Dev nD) (j : Fin 32) : sProp 𝕄 :=
  iprop(atPos ER (dcell c (.snd2 j)) 0 ∅ 0
    ∗ if j = c then iprop(emp) else iprop(dutyTok ER (dcell c (.snd2 j)) 0 0 ∗ dutyTok ER (dcell j (.rcv2 c)) 0 0))
/-- The sending side of block `j`, with the blocks below `js` sent and those below `ws` waited for. -/
def exS2 (c : Dev nD) (js ws : ℕ) (j : Fin 32) : sProp 𝕄 :=
  if j.val < ws then iprop(semVal (dcell c (.snd2 j)) 0 ∗ if j = c then iprop(emp) else aRowPts c j (FA I c))
  else if j.val < js then iprop(atPos ER (dcell c (.snd2 j)) 0 ∅ 0 ∗ if j = c then iprop(emp) else cred (tallyAt (dcell c (.snd2 j)) () N2))
  else iprop(atPos ER (dcell c (.snd2 j)) 0 ∅ 0
    ∗ if j = c then iprop(emp) else iprop(dutyTok ER (dcell c (.snd2 j)) 0 0 ∗ dutyTok ER (dcell j (.rcv2 c)) 0 0 ∗ gRowAny j c ∗ aRowPts c j (FA I c)))
/-- The receiving side of the block from device `s`, with those below `rs` received. -/
def exR2 (c : Dev nD) (rs : ℕ) (s : Fin 32) : sProp 𝕄 :=
  if s.val < rs then iprop(semVal (dcell c (.rcv2 s)) 0 ∗ if s = c then iprop(emp) else gRowPts c s (R2 I c))
  else iprop(atPos ER (dcell c (.rcv2 s)) 0 ∅ 0 ∗ if s = c then iprop(emp) else cred (tallyAt (dcell c (.rcv2 s)) () N2))

/-- Everything of the reduce-scatter that device `c` holds with `js` blocks sent, `rs` received and `ws` of its own waited for. -/
def Sc (c : Dev nD) (js rs ws : ℕ) : sProp 𝕄 :=
  iprop((∃ W, owes (c : Thread nD τ) (Ow c 7 14 js) W) ∗ bigSep Finset.univ (exS2 I c js ws) ∗ bigSep Finset.univ (exR2 I c rs))

theorem amount_snd2 (c : Dev nD) (j : Fin 32) (d : Fin 7) : (Rd I).amount (dcell c (.snd2 j)) 0 d = N2 := by rw [amount_at]; rfl
theorem amount_rcv2 (c : Dev nD) (s : Fin 32) (d : Fin 7) : (Rd I).amount (dcell c (.rcv2 s)) 0 d = N2 := by rw [amount_at]; rfl
theorem expect_snd2 (c : Dev nD) (j : Fin 32) (h : j ≠ c) : 0 + N2 = (Rd I).expect (dcell c (.snd2 j)) 0 := by rw [expect_at I c (.snd2 j) h, Nat.zero_add]; rfl
theorem expect_rcv2 (c : Dev nD) (s : Fin 32) (h : s ≠ c) : 0 + N2 = (Rd I).expect (dcell c (.rcv2 s)) 0 := by rw [expect_at I c (.rcv2 s) h, Nat.zero_add]; rfl
theorem duty_snd2 (c : Dev nD) (j : Fin 32) (h : j ≠ c) : (0 : Fin 7) ∈ (Rd I).duties (dcell c (.snd2 j)) 0 := by
  rw [duties_used I c (.snd2 j) h]; exact Finset.mem_singleton_self _
theorem duty_rcv2 (c : Dev nD) (s : Fin 32) (h : s ≠ c) : (0 : Fin 7) ∈ (Rd I).duties (dcell c (.rcv2 s)) 0 := by
  rw [duties_used I c (.rcv2 s) h]; exact Finset.mem_singleton_self _
theorem row_amount (c : Fin 32) (q : DmaSem sig) : (gRow c).view.amount (SemLoc.dma q : SemLoc sig) = N2 := rfl
theorem row_credit_g (s : Fin 32) : (gRow s).view.dmaCredit = N2 := rfl
theorem row_credit_a (s : Fin 32) : (aRow s).view.dmaCredit = N2 := rfl

section Ops
variable {α : Type} {c : Dev nD} {rs ws : ℕ}

theorem gRowAny_open (c : Dev nD) (k : Fin 32) :
    gRowAny c k ⊢ (iprop(∃ f, (gRow k).view.loc (c : Thread nD τ) ↦[(gRow k).view.set]{fullShare} f) : sProp 𝕄) := by
  unfold gRowAny; iintro H; iexact H

theorem Sc_skip (j : Fin 32) (h : j = c) : Sc I c j.val rs ws = Sc I c (j.val + 1) rs ws := by
  have hO : Ow c 7 14 j.val = Ow c 7 14 (j.val + 1) := by rw [h]; exact Ow_skip c 7 14
  have hS : ∀ x, exS2 I c j.val ws x = exS2 I c (j.val + 1) ws x := fun x => by
    unfold exS2
    by_cases hx : x = c
    · simp only [if_pos hx, ite_self]
    · have hne : x.val ≠ j.val := fun e => hx (h ▸ Fin.ext e)
      congr 1
      exact if_congr ⟨fun a => by omega, fun a => by omega⟩ rfl rfl
  unfold Sc
  rw [hO, bigSep_congr fun x _ => hS x]

theorem aRow_read (j : Fin 32) (v : Vec F S128x128 .f32) : iprop((aRow j).view.loc (c : Thread nD τ) ↦[(aRow j).view.set]{fullShare} v) = (aRowPts c j v : sProp 𝕄) := rfl

/-- Block `j` is sent. -/
theorem send2_step (j : Fin 32) (hj : j ≠ c) (hw : ws ≤ j.val) (d : Dev nD) (hd : d = j)
    {sS sR : DmaSem sig} {sl m : Memref sig .tc .vmem S4x128 .f32} (hS : sS = dsem (.snd2 j)) (hR : sR = dsem (.rcv2 c)) (hsl : sl = gRow c) (hm : m = aRow j)
    {hsc : (sl : Memref sig (Dev.tc d : Thread nD τ).2.kind .vmem S4x128 .f32).view.ref.isScScratch = false}
    {hsrc : m.view.WordExact} {hdst : sl.view.WordExact}
    {hsem : DmaTarget.Typed .vmem (.dma sR) (.remote (Dev.tc d : Thread nD τ) sl (.dma sS) hsc)}
    {kt : PUnit → Prog (TpuEff nD τ sig (Elt F) Λ₀ .tc) α} {Q : α → sProp 𝕄} :
    iprop(Ctx I K κ ∗ Sc I c j.val rs ws)
      ⊢ iprop((Sc I c (j.val + 1) rs ws -∗ WP c (kt ⟨⟩) Q)
        -∗ WP c (.op (.enqueueDma m (.remote (Dev.tc d : Thread nD τ) sl (.dma sS) hsc) (.dma sR) hsrc hdst hsem) kt) Q) := by
  subst hd hS hR hsl hm
  have hpay₁ : ((aRow d).view.loc (c : Thread nD τ) ↦[(aRow d).view.set]{fullShare} (FA I c) : sProp 𝕄) ⊢ (Rd I).payload (dcell c (.snd2 d)) 0 0 := by
    rw [payload_at]; exact BI.Entails.refl _
  have hpay₂ (fd : Buf (Elt F) ((gRow c).view.loc (d : Thread nD τ))) :
      ((gRow c).view.loc (d : Thread nD τ) ↦[(gRow c).view.set]{fullShare}
        ((gRow c).view.write (Elt F) fd ((aRow d).view.read (Elt F) (FA I c)) Finset.univ) : sProp 𝕄) ⊢ (Rd I).payload (dcell d (.rcv2 c)) 0 0 := by
    rw [payload_at, row_landed]; exact BI.Entails.refl _
  have hlt : ¬ d.val < ws := Nat.not_lt.mpr hw
  have hopen : exS2 I c d.val ws d = iprop(atPos ER (dcell c (.snd2 d)) 0 ∅ 0
      ∗ dutyTok ER (dcell c (.snd2 d)) 0 0 ∗ dutyTok ER (dcell d (.rcv2 c)) 0 0 ∗ gRowAny d c ∗ aRowPts c d (FA I c)) := by
    unfold exS2; rw [if_neg hlt, if_neg (Nat.lt_irrefl _), if_neg hj]
  have hshut : exS2 I c (d.val + 1) ws d = iprop(atPos ER (dcell c (.snd2 d)) 0 ∅ 0 ∗ cred (tallyAt (dcell c (.snd2 d)) () N2)) := by
    unfold exS2; rw [if_neg hlt, if_pos (Nat.lt_succ_self _), if_neg hj]
  have hrest : ∀ x ∈ (Finset.univ : Finset (Fin 32)), x ≠ d → exS2 I c d.val ws x = exS2 I c (d.val + 1) ws x := fun x _ hx => by
    have : x.val ≠ d.val := fun h => hx (Fin.ext h)
    unfold exS2
    congr 1
    exact if_congr ⟨fun a => by omega, fun a => by omega⟩ rfl rfl
  unfold Sc
  iintro ⟨#HC, ⟨⟨%W, HO⟩, HS, HR⟩⟩ Hk
  ihave HS := (fam_turn (Φ := exS2 I c d.val ws) (Ψ := exS2 I c (d.val + 1) ws) d (Finset.mem_univ d) hrest) $$ HS
  icases HS with ⟨Hx, HS⟩
  ihave Hx := (Entails.of_eq hopen) $$ Hx
  icases Hx with ⟨Hat, Ht1, Ht2, Hs, Hm⟩
  ihave Hs := (gRowAny_open d c) $$ Hs
  icases Hs with ⟨%fd, Hs⟩
  ihave #HI1 := (ctx_inv I K κ c (.snd2 d)) $$ HC
  ihave #HI2 := (ctx_inv I K κ d (.rcv2 c)) $$ HC
  ihave #HR1 := (ctx_reached I K κ c (.snd2 d)) $$ HC
  ihave #HR2 := (ctx_reached I K κ d (.rcv2 c)) $$ HC
  iapply (Rounds.wp_send_pointsTo 𝒱₀ ER (Rd I) (c : Thread nD τ) none (c' := (d : Thread nD τ)) (src := aRow d) (dst := gRow c)
      (sS := .dma (dsem (.snd2 d))) (sem := .dma (dsem (.rcv2 c)))
      (κ₁ := K (c, .snd2 d)) (κ₂ := K (d, .rcv2 c)) (r₁ := 0) (r₂ := 0) (d₁ := 0) (d₂ := 0) (fd := fd) (fs := FA I c) (q := fullShare)
      (duty_snd2 I c d hj) (duty_rcv2 I d c (Ne.symm hj)) () () N2 (row_amount c _) (amount_snd2 I c d 0) (amount_rcv2 I d c 0) (Ow c 7 14 (d.val + 1)) (Ow_block c 7 14 d hj) (W := W)
      hpay₁ (hpay₂ fd)) $$ [HO Hm Hs Ht1 Ht2]
  · isplitr; · iexact HI1
    isplitr; · iexact HI2
    isplitl [Hm]; · unfold aRowPts; iexact Hm
    isplitl [Hs]; · iexact Hs
    isplitl [HO]; · iexact HO
    isplitl [Ht1]; · iexact Ht1
    isplitr; · iexact HR1
    isplitl [Ht2]; · iexact Ht2
    iexact HR2
  iintro ⟨Hc, HO⟩
  iapply Hk
  isplitl [HO]; · iexists W; iexact HO
  isplitl [HS Hat Hc]
  · iapply HS
    iapply (Entails.of_eq hshut.symm)
    isplitl [Hat] <;> iassumption
  iexact HR

theorem sem_eq (A : DmaSems sig S32) (j : Fin 32) {off : Fin 1 → ℕ} (h : off = ![j.val]) {inb} :
    ((A.slice (Rect.unit (s := S32) off S1.size inb)).squeeze S_ squeezes_S1_S_).sem = at32 A j := by subst h; rfl
theorem gRow_eq (j : Fin 32) {off : Fin 2 → ℕ} (h : off = ![4 * j.val, 0]) {inb} {hs} :
    (gM : Memref sig .tc .vmem S128x128 .f32).slice (Rect.unit (s := S128x128) off S4x128.size inb) hs = gRow j := by subst h; rfl
theorem aRow_eq (j : Fin 32) {off : Fin 2 → ℕ} (h : off = ![4 * j.val, 0]) {inb} {hs} :
    (aM : Memref sig .tc .vmem S128x128 .f32).slice (Rect.unit (s := S128x128) off S4x128.size inb) hs = aRow j := by subst h; rfl

/-- The guarded block that sends device `j` its rows, if `j` is another device. -/
theorem send2_block (j : Fin 32) {cond : BitVec 1} (hc : cond = 1#1 ↔ j ≠ c) (hw : ws ≤ j.val) {n : ℕ} (hn : n = j.val)
    {o1 : Fin 1 → ℕ} (h1 : o1 = ![c.val]) {o2 : Fin 2 → ℕ} (h2 : o2 = ![4 * c.val, 0])
    {hlt : cond = 1#1 → n < nD} {iS : cond = 1#1 → _} {iR : cond = 1#1 → _} {iG : cond = 1#1 → _} {iA : cond = 1#1 → _}
    {dc : Decidable (cond = 1#1)}
    {rest : Prog (TpuEff nD τ sig (Elt F) Λ₀ .tc) α} {Q : α → sProp 𝕄} :
    iprop(Ctx I K κ ∗ Sc I c j.val rs ws)
      ⊢ iprop((Sc I c (j.val + 1) rs ws -∗ WP c rest Q)
        -∗ WP c (@dite _ (cond = 1#1) dc
          (fun h => Prog.lift (.enqueueDma ((aM : Memref sig .tc .vmem S128x128 .f32).slice (Rect.unit (s := S128x128) ![4 * j.val, 0] S4x128.size (iA h)) (fun _ => rfl))
              (.remote (Dev.tc (⟨n, hlt h⟩ : Dev nD) : Thread nD τ) ((gM : Memref sig .tc .vmem S128x128 .f32).slice (Rect.unit (s := S128x128) o2 S4x128.size (iG h)) (fun _ => rfl))
                (.dma (((cc0_scratch6 : DmaSems sig S32).slice (Rect.unit (s := S32) ![j.val] S1.size (iS h))).squeeze S_ squeezes_S1_S_).sem))
              (.dma (((cc0_scratch7 : DmaSems sig S32).slice (Rect.unit (s := S32) o1 S1.size (iR h))).squeeze S_ squeezes_S1_S_).sem) (View.wordExact_bits rfl) (View.wordExact_bits rfl) ⟨⟨rfl, Or.inl rfl⟩, trivial⟩) >>= fun _ => rest)
          (fun _ => rest)) Q) := by
  by_cases hj : j = c
  · rw [dif_neg (fun h => hc.mp h hj), Sc_skip I j hj]
    iintro ⟨-, HS⟩ Hk
    iapply Hk
    iexact HS
  · rw [dif_pos (hc.mpr hj)]
    show _ ⊢ iprop(_ -∗ WP c (.op _ fun _ => rest) Q)
    exact send2_step I K κ j hj hw (⟨n, hlt (hc.mpr hj)⟩ : Dev nD) (Fin.ext hn) rfl (sem_eq _ c h1) (gRow_eq c h2) rfl (kt := fun _ => rest) (Q := Q)

/-- The block from device `s` is waited for, if `s` is another device. -/
theorem recv2_block (s : Fin 32) {cond : BitVec 1} (hc : cond = 1#1 ↔ s ≠ c)
    {iS : cond = 1#1 → _} {iG : cond = 1#1 → _} {src : cond = 1#1 → Memref sig .tc .vmem S4x128 .f32}
    {dc : Decidable (cond = 1#1)}
    {rest : Prog (TpuEff nD τ sig (Elt F) Λ₀ .tc) α} {Q : α → sProp 𝕄} :
    iprop(Ctx I K κ ∗ Sc I c 32 s.val ws)
      ⊢ iprop((Sc I c 32 (s.val + 1) ws -∗ WP c rest Q)
        -∗ WP c (@dite _ (cond = 1#1) dc
          (fun h => Prog.lift (.waitDma2 (((cc0_scratch7 : DmaSems sig S32).slice (Rect.unit (s := S32) ![s.val] S1.size (iS h))).squeeze S_ squeezes_S1_S_).sem (src h)
              ((gM : Memref sig .tc .vmem S128x128 .f32).slice (Rect.unit (s := S128x128) ![4 * s.val, 0] S4x128.size (iG h)) (fun _ => rfl)) (View.wordExact_bits rfl) (View.wordExact_bits rfl)) >>= fun _ => rest)
          (fun _ => rest)) Q) := by
  have hrest : ∀ x ∈ (Finset.univ : Finset (Fin 32)), x ≠ s → exR2 I c s.val x = exR2 I c (s.val + 1) x := fun x _ hx => by
    have : x.val ≠ s.val := fun h => hx (Fin.ext h)
    unfold exR2
    exact if_congr ⟨fun a => by omega, fun a => by omega⟩ rfl rfl
  by_cases hj : s = c
  · rw [dif_neg (fun h => hc.mp h hj)]
    have hopen : exR2 I c s.val s = iprop(atPos ER (dcell c (.rcv2 s)) 0 ∅ 0 ∗ emp) := by
      unfold exR2; rw [if_neg (Nat.lt_irrefl _), if_pos hj]
    have hshut : exR2 I c (s.val + 1) s = iprop(semVal (dcell c (.rcv2 s)) 0 ∗ emp) := by
      unfold exR2; rw [if_pos (Nat.lt_succ_self _), if_pos hj]
    unfold Sc
    iintro ⟨#HC, ⟨HO, HS, HR⟩⟩ Hk
    ihave HR := (fam_turn (Φ := exR2 I c s.val) (Ψ := exR2 I c (s.val + 1)) s (Finset.mem_univ s) hrest) $$ HR
    icases HR with ⟨Hx, HR⟩
    ihave Hx := (Entails.of_eq hopen) $$ Hx
    icases Hx with ⟨Hat, He⟩
    ihave #HI := (ctx_inv I K κ c (.rcv2 s)) $$ HC
    imod (Rounds.cell_close ER (Rd I) (Set.mem_univ (K (c, .rcv2 s))) (fun h => h) (R := 0) (fun r _ => duties_idle I c (.rcv2 s) (fun h => h hj) r)) $$ [Hat] with Hz
    · isplitr; · iexact HI
      iexact Hat
    iapply Hk
    isplitl [HO]; · iexact HO
    isplitl [HS]; · iexact HS
    iapply HR
    iapply (Entails.of_eq hshut.symm)
    isplitl [Hz] <;> iassumption
  · rw [dif_pos (hc.mpr hj)]
    have hopen : exR2 I c s.val s = iprop(atPos ER (dcell c (.rcv2 s)) 0 ∅ 0 ∗ cred (tallyAt (dcell c (.rcv2 s)) () N2)) := by
      unfold exR2; rw [if_neg (Nat.lt_irrefl _), if_neg hj]
    have hshut : exR2 I c (s.val + 1) s = iprop(semVal (dcell c (.rcv2 s)) 0 ∗ gRowPts c s (R2 I c)) := by
      unfold exR2; rw [if_pos (Nat.lt_succ_self _), if_neg hj]
    have hMW : (iprop(emp) : sProp 𝕄) ⊢ MayWait (c : Thread nD τ) (.dma (dsem (.rcv2 s))) () (Ow c 7 14 32) := by
      rw [Ow_done, MayWait_zero]; exact BI.Entails.refl _
    show _ ⊢ iprop(_ -∗ WP c (.op (.waitDma2 (dsem (.rcv2 s)) (src _) (gRow s) _ _) fun _ => rest) Q)
    unfold Sc
    iintro ⟨#HC, ⟨⟨%W, HO⟩, HS, HR⟩⟩ Hk
    ihave HR := (fam_turn (Φ := exR2 I c s.val) (Ψ := exR2 I c (s.val + 1)) s (Finset.mem_univ s) hrest) $$ HR
    icases HR with ⟨Hx, HR⟩
    ihave Hx := (Entails.of_eq hopen) $$ Hx
    icases Hx with ⟨Hat, Hc⟩
    ihave #HI := (ctx_inv I K κ c (.rcv2 s)) $$ HC
    iapply (Rounds.wp_wait_rest_token 𝒱₀ ER (Rd I) (c : Thread nD τ) none (κ := K (c, .rcv2 s)) (sm := .dma (dsem (.rcv2 s))) (k' := N2)
        (fun K' => (wpE_waitDma2_eq 𝒱₀ (c : Thread nD τ) none Set.univ K').trans (by rw [row_credit_g])) (Set.mem_univ _) () (O := Ow c 7 14 32) (W := W) (R := 0) (m := 0) (T := ∅)
        (expect_rcv2 I c s hj)) $$ [Hc HO Hat]
    · isplitr; · iexact HI
      isplitl [Hc]; · iexact Hc
      isplitl [HO]; · iexact HO
      isplitr
      · iapply hMW
        iempintro
      iexact Hat
    iintro ⟨HO, Hat, -, Hpay⟩
    ihave Hp := (Entails.of_eq (rest_at I c (.rcv2 s) hj)) $$ Hpay
    unfold pay
    imod (Rounds.cell_close ER (Rd I) (Set.mem_univ (K (c, .rcv2 s))) (fun h => h) (R := 0 + 1) (duties_later I (dcell c (.rcv2 s)))) $$ [Hat] with Hz
    · isplitr; · iexact HI
      iexact Hat
    iapply Hk
    isplitl [HO]; · iexists _; iexact HO
    isplitl [HS]; · iexact HS
    iapply HR
    iapply (Entails.of_eq hshut.symm)
    isplitl [Hz] <;> iassumption

/-- The device's own block to device `j` is waited for, if `j` is another device. -/
theorem wsend2_block (j : Fin 32) {cond : BitVec 1} (hc : cond = 1#1 ↔ j ≠ c)
    {iS : cond = 1#1 → _} {iA : cond = 1#1 → _} {src : cond = 1#1 → Memref sig .tc .vmem S4x128 .f32}
    {dc : Decidable (cond = 1#1)}
    {rest : Prog (TpuEff nD τ sig (Elt F) Λ₀ .tc) α} {Q : α → sProp 𝕄} :
    iprop(Ctx I K κ ∗ Sc I c 32 rs j.val)
      ⊢ iprop((Sc I c 32 rs (j.val + 1) -∗ WP c rest Q)
        -∗ WP c (@dite _ (cond = 1#1) dc
          (fun h => Prog.lift (.waitDma2 (((cc0_scratch6 : DmaSems sig S32).slice (Rect.unit (s := S32) ![j.val] S1.size (iS h))).squeeze S_ squeezes_S1_S_).sem (src h)
              ((aM : Memref sig .tc .vmem S128x128 .f32).slice (Rect.unit (s := S128x128) ![4 * j.val, 0] S4x128.size (iA h)) (fun _ => rfl)) (View.wordExact_bits rfl) (View.wordExact_bits rfl)) >>= fun _ => rest)
          (fun _ => rest)) Q) := by
  have hrest : ∀ x ∈ (Finset.univ : Finset (Fin 32)), x ≠ j → exS2 I c 32 j.val x = exS2 I c 32 (j.val + 1) x := fun x _ hx => by
    have : x.val ≠ j.val := fun h => hx (Fin.ext h)
    unfold exS2
    exact if_congr ⟨fun a => by omega, fun a => by omega⟩ rfl rfl
  by_cases hj : j = c
  · rw [dif_neg (fun h => hc.mp h hj)]
    have hopen : exS2 I c 32 j.val j = iprop(atPos ER (dcell c (.snd2 j)) 0 ∅ 0 ∗ emp) := by
      unfold exS2; rw [if_neg (Nat.lt_irrefl _), if_pos j.isLt, if_pos hj]
    have hshut : exS2 I c 32 (j.val + 1) j = iprop(semVal (dcell c (.snd2 j)) 0 ∗ emp) := by
      unfold exS2; rw [if_pos (Nat.lt_succ_self _), if_pos hj]
    unfold Sc
    iintro ⟨#HC, ⟨HO, HS, HR⟩⟩ Hk
    ihave HS := (fam_turn (Φ := exS2 I c 32 j.val) (Ψ := exS2 I c 32 (j.val + 1)) j (Finset.mem_univ j) hrest) $$ HS
    icases HS with ⟨Hx, HS⟩
    ihave Hx := (Entails.of_eq hopen) $$ Hx
    icases Hx with ⟨Hat, He⟩
    ihave #HI := (ctx_inv I K κ c (.snd2 j)) $$ HC
    imod (Rounds.cell_close ER (Rd I) (Set.mem_univ (K (c, .snd2 j))) (fun h => h) (R := 0) (fun r _ => duties_idle I c (.snd2 j) (fun h => h hj) r)) $$ [Hat] with Hz
    · isplitr; · iexact HI
      iexact Hat
    iapply Hk
    isplitl [HO]; · iexact HO
    isplitl [HS Hz He]
    · iapply HS
      iapply (Entails.of_eq hshut.symm)
      isplitl [Hz] <;> iassumption
    iexact HR
  · rw [dif_pos (hc.mpr hj)]
    have hopen : exS2 I c 32 j.val j = iprop(atPos ER (dcell c (.snd2 j)) 0 ∅ 0 ∗ cred (tallyAt (dcell c (.snd2 j)) () N2)) := by
      unfold exS2; rw [if_neg (Nat.lt_irrefl _), if_pos j.isLt, if_neg hj]
    have hshut : exS2 I c 32 (j.val + 1) j = iprop(semVal (dcell c (.snd2 j)) 0 ∗ aRowPts c j (FA I c)) := by
      unfold exS2; rw [if_pos (Nat.lt_succ_self _), if_neg hj]
    have hMW : (iprop(emp) : sProp 𝕄) ⊢ MayWait (c : Thread nD τ) (.dma (dsem (.snd2 j))) () (Ow c 7 14 32) := by
      rw [Ow_done, MayWait_zero]; exact BI.Entails.refl _
    show _ ⊢ iprop(_ -∗ WP c (.op (.waitDma2 (dsem (.snd2 j)) (src _) (aRow j) _ _) fun _ => rest) Q)
    unfold Sc
    iintro ⟨#HC, ⟨⟨%W, HO⟩, HS, HR⟩⟩ Hk
    ihave HS := (fam_turn (Φ := exS2 I c 32 j.val) (Ψ := exS2 I c 32 (j.val + 1)) j (Finset.mem_univ j) hrest) $$ HS
    icases HS with ⟨Hx, HS⟩
    ihave Hx := (Entails.of_eq hopen) $$ Hx
    icases Hx with ⟨Hat, Hc⟩
    ihave #HI := (ctx_inv I K κ c (.snd2 j)) $$ HC
    iapply (Rounds.wp_wait_rest_token 𝒱₀ ER (Rd I) (c : Thread nD τ) none (κ := K (c, .snd2 j)) (sm := .dma (dsem (.snd2 j))) (k' := N2)
        (fun K' => (wpE_waitDma2_eq 𝒱₀ (c : Thread nD τ) none Set.univ K').trans (by rw [row_credit_a])) (Set.mem_univ _) () (O := Ow c 7 14 32) (W := W) (R := 0) (m := 0) (T := ∅)
        (expect_snd2 I c j hj)) $$ [Hc HO Hat]
    · isplitr; · iexact HI
      isplitl [Hc]; · iexact Hc
      isplitl [HO]; · iexact HO
      isplitr
      · iapply hMW
        iempintro
      iexact Hat
    iintro ⟨HO, Hat, -, Hpay⟩
    ihave Hp := (Entails.of_eq (rest_at I c (.snd2 j) hj)) $$ Hpay
    unfold pay
    imod (Rounds.cell_close ER (Rd I) (Set.mem_univ (K (c, .snd2 j))) (fun h => h) (R := 0 + 1) (duties_later I (dcell c (.snd2 j)))) $$ [Hat] with Hz
    · isplitr; · iexact HI
      iexact Hat
    iapply Hk
    isplitl [HO]; · iexists _; iexact HO
    isplitl [HS Hz Hp]
    · iapply HS
      iapply (Entails.of_eq hshut.symm)
      isplitl [Hz] <;> iassumption
    iexact HR

end Ops

/-- A block's guard. -/
theorem guard (c : Dev nD) (j : Fin 32) : Scalar.cmpi .ne (Scalar.extui (Scalar.cmpi .ne (dw c) (BitVec.ofNat 32 j.val)) : BitVec 32) 0#32 = 1#1 ↔ j ≠ c := by
  revert c j; decide +kernel

end Scatter

end Cert.Mlp
-- ==== Proof.Rows.lean ====
module

public import proofs.«01_k».proof.Proof.Scatter

/-!
# The ends of the reduce-scatter

What the exchanges leave becomes what the reduce-scatter starts from; the device's own rows; what it ends with.
-/

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

section Rows
variable (I : Dev nD → Ins F) (K : Dev nD × DK → ℕ) (κ : Dev nD → ℕ)

/-- A family, one member apart. -/
theorem fam_own (c : Fin 32) (Φ : Fin 32 → sProp 𝕄) :
    bigSep Finset.univ Φ = iprop(Φ c ∗ bigSep Finset.univ fun j => if j = c then iprop(emp) else Φ j) := by
  rw [fam_take (Finset.mem_univ c) Φ, fam_take (Finset.mem_univ c) (fun j => if j = c then iprop(emp) else Φ j), if_pos rfl, emp_sep_eq]
  rw [bigSep_congr (s := Finset.univ.erase c) (Φ := Φ) (Ψ := fun j => if j = c then iprop(emp) else Φ j) (fun j hj => (if_neg (Finset.ne_of_mem_erase hj)).symm)]

theorem swap_right (A B C : sProp 𝕄) : iprop((A ∗ B) ∗ C) = iprop(A ∗ C ∗ B) := by
  have h1 : iprop((A ∗ B) ∗ C) ⊢ iprop(A ∗ C ∗ B) := by
    iintro ⟨⟨H1, H2⟩, H3⟩
    isplitl [H1]; · iexact H1
    isplitl [H3] <;> iassumption
  have h2 : iprop(A ∗ C ∗ B) ⊢ iprop((A ∗ B) ∗ C) := by
    iintro ⟨H1, H3, H2⟩
    isplitr [H3]
    · isplitl [H1] <;> iassumption
    iexact H3
  exact equiv_iff.mp ⟨h1, h2⟩

/-- What is left of the exchanges at their end. -/
def Done (c : Dev nD) : sProp 𝕄 := iprop(Bar c 3 ∗ bigSep Finset.univ (exS c 14 14) ∗ bigSep Finset.univ (exR I c 14))
/-- What a device holds for the reduce-scatter from the start. -/
def Sc0 (c : Dev nD) : sProp 𝕄 := iprop(bigSep Finset.univ (tk2 c) ∗ bigSep Finset.univ (exR2 I c 0))

theorem rights_here (c : Dev nD) : (Rt c 3 14 14 : sProp 𝕄) ⊢ bigSep Finset.univ fun j : Dev nD => gRowAny j c := by
  have h0 : phs 3 = ∅ := by decide
  have e : (Rt c 3 14 14 : sProp 𝕄) = bigSep (held 3 c) right := by
    unfold Rt
    rw [rights_begin c 3, h0, Finset.filter_empty, Finset.filter_empty]
  rw [e, held_three]

theorem tk2_open (c : Dev nD) (j : Fin 32) :
    iprop(tk2 c j ∗ (if j = c then iprop(emp) else gRowAny j c) ∗ if j = c then iprop(emp) else aRowPts c j (FA I c)) ⊢ (exS2 I c 0 0 j : sProp 𝕄) := by
  unfold tk2 exS2
  rw [if_neg (Nat.not_lt_zero _), if_neg (Nat.not_lt_zero _)]
  by_cases h : j = c
  · rw [if_pos h, if_pos h, if_pos h, if_pos h]
    iintro ⟨⟨H1, -⟩, -, -⟩
    isplitl [H1]; · iexact H1
    iempintro
  · rw [if_neg h, if_neg h, if_neg h, if_neg h]
    iintro ⟨⟨H1, H2, H3⟩, H4, H5⟩
    isplitl [H1]; · iexact H1
    isplitl [H2]; · iexact H2
    isplitl [H3]; · iexact H3
    isplitl [H4] <;> iassumption

/-- The exchanges over, the reduce-scatter begins. -/
theorem scatter_begin (c : Dev nD) :
    iprop(St I c 3 3 14 14 14 ∗ aPts c fullShare (FA I c) ∗ Sc0 I c)
      ⊢ iprop(Done I c ∗ Sc I c 0 0 0 ∗ aRowPts c c (FA I c) ∗ gRowAny c c) := by
  have hg := fam_own (F := F) c fun j => gRowAny j c
  have ha := (aPts_rows c (FA I c)).trans (fam_own (F := F) c fun j => aRowPts c j (FA I c))
  have hS : iprop(bigSep Finset.univ (tk2 c) ∗ (bigSep Finset.univ fun j => if j = c then iprop(emp) else gRowAny j c)
      ∗ bigSep Finset.univ fun j => if j = c then iprop(emp) else aRowPts c j (FA I c)) ⊢ (bigSep Finset.univ (exS2 I c 0 0) : sProp 𝕄) := by
    rw [← bigSep_sep', ← bigSep_sep']
    exact fam_mono fun j _ => tk2_open I c j
  unfold St Sc0 Done Sc
  iintro ⟨⟨HO, HB, HS, HR, -, HT⟩, Ha, HK, HR2⟩
  ihave HT := (rights_here c) $$ HT
  ihave HT := (Entails.of_eq hg) $$ HT
  ihave Ha := (Entails.of_eq ha) $$ Ha
  icases HT with ⟨Hgc, HT⟩
  icases Ha with ⟨Hac, Ha⟩
  isplitl [HB HS HR]
  · isplitl [HB]; · iexact HB
    isplitl [HS] <;> iassumption
  isplitl [HO HK HT Ha HR2]
  · isplitl [HO]; · iexact HO
    isplitl [HK HT Ha]
    · iapply hS
      isplitl [HK]; · iexact HK
      isplitl [HT] <;> iassumption
    iexact HR2
  isplitl [Hac] <;> iassumption

/-- With every block received the buffer is held whole. -/
theorem rows_in (c : Dev nD) :
    iprop((bigSep Finset.univ (exR2 I c 32)) ∗ gRowPts c c (R2 I c))
      = (iprop((bigSep Finset.univ fun s : Fin 32 => semVal (dcell c (.rcv2 s)) 0) ∗ (((c : Thread nD τ).loc cc0_scratch5) ↦{fullShare} (R2 I c))) : sProp 𝕄) := by
  have e : ∀ s, exR2 I c 32 s = (iprop(semVal (dcell c (.rcv2 s)) 0 ∗ if s = c then iprop(emp) else gRowPts c s (R2 I c)) : sProp 𝕄) := fun s => if_pos s.isLt
  rw [gPts_rows, fam_own c (fun j => gRowPts c j (R2 I c)), bigSep_congr (fun s _ => e s), bigSep_sep']
  exact swap_right _ _ _
/-- With every transfer over the accumulator is held whole. -/
theorem rows_out (c : Dev nD) :
    iprop((bigSep Finset.univ (exS2 I c 32 32)) ∗ aRowPts c c (FA I c))
      = (iprop((bigSep Finset.univ fun s : Fin 32 => semVal (dcell c (.snd2 s)) 0) ∗ aPts c fullShare (FA I c)) : sProp 𝕄) := by
  have e : ∀ s, exS2 I c 32 32 s = (iprop(semVal (dcell c (.snd2 s)) 0 ∗ if s = c then iprop(emp) else aRowPts c s (FA I c)) : sProp 𝕄) := fun s => if_pos s.isLt
  rw [aPts_rows, fam_own c (fun j => aRowPts c j (FA I c)), bigSep_congr (fun s _ => e s), bigSep_sep']
  exact swap_right _ _ _

section Own
variable {α : Type} {c : Dev nD}

/-- The device's own rows are read. -/
theorem own_load {v : Vec F S128x128 .f32} {o : Fin 2 → ℕ} (h : o = ![4 * c.val, 0]) {inb}
    {hl : (aM : Memref sig .tc .vmem S128x128 .f32).view.LoadsAt (Rect.unit (s := S128x128) o S4x128.size inb).toLoadRect}
    {kt : Vec F S4x128 .f32 → Prog (TpuEff nD τ sig (Elt F) Λ₀ .tc) α} {Q : α → sProp 𝕄} :
    aRowPts c c v ⊢ iprop((aRowPts c c v -∗ WP c (kt ((aRow c).view.read (Elt F) v)) Q)
      -∗ WP c (.op (.load aM (Rect.unit (s := S128x128) o S4x128.size inb).toLoadRect hl) kt) Q) := by
  subst h
  exact wp_load_rect 𝒱₀ (c : Thread nD τ) none Set.univ (m := aM) (r := rowR c) (Finset.Subset.refl _)
theorem g_load (f : Buf (Elt F) ((gRow c).view.loc (c : Thread nD τ))) {hl : (gM : Memref sig .tc .vmem S128x128 .f32).view.LoadsAt (rowR c).toLoadRect}
    {kt : Vec F S4x128 .f32 → Prog (TpuEff nD τ sig (Elt F) Λ₀ .tc) α} {Q : α → sProp 𝕄} :
    ((gRow c).view.loc (c : Thread nD τ) ↦[(gRow c).view.set]{fullShare} f)
      ⊢ iprop((((gRow c).view.loc (c : Thread nD τ) ↦[(gRow c).view.set]{fullShare} f) -∗ WP c (kt ((gRow c).view.read (Elt F) f)) Q)
        -∗ WP c (.op (.load gM (rowR c).toLoadRect hl) kt) Q) :=
  wp_load_rect 𝒱₀ (c : Thread nD τ) none Set.univ (m := gM) (r := rowR c) (Finset.Subset.refl _)
theorem g_store (f : Buf (Elt F) ((gRow c).view.loc (c : Thread nD τ))) {w : Vec F S4x128 .f32}
    {hx : ((gM : Memref sig .tc .vmem S128x128 .f32).access (rowR c)).Stores Finset.univ} {hm}
    {kt : PUnit → Prog (TpuEff nD τ sig (Elt F) Λ₀ .tc) α} {Q : α → sProp 𝕄} :
    ((gRow c).view.loc (c : Thread nD τ) ↦[(gRow c).view.set]{fullShare} f)
      ⊢ iprop((((gRow c).view.loc (c : Thread nD τ) ↦[(gRow c).view.set]{fullShare} ((gRow c).view.write (Elt F) f w Finset.univ)) -∗ WP c (kt ⟨⟩) Q)
        -∗ WP c (.op (.store gM (rowR c) w Finset.univ hx hm) kt) Q) :=
  wp_store 𝒱₀ (c : Thread nD τ) none Set.univ (m := gM) (r := rowR c) (Finset.Subset.refl _)
/-- The place for them is read, and what is read forgotten. -/
theorem own_look {o : Fin 2 → ℕ} (h : o = ![4 * c.val, 0]) {inb}
    {hl : (gM : Memref sig .tc .vmem S128x128 .f32).view.LoadsAt (Rect.unit (s := S128x128) o S4x128.size inb).toLoadRect}
    {p : Prog (TpuEff nD τ sig (Elt F) Λ₀ .tc) α} {Q : α → sProp 𝕄} :
    gRowAny c c ⊢ iprop((gRowAny c c -∗ WP c p Q)
      -∗ WP c (.op (.load gM (Rect.unit (s := S128x128) o S4x128.size inb).toLoadRect hl) fun _ => p) Q) := by
  subst h
  unfold gRowAny
  iintro ⟨%f, H⟩ Hk
  iapply (g_load f) $$ H
  iintro H
  iapply Hk
  iexists f
  iexact H
/-- They are put there. -/
theorem own_store {w : Vec F S4x128 .f32} (hw : w = (aRow c).view.read (Elt F) (FA I c)) {o : Fin 2 → ℕ} (h : o = ![4 * c.val, 0]) {inb}
    {hx : ((gM : Memref sig .tc .vmem S128x128 .f32).access (Rect.unit (s := S128x128) o S4x128.size inb)).Stores Finset.univ} {hm}
    {kt : PUnit → Prog (TpuEff nD τ sig (Elt F) Λ₀ .tc) α} {Q : α → sProp 𝕄} :
    gRowAny c c ⊢ iprop((gRowPts c c (R2 I c) -∗ WP c (kt ⟨⟩) Q)
      -∗ WP c (.op (.store gM (Rect.unit (s := S128x128) o S4x128.size inb) w Finset.univ hx hm) kt) Q) := by
  subst h hw
  unfold gRowAny
  iintro ⟨%f, H⟩ Hk
  iapply (g_store f) $$ H
  iintro H
  iapply Hk
  iapply (Entails.of_eq (row_landed I c c f))
  iexact H

theorem pay13_eq (v : Vec F S4x128 .f32) : k0_pay13 v = v := by
  unfold k0_pay13; exact shapeCast_self v _

/-- The whole buffer is read. -/
theorem load_g {ws : ℕ} {inb} {hl : (gM : Memref sig .tc .vmem S128x128 .f32).view.LoadsAt (Rect.unit (s := S128x128) ![0, 0] S128x128.size inb).toLoadRect}
    {kt : Vec F S128x128 .f32 → Prog (TpuEff nD τ sig (Elt F) Λ₀ .tc) α} {Q : α → sProp 𝕄} :
    iprop(Sc I c 32 32 ws ∗ gRowPts c c (R2 I c)) ⊢ iprop((iprop(Sc I c 32 32 ws ∗ gRowPts c c (R2 I c)) -∗ WP c (kt (R2 I c)) Q)
      -∗ WP c (.op (.load gM (Rect.unit (s := S128x128) ![0, 0] S128x128.size inb).toLoadRect hl) kt) Q) := by
  have e := load_all (c := c) (m := gM) (r := (Rect.unit (s := S128x128) ![0, 0] S128x128.size inb).toLoadRect) (hl := hl) (kt := kt) (Q := Q) fullShare (R2 I c) (R2 I c)
    (Memref.readAt_unit_zero (Elt F) cc0_scratch5 hz2 inb (R2 I c))
  unfold Sc
  iintro ⟨⟨HO, HS, HR⟩, Hg⟩ Hk
  ihave H := (Entails.of_eq (rows_in I c)) $$ [HR Hg]
  · isplitl [HR] <;> iassumption
  icases H with ⟨HV, Hg⟩
  iapply e $$ Hg
  iintro Hg
  ihave H := (Entails.of_eq (rows_in I c).symm) $$ [HV Hg]
  · isplitl [HV] <;> iassumption
  icases H with ⟨HR, Hg⟩
  iapply Hk
  isplitr [Hg]
  · isplitl [HO]; · iexact HO
    isplitl [HS] <;> iassumption
  iexact Hg

end Own

end Rows

end Cert.Mlp
-- ==== Proof.PartsTwo.lean ====
module

public import proofs.«01_k».proof.Proof.Rows

/-!
# The reduced and scattered layer

Each part of the body from the last partial product on, as a rule from what the device holds before it to what it holds after.
-/

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

section PartsTwo
variable (I : Dev nD → Ins F) (K : Dev nD × DK → ℕ) (κ : Dev nD → ℕ)

/-- The result is written. -/
theorem out_store {c : Dev nD} {α : Type} {v w : Vec F S4x128 .f32} (w' : Vec F S4x128 .f32) (hw : w = w') {inb}
    {hx : ((Memref.whole cc0_stg7_0 : Memref sig .tc .vmem S4x128 .f32).access (Rect.unit (s := S4x128) ![0, 0] S4x128.size inb)).Stores Finset.univ} {hm}
    {kt : PUnit → Prog (TpuEff nD τ sig (Elt F) Λ₀ .tc) α} {Q : α → sProp 𝕄} :
    stgPts c cc0_stg7_0 v ⊢ iprop((stgPts c cc0_stg7_0 w' -∗ WP c (kt ⟨⟩) Q)
      -∗ WP c (.op (.store (Memref.whole cc0_stg7_0) (Rect.unit (s := S4x128) ![0, 0] S4x128.size inb) w Finset.univ hx hm) kt) Q) := by
  subst hw
  exact store_all (c := c) (m := Memref.whole cc0_stg7_0) (r := Rect.unit (s := S4x128) ![0, 0] S4x128.size inb) (hx := hx) (hm := hm) (kt := kt) (Q := Q) v w w
    (Memref.write_access_unit_zero_univ (Elt F) cc0_stg7_0 hz2 inb v w)

theorem part15 (c : Dev nD) (v2 : BitVec 32) (Kt : BitVec 32 → sProp 𝕄) :
    iprop(Ctx I K κ ∗ St I c 3 3 14 14 12 ∗ aPts c (qs 0) (P5 I c) ∗ aPts c qk (P5 I c) ∗ bPts c qk (H2 I c)
        ∗ stgPts c cc0_stg5_0 (I c).w2 ∗ stgPts c cc0_stg6_0 (I c).u2 ∗ Sc0 I c
        ∗ (∀ r, (Done I c ∗ Sc I c 1 0 0 ∗ aRowPts c c (FA I c) ∗ gRowAny c c ∗ bPts c qk (H2 I c)
          ∗ stgPts c cc0_stg5_0 (I c).w2 ∗ stgPts c cc0_stg6_0 (I c).u2) -∗ Kt r))
      ⊢ WP c (onArgs (k0_part15_skel (F := F)) c v2) Kt := by
  unfold k0_part15_skel
  iintro ⟨#HC, HS, Ha0, Hak, Hbk, Ho5, Ho6, HN, Hk⟩
  iapply (wsend_a I K κ (n := 3) (p := 3) (ns := 14) (nr := 14) 12 (by decide) (by decide) rfl) $$ [HS]
  · isplitr <;> [iexact HC; iexact HS]
  iintro ⟨HS, Ha1⟩
  iapply (wsend_a I K κ (n := 3) (p := 3) (ns := 14) (nr := 14) 13 (by decide) (by decide) rfl) $$ [HS]
  · isplitr <;> [iexact HC; iexact HS]
  iintro ⟨HS, Ha2⟩
  iapply load_b $$ Hbk
  iintro Hbk
  iapply (load_all (m := Memref.whole cc0_stg5_0) fullShare (I c).w2 (I c).w2 (Memref.readAt_unit_zero (Elt F) cc0_stg5_0 hz2 _ _)) $$ Ho5
  iintro Ho5
  iapply (load_all (m := Memref.whole cc0_stg6_0) fullShare (I c).u2 (I c).u2 (Memref.readAt_unit_zero (Elt F) cc0_stg6_0 hz2 _ _)) $$ Ho6
  iintro Ho6
  ihave Haf := (aPts_join c (P5 I c)) $$ [Ha0 Ha1 Ha2 Hak]
  · isplitl [Ha0]; · iexact Ha0
    isplitl [Ha1]; · iexact Ha1
    isplitl [Ha2] <;> [iexact Ha2; iexact Hak]
  iapply load_a $$ Haf
  iintro Haf
  iapply (store_a (FA I c) rfl) $$ Haf
  iintro ⟨Ha0, Ha1, Ha2, Hak⟩
  ihave Haf := (aPts_join c (FA I c)) $$ [Ha0 Ha1 Ha2 Hak]
  · isplitl [Ha0]; · iexact Ha0
    isplitl [Ha1]; · iexact Ha1
    isplitl [Ha2] <;> [iexact Ha2; iexact Hak]
  ihave H := (scatter_begin I c) $$ [HS Haf HN]
  · isplitl [HS]; · iexact HS
    isplitl [Haf] <;> [iexact Haf; iexact HN]
  icases H with ⟨HD, HS, Ha, Hg⟩
  iapply (send2_block I K κ (c := c) (rs := 0) (ws := 0) 0 (guard c 0) (Nat.zero_le _) k0_dev22_eq (k0_off1_eq c) (k0_off2_eq c)) $$ [HS]
  · isplitr <;> [iexact HC; iexact HS]
  iintro HS
  iapply ret_step
  iapply Hk
  isplitl [HD]; · iexact HD
  isplitl [HS]; · iexact HS
  isplitl [Ha]; · iexact Ha
  isplitl [Hg]; · iexact Hg
  isplitl [Hbk]; · iexact Hbk
  isplitl [Ho5]; · iexact Ho5
  iexact Ho6

theorem part16 (c : Dev nD) (v2 v : BitVec 32) (Kt : BitVec 32 → sProp 𝕄) :
    iprop(Ctx I K κ ∗ Sc I c 1 0 0 ∗ (∀ r, Sc I c 8 0 0 -∗ Kt r))
      ⊢ WP c (onArgs (k0_part16_skel (F := F)) c v2 v) Kt := by
  unfold k0_part16_skel
  iintro ⟨#HC, HS, Hk⟩
  iapply (send2_block I K κ (c := c) (rs := 0) (ws := 0) 1 (guard c 1) (Nat.zero_le _) k0_dev23_eq (k0_off3_eq c) (k0_off4_eq c)) $$ [HS]
  · isplitr <;> [iexact HC; iexact HS]
  iintro HS
  iapply (send2_block I K κ (c := c) (rs := 0) (ws := 0) 2 (guard c 2) (Nat.zero_le _) k0_dev24_eq (k0_off5_eq c) (k0_off6_eq c)) $$ [HS]
  · isplitr <;> [iexact HC; iexact HS]
  iintro HS
  iapply (send2_block I K κ (c := c) (rs := 0) (ws := 0) 3 (guard c 3) (Nat.zero_le _) k0_dev25_eq (k0_off7_eq c) (k0_off8_eq c)) $$ [HS]
  · isplitr <;> [iexact HC; iexact HS]
  iintro HS
  iapply (send2_block I K κ (c := c) (rs := 0) (ws := 0) 4 (guard c 4) (Nat.zero_le _) k0_dev26_eq (k0_off9_eq c) (k0_off10_eq c)) $$ [HS]
  · isplitr <;> [iexact HC; iexact HS]
  iintro HS
  iapply (send2_block I K κ (c := c) (rs := 0) (ws := 0) 5 (guard c 5) (Nat.zero_le _) k0_dev27_eq (k0_off11_eq c) (k0_off12_eq c)) $$ [HS]
  · isplitr <;> [iexact HC; iexact HS]
  iintro HS
  iapply (send2_block I K κ (c := c) (rs := 0) (ws := 0) 6 (guard c 6) (Nat.zero_le _) k0_dev28_eq (k0_off13_eq c) (k0_off14_eq c)) $$ [HS]
  · isplitr <;> [iexact HC; iexact HS]
  iintro HS
  iapply (send2_block I K κ (c := c) (rs := 0) (ws := 0) 7 (guard c 7) (Nat.zero_le _) k0_dev29_eq (k0_off15_eq c) (k0_off16_eq c)) $$ [HS]
  · isplitr <;> [iexact HC; iexact HS]
  iintro HS
  iapply ret_step
  iapply Hk
  iexact HS

theorem part17 (c : Dev nD) (v2 v : BitVec 32) (Kt : PUnit → sProp 𝕄) :
    iprop(Ctx I K κ ∗ Sc I c 8 0 0 ∗ (Sc I c 15 0 0 -∗ Kt ⟨⟩))
      ⊢ WP c (onArgs (k0_part17_skel (F := F)) c v2 v) Kt := by
  unfold k0_part17_skel
  iintro ⟨#HC, HS, Hk⟩
  iapply (send2_block I K κ (c := c) (rs := 0) (ws := 0) 8 (guard c 8) (Nat.zero_le _) k0_dev30_eq (k0_off17_eq c) (k0_off18_eq c)) $$ [HS]
  · isplitr <;> [iexact HC; iexact HS]
  iintro HS
  iapply (send2_block I K κ (c := c) (rs := 0) (ws := 0) 9 (guard c 9) (Nat.zero_le _) k0_dev31_eq (k0_off19_eq c) (k0_off20_eq c)) $$ [HS]
  · isplitr <;> [iexact HC; iexact HS]
  iintro HS
  iapply (send2_block I K κ (c := c) (rs := 0) (ws := 0) 10 (guard c 10) (Nat.zero_le _) k0_dev32_eq (k0_off21_eq c) (k0_off22_eq c)) $$ [HS]
  · isplitr <;> [iexact HC; iexact HS]
  iintro HS
  iapply (send2_block I K κ (c := c) (rs := 0) (ws := 0) 11 (guard c 11) (Nat.zero_le _) k0_dev33_eq (k0_off23_eq c) (k0_off24_eq c)) $$ [HS]
  · isplitr <;> [iexact HC; iexact HS]
  iintro HS
  iapply (send2_block I K κ (c := c) (rs := 0) (ws := 0) 12 (guard c 12) (Nat.zero_le _) k0_dev34_eq (k0_off25_eq c) (k0_off26_eq c)) $$ [HS]
  · isplitr <;> [iexact HC; iexact HS]
  iintro HS
  iapply (send2_block I K κ (c := c) (rs := 0) (ws := 0) 13 (guard c 13) (Nat.zero_le _) k0_dev35_eq (k0_off27_eq c) (k0_off28_eq c)) $$ [HS]
  · isplitr <;> [iexact HC; iexact HS]
  iintro HS
  iapply (send2_block I K κ (c := c) (rs := 0) (ws := 0) 14 (guard c 14) (Nat.zero_le _) k0_dev36_eq (k0_off29_eq c) (k0_off30_eq c)) $$ [HS]
  · isplitr <;> [iexact HC; iexact HS]
  iintro HS
  iapply ret_step
  iapply Hk
  iexact HS

theorem part18 (c : Dev nD) (v2 : BitVec 32) (Kt : BitVec 32 → sProp 𝕄) :
    iprop(Ctx I K κ ∗ Sc I c 15 0 0 ∗ (∀ r, Sc I c 21 0 0 -∗ Kt r))
      ⊢ WP c (onArgs (k0_part18_skel (F := F)) c v2) Kt := by
  unfold k0_part18_skel
  iintro ⟨#HC, HS, Hk⟩
  iapply (send2_block I K κ (c := c) (rs := 0) (ws := 0) 15 (guard c 15) (Nat.zero_le _) k0_dev37_eq (k0_off31_eq c) (k0_off32_eq c)) $$ [HS]
  · isplitr <;> [iexact HC; iexact HS]
  iintro HS
  iapply (send2_block I K κ (c := c) (rs := 0) (ws := 0) 16 (guard c 16) (Nat.zero_le _) k0_dev38_eq (k0_off33_eq c) (k0_off34_eq c)) $$ [HS]
  · isplitr <;> [iexact HC; iexact HS]
  iintro HS
  iapply (send2_block I K κ (c := c) (rs := 0) (ws := 0) 17 (guard c 17) (Nat.zero_le _) k0_dev39_eq (k0_off35_eq c) (k0_off36_eq c)) $$ [HS]
  · isplitr <;> [iexact HC; iexact HS]
  iintro HS
  iapply (send2_block I K κ (c := c) (rs := 0) (ws := 0) 18 (guard c 18) (Nat.zero_le _) k0_dev40_eq (k0_off37_eq c) (k0_off38_eq c)) $$ [HS]
  · isplitr <;> [iexact HC; iexact HS]
  iintro HS
  iapply (send2_block I K κ (c := c) (rs := 0) (ws := 0) 19 (guard c 19) (Nat.zero_le _) k0_dev41_eq (k0_off39_eq c) (k0_off40_eq c)) $$ [HS]
  · isplitr <;> [iexact HC; iexact HS]
  iintro HS
  iapply (send2_block I K κ (c := c) (rs := 0) (ws := 0) 20 (guard c 20) (Nat.zero_le _) k0_dev42_eq (k0_off41_eq c) (k0_off42_eq c)) $$ [HS]
  · isplitr <;> [iexact HC; iexact HS]
  iintro HS
  iapply ret_step
  iapply Hk
  iexact HS

theorem part19 (c : Dev nD) (v2 v : BitVec 32) (Kt : BitVec 32 → sProp 𝕄) :
    iprop(Ctx I K κ ∗ Sc I c 21 0 0 ∗ (∀ r, Sc I c 28 0 0 -∗ Kt r))
      ⊢ WP c (onArgs (k0_part19_skel (F := F)) c v2 v) Kt := by
  unfold k0_part19_skel
  iintro ⟨#HC, HS, Hk⟩
  iapply (send2_block I K κ (c := c) (rs := 0) (ws := 0) 21 (guard c 21) (Nat.zero_le _) k0_dev43_eq (k0_off43_eq c) (k0_off44_eq c)) $$ [HS]
  · isplitr <;> [iexact HC; iexact HS]
  iintro HS
  iapply (send2_block I K κ (c := c) (rs := 0) (ws := 0) 22 (guard c 22) (Nat.zero_le _) k0_dev44_eq (k0_off45_eq c) (k0_off46_eq c)) $$ [HS]
  · isplitr <;> [iexact HC; iexact HS]
  iintro HS
  iapply (send2_block I K κ (c := c) (rs := 0) (ws := 0) 23 (guard c 23) (Nat.zero_le _) k0_dev45_eq (k0_off47_eq c) (k0_off48_eq c)) $$ [HS]
  · isplitr <;> [iexact HC; iexact HS]
  iintro HS
  iapply (send2_block I K κ (c := c) (rs := 0) (ws := 0) 24 (guard c 24) (Nat.zero_le _) k0_dev46_eq (k0_off49_eq c) (k0_off50_eq c)) $$ [HS]
  · isplitr <;> [iexact HC; iexact HS]
  iintro HS
  iapply (send2_block I K κ (c := c) (rs := 0) (ws := 0) 25 (guard c 25) (Nat.zero_le _) k0_dev47_eq (k0_off51_eq c) (k0_off52_eq c)) $$ [HS]
  · isplitr <;> [iexact HC; iexact HS]
  iintro HS
  iapply (send2_block I K κ (c := c) (rs := 0) (ws := 0) 26 (guard c 26) (Nat.zero_le _) k0_dev48_eq (k0_off53_eq c) (k0_off54_eq c)) $$ [HS]
  · isplitr <;> [iexact HC; iexact HS]
  iintro HS
  iapply (send2_block I K κ (c := c) (rs := 0) (ws := 0) 27 (guard c 27) (Nat.zero_le _) k0_dev49_eq (k0_off55_eq c) (k0_off56_eq c)) $$ [HS]
  · isplitr <;> [iexact HC; iexact HS]
  iintro HS
  iapply ret_step
  iapply Hk
  iexact HS

theorem part21 (c : Dev nD) (Kt : BitVec 1 → sProp 𝕄) :
    iprop(Ctx I K κ ∗ Sc I c 32 1 0 ∗ (Sc I c 32 9 0 -∗ Kt (Scalar.cmpi .ne (dw c) 9#32)))
      ⊢ WP c (onArgs (k0_part21_skel (F := F)) (dw c) (Scalar.extui (Scalar.cmpi .ne (dw c) 1#32) : BitVec 32) 0#32) Kt := by
  unfold k0_part21_skel
  iintro ⟨#HC, HS, Hk⟩
  iapply (recv2_block I K κ (c := c) (ws := 0) 1 (guard c 1)) $$ [HS]
  · isplitr <;> [iexact HC; iexact HS]
  iintro HS
  iapply (recv2_block I K κ (c := c) (ws := 0) 2 (guard c 2)) $$ [HS]
  · isplitr <;> [iexact HC; iexact HS]
  iintro HS
  iapply (recv2_block I K κ (c := c) (ws := 0) 3 (guard c 3)) $$ [HS]
  · isplitr <;> [iexact HC; iexact HS]
  iintro HS
  iapply (recv2_block I K κ (c := c) (ws := 0) 4 (guard c 4)) $$ [HS]
  · isplitr <;> [iexact HC; iexact HS]
  iintro HS
  iapply (recv2_block I K κ (c := c) (ws := 0) 5 (guard c 5)) $$ [HS]
  · isplitr <;> [iexact HC; iexact HS]
  iintro HS
  iapply (recv2_block I K κ (c := c) (ws := 0) 6 (guard c 6)) $$ [HS]
  · isplitr <;> [iexact HC; iexact HS]
  iintro HS
  iapply (recv2_block I K κ (c := c) (ws := 0) 7 (guard c 7)) $$ [HS]
  · isplitr <;> [iexact HC; iexact HS]
  iintro HS
  iapply (recv2_block I K κ (c := c) (ws := 0) 8 (guard c 8)) $$ [HS]
  · isplitr <;> [iexact HC; iexact HS]
  iintro HS
  iapply ret_step
  iapply Hk
  iexact HS

theorem part22 (c : Dev nD) (Kt : (Σ' (v579 : BitVec 32), BitVec 32) → sProp 𝕄) :
    iprop(Ctx I K κ ∗ Sc I c 32 9 0 ∗ (Sc I c 32 16 0 -∗ Kt ⟨(Scalar.extui (Scalar.cmpi .ne (dw c) 16#32) : BitVec 32), 0#32⟩))
      ⊢ WP c (onArgs (k0_part22_skel (F := F)) (dw c) (Scalar.cmpi .ne (dw c) 9#32)) Kt := by
  unfold k0_part22_skel
  iintro ⟨#HC, HS, Hk⟩
  iapply (recv2_block I K κ (c := c) (ws := 0) 9 (guard c 9)) $$ [HS]
  · isplitr <;> [iexact HC; iexact HS]
  iintro HS
  iapply (recv2_block I K κ (c := c) (ws := 0) 10 (guard c 10)) $$ [HS]
  · isplitr <;> [iexact HC; iexact HS]
  iintro HS
  iapply (recv2_block I K κ (c := c) (ws := 0) 11 (guard c 11)) $$ [HS]
  · isplitr <;> [iexact HC; iexact HS]
  iintro HS
  iapply (recv2_block I K κ (c := c) (ws := 0) 12 (guard c 12)) $$ [HS]
  · isplitr <;> [iexact HC; iexact HS]
  iintro HS
  iapply (recv2_block I K κ (c := c) (ws := 0) 13 (guard c 13)) $$ [HS]
  · isplitr <;> [iexact HC; iexact HS]
  iintro HS
  iapply (recv2_block I K κ (c := c) (ws := 0) 14 (guard c 14)) $$ [HS]
  · isplitr <;> [iexact HC; iexact HS]
  iintro HS
  iapply (recv2_block I K κ (c := c) (ws := 0) 15 (guard c 15)) $$ [HS]
  · isplitr <;> [iexact HC; iexact HS]
  iintro HS
  iapply ret_step
  iapply Hk
  iexact HS

theorem part23 (c : Dev nD) (Kt : BitVec 1 → sProp 𝕄) :
    iprop(Ctx I K κ ∗ Sc I c 32 16 0 ∗ (Sc I c 32 24 0 -∗ Kt (Scalar.cmpi .ne (dw c) 24#32)))
      ⊢ WP c (onArgs (k0_part23_skel (F := F)) (dw c) (Scalar.extui (Scalar.cmpi .ne (dw c) 16#32) : BitVec 32) 0#32) Kt := by
  unfold k0_part23_skel
  iintro ⟨#HC, HS, Hk⟩
  iapply (recv2_block I K κ (c := c) (ws := 0) 16 (guard c 16)) $$ [HS]
  · isplitr <;> [iexact HC; iexact HS]
  iintro HS
  iapply (recv2_block I K κ (c := c) (ws := 0) 17 (guard c 17)) $$ [HS]
  · isplitr <;> [iexact HC; iexact HS]
  iintro HS
  iapply (recv2_block I K κ (c := c) (ws := 0) 18 (guard c 18)) $$ [HS]
  · isplitr <;> [iexact HC; iexact HS]
  iintro HS
  iapply (recv2_block I K κ (c := c) (ws := 0) 19 (guard c 19)) $$ [HS]
  · isplitr <;> [iexact HC; iexact HS]
  iintro HS
  iapply (recv2_block I K κ (c := c) (ws := 0) 20 (guard c 20)) $$ [HS]
  · isplitr <;> [iexact HC; iexact HS]
  iintro HS
  iapply (recv2_block I K κ (c := c) (ws := 0) 21 (guard c 21)) $$ [HS]
  · isplitr <;> [iexact HC; iexact HS]
  iintro HS
  iapply (recv2_block I K κ (c := c) (ws := 0) 22 (guard c 22)) $$ [HS]
  · isplitr <;> [iexact HC; iexact HS]
  iintro HS
  iapply (recv2_block I K κ (c := c) (ws := 0) 23 (guard c 23)) $$ [HS]
  · isplitr <;> [iexact HC; iexact HS]
  iintro HS
  iapply ret_step
  iapply Hk
  iexact HS

theorem part24 (c : Dev nD) (Kt : (Σ' (v624 : BitVec 32), BitVec 32) → sProp 𝕄) :
    iprop(Ctx I K κ ∗ Sc I c 32 24 0 ∗ (Sc I c 32 31 0 -∗ Kt ⟨(Scalar.extui (Scalar.cmpi .ne (dw c) 31#32) : BitVec 32), 0#32⟩))
      ⊢ WP c (onArgs (k0_part24_skel (F := F)) (dw c) (Scalar.cmpi .ne (dw c) 24#32)) Kt := by
  unfold k0_part24_skel
  iintro ⟨#HC, HS, Hk⟩
  iapply (recv2_block I K κ (c := c) (ws := 0) 24 (guard c 24)) $$ [HS]
  · isplitr <;> [iexact HC; iexact HS]
  iintro HS
  iapply (recv2_block I K κ (c := c) (ws := 0) 25 (guard c 25)) $$ [HS]
  · isplitr <;> [iexact HC; iexact HS]
  iintro HS
  iapply (recv2_block I K κ (c := c) (ws := 0) 26 (guard c 26)) $$ [HS]
  · isplitr <;> [iexact HC; iexact HS]
  iintro HS
  iapply (recv2_block I K κ (c := c) (ws := 0) 27 (guard c 27)) $$ [HS]
  · isplitr <;> [iexact HC; iexact HS]
  iintro HS
  iapply (recv2_block I K κ (c := c) (ws := 0) 28 (guard c 28)) $$ [HS]
  · isplitr <;> [iexact HC; iexact HS]
  iintro HS
  iapply (recv2_block I K κ (c := c) (ws := 0) 29 (guard c 29)) $$ [HS]
  · isplitr <;> [iexact HC; iexact HS]
  iintro HS
  iapply (recv2_block I K κ (c := c) (ws := 0) 30 (guard c 30)) $$ [HS]
  · isplitr <;> [iexact HC; iexact HS]
  iintro HS
  iapply ret_step
  iapply Hk
  iexact HS

theorem part26 (c : Dev nD) (v2 : BitVec 32) (Kt : BitVec 32 → sProp 𝕄) :
    iprop(Ctx I K κ ∗ Sc I c 32 32 6 ∗ (∀ r, Sc I c 32 32 15 -∗ Kt r))
      ⊢ WP c (onArgs (k0_part26_skel (F := F)) c v2) Kt := by
  unfold k0_part26_skel
  iintro ⟨#HC, HS, Hk⟩
  iapply (wsend2_block I K κ (c := c) (rs := 32) 6 (guard c 6)) $$ [HS]
  · isplitr <;> [iexact HC; iexact HS]
  iintro HS
  iapply (wsend2_block I K κ (c := c) (rs := 32) 7 (guard c 7)) $$ [HS]
  · isplitr <;> [iexact HC; iexact HS]
  iintro HS
  iapply (wsend2_block I K κ (c := c) (rs := 32) 8 (guard c 8)) $$ [HS]
  · isplitr <;> [iexact HC; iexact HS]
  iintro HS
  iapply (wsend2_block I K κ (c := c) (rs := 32) 9 (guard c 9)) $$ [HS]
  · isplitr <;> [iexact HC; iexact HS]
  iintro HS
  iapply (wsend2_block I K κ (c := c) (rs := 32) 10 (guard c 10)) $$ [HS]
  · isplitr <;> [iexact HC; iexact HS]
  iintro HS
  iapply (wsend2_block I K κ (c := c) (rs := 32) 11 (guard c 11)) $$ [HS]
  · isplitr <;> [iexact HC; iexact HS]
  iintro HS
  iapply (wsend2_block I K κ (c := c) (rs := 32) 12 (guard c 12)) $$ [HS]
  · isplitr <;> [iexact HC; iexact HS]
  iintro HS
  iapply (wsend2_block I K κ (c := c) (rs := 32) 13 (guard c 13)) $$ [HS]
  · isplitr <;> [iexact HC; iexact HS]
  iintro HS
  iapply (wsend2_block I K κ (c := c) (rs := 32) 14 (guard c 14)) $$ [HS]
  · isplitr <;> [iexact HC; iexact HS]
  iintro HS
  iapply ret_step
  iapply Hk
  iexact HS

theorem part27 (c : Dev nD) (v2 v : BitVec 32) (Kt : PUnit → sProp 𝕄) :
    iprop(Ctx I K κ ∗ Sc I c 32 32 15 ∗ (Sc I c 32 32 24 -∗ Kt ⟨⟩))
      ⊢ WP c (onArgs (k0_part27_skel (F := F)) c v2 v) Kt := by
  unfold k0_part27_skel
  iintro ⟨#HC, HS, Hk⟩
  iapply (wsend2_block I K κ (c := c) (rs := 32) 15 (guard c 15)) $$ [HS]
  · isplitr <;> [iexact HC; iexact HS]
  iintro HS
  iapply (wsend2_block I K κ (c := c) (rs := 32) 16 (guard c 16)) $$ [HS]
  · isplitr <;> [iexact HC; iexact HS]
  iintro HS
  iapply (wsend2_block I K κ (c := c) (rs := 32) 17 (guard c 17)) $$ [HS]
  · isplitr <;> [iexact HC; iexact HS]
  iintro HS
  iapply (wsend2_block I K κ (c := c) (rs := 32) 18 (guard c 18)) $$ [HS]
  · isplitr <;> [iexact HC; iexact HS]
  iintro HS
  iapply (wsend2_block I K κ (c := c) (rs := 32) 19 (guard c 19)) $$ [HS]
  · isplitr <;> [iexact HC; iexact HS]
  iintro HS
  iapply (wsend2_block I K κ (c := c) (rs := 32) 20 (guard c 20)) $$ [HS]
  · isplitr <;> [iexact HC; iexact HS]
  iintro HS
  iapply (wsend2_block I K κ (c := c) (rs := 32) 21 (guard c 21)) $$ [HS]
  · isplitr <;> [iexact HC; iexact HS]
  iintro HS
  iapply (wsend2_block I K κ (c := c) (rs := 32) 22 (guard c 22)) $$ [HS]
  · isplitr <;> [iexact HC; iexact HS]
  iintro HS
  iapply (wsend2_block I K κ (c := c) (rs := 32) 23 (guard c 23)) $$ [HS]
  · isplitr <;> [iexact HC; iexact HS]
  iintro HS
  iapply ret_step
  iapply Hk
  iexact HS

theorem part20 (c : Dev nD) (v : BitVec 32) (Kt : (Σ' (v534 : BitVec 32), BitVec 32) → sProp 𝕄) :
    iprop(Ctx I K κ ∗ Sc I c 28 0 0 ∗ aRowPts c c (FA I c) ∗ gRowAny c c
        ∗ ((Sc I c 32 1 0 ∗ aRowPts c c (FA I c) ∗ gRowPts c c (R2 I c)) -∗ Kt ⟨(Scalar.extui (Scalar.cmpi .ne (dw c) 1#32) : BitVec 32), 0#32⟩))
      ⊢ WP c (onArgs (k0_part20_skel (F := F)) c (dw c) v) Kt := by
  unfold k0_part20_skel
  iintro ⟨#HC, HS, Ha, Hg, Hk⟩
  iapply (send2_block I K κ (c := c) (rs := 0) (ws := 0) 28 (guard c 28) (Nat.zero_le _) k0_dev50_eq (k0_off57_eq c) (k0_off58_eq c)) $$ [HS]
  · isplitr <;> [iexact HC; iexact HS]
  iintro HS
  iapply (send2_block I K κ (c := c) (rs := 0) (ws := 0) 29 (guard c 29) (Nat.zero_le _) k0_dev51_eq (k0_off59_eq c) (k0_off60_eq c)) $$ [HS]
  · isplitr <;> [iexact HC; iexact HS]
  iintro HS
  iapply (send2_block I K κ (c := c) (rs := 0) (ws := 0) 30 (guard c 30) (Nat.zero_le _) k0_dev52_eq (k0_off61_eq c) (k0_off62_eq c)) $$ [HS]
  · isplitr <;> [iexact HC; iexact HS]
  iintro HS
  iapply (send2_block I K κ (c := c) (rs := 0) (ws := 0) 31 (guard c 31) (Nat.zero_le _) k0_dev53_eq (k0_off63_eq c) (k0_off64_eq c)) $$ [HS]
  · isplitr <;> [iexact HC; iexact HS]
  iintro HS
  iapply (own_load (k0_off65_eq c)) $$ Ha
  iintro Ha
  iapply (own_look (k0_off65_eq c)) $$ Hg
  iintro Hg
  iapply (own_store I (pay13_eq _) (k0_off65_eq c)) $$ Hg
  iintro Hg
  iapply (recv2_block I K κ (c := c) (ws := 0) 0 (guard c 0)) $$ [HS]
  · isplitr <;> [iexact HC; iexact HS]
  iintro HS
  iapply ret_step
  iapply Hk
  isplitl [HS]; · iexact HS
  isplitl [Ha] <;> [iexact Ha; iexact Hg]

theorem part25 (c : Dev nD) (v2 : BitVec 32) (o : Vec F S4x128 .f32) (Kt : PUnit → sProp 𝕄) :
    iprop(Ctx I K κ ∗ Sc I c 32 31 0 ∗ gRowPts c c (R2 I c) ∗ stgPts c cc0_stg7_0 o
        ∗ ((Sc I c 32 32 6 ∗ gRowPts c c (R2 I c) ∗ stgPts c cc0_stg7_0 (OUT I c)) -∗ Kt ⟨⟩))
      ⊢ WP c (onArgs (k0_part25_skel (F := F)) c v2 (Scalar.extui (Scalar.cmpi .ne (dw c) 31#32) : BitVec 32) 0#32) Kt := by
  unfold k0_part25_skel
  iintro ⟨#HC, HS, Hg, Ho, Hk⟩
  iapply (recv2_block I K κ (c := c) (ws := 0) 31 (guard c 31)) $$ [HS]
  · isplitr <;> [iexact HC; iexact HS]
  iintro HS
  iapply (load_g I (ws := 0)) $$ [HS Hg]
  · isplitl [HS] <;> [iexact HS; iexact Hg]
  iintro ⟨HS, Hg⟩
  iapply (load_all (m := Memref.whole cc0_stg7_0) fullShare o o (Memref.readAt_unit_zero (Elt F) cc0_stg7_0 hz2 _ _)) $$ Ho
  iintro Ho
  iapply (out_store (OUT I c) rfl) $$ Ho
  iintro Ho
  iapply (wsend2_block I K κ (c := c) (rs := 32) 0 (guard c 0)) $$ [HS]
  · isplitr <;> [iexact HC; iexact HS]
  iintro HS
  iapply (wsend2_block I K κ (c := c) (rs := 32) 1 (guard c 1)) $$ [HS]
  · isplitr <;> [iexact HC; iexact HS]
  iintro HS
  iapply (wsend2_block I K κ (c := c) (rs := 32) 2 (guard c 2)) $$ [HS]
  · isplitr <;> [iexact HC; iexact HS]
  iintro HS
  iapply (wsend2_block I K κ (c := c) (rs := 32) 3 (guard c 3)) $$ [HS]
  · isplitr <;> [iexact HC; iexact HS]
  iintro HS
  iapply (wsend2_block I K κ (c := c) (rs := 32) 4 (guard c 4)) $$ [HS]
  · isplitr <;> [iexact HC; iexact HS]
  iintro HS
  iapply (wsend2_block I K κ (c := c) (rs := 32) 5 (guard c 5)) $$ [HS]
  · isplitr <;> [iexact HC; iexact HS]
  iintro HS
  iapply ret_step
  iapply Hk
  isplitl [HS]; · iexact HS
  isplitl [Hg] <;> [iexact Hg; iexact Ho]

end PartsTwo

end Cert.Mlp
-- ==== Proof.Whole.lean ====
module

public import proofs.«01_k».proof.Proof.PartsTwo

/-!
# The body

The parts one after another.
-/

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

section Whole
variable (I : Dev nD → Ins F) (K : Dev nD × DK → ℕ) (κ : Dev nD → ℕ)

theorem bind_step {α β : Type} {c : Dev nD} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  unfold WP; rw [wp_bind]

/-- The operands of device `c`, staged. -/
def ops (c : Dev nD) : sProp 𝕄 :=
  iprop(stgPts c cc0_stg0_0 (I c).x ∗ stgPts c cc0_stg1_0 (I c).w0 ∗ stgPts c cc0_stg2_0 (I c).u0 ∗ stgPts c cc0_stg3_0 (I c).w1
    ∗ stgPts c cc0_stg4_0 (I c).u1 ∗ stgPts c cc0_stg5_0 (I c).w2 ∗ stgPts c cc0_stg6_0 (I c).u2)
/-- What the body leaves, the last `32 - j` of its copies not yet waited for. -/
def Left (c : Dev nD) (j : ℕ) : sProp 𝕄 :=
  iprop(Done I c ∗ Sc I c 32 32 j ∗ aRowPts c c (FA I c) ∗ gRowPts c c (R2 I c)
    ∗ (bPts c (qs 0) (H2 I c) ∗ bPts c (qs 1) (H2 I c) ∗ bPts c (qs 2) (H2 I c) ∗ bPts c qk (H2 I c)) ∗ ops I c ∗ stgPts c cc0_stg7_0 (OUT I c))
/-- What it begins from. -/
def Begun (c : Dev nD) (fa fb : Vec F S128x128 .f32) (o : Vec F S4x128 .f32) : sProp 𝕄 :=
  iprop(Sg c 0 ∗ Rest I c ∗ Sc0 I c ∗ aPts c fullShare fa ∗ bPts c fullShare fb ∗ ops I c ∗ stgPts c cc0_stg7_0 o)

set_option maxHeartbeats 4000000 in
theorem part28 (c : Dev nD) (fa fb : Vec F S128x128 .f32) (o : Vec F S4x128 .f32) (Kt : (Σ' (d0 : Dev nD) (v2 : BitVec 32) (v715 : BitVec 32), BitVec 32) → sProp 𝕄) :
    iprop(Ctx I K κ ∗ Begun I c fa fb o ∗ (Left I c 28 -∗ Kt ⟨c, dw c, (Scalar.extui (Scalar.cmpi .ne (dw c) 28#32) : BitVec 32), 0#32⟩))
      ⊢ WP c (onArgs (k0_part28_skel (F := F))) Kt := by
  unfold k0_part28_skel Begun Left ops
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  iintro ⟨#HC, ⟨HS, HR, HN, Haf, Hbf, ⟨Ho0, Ho1, Ho2, Ho3, Ho4, Ho5, Ho6⟩, Ho7⟩, Hk⟩
  iapply bind_step
  iapply (part1 I K κ c)
  isplitr; · iexact HC
  isplitl [HS]; · iexact HS
  iintro HS
  iapply bind_step
  iapply (part2 I K κ c _ _ fa)
  isplitr; · iexact HC
  isplitl [HS]; · iexact HS
  isplitl [HR]; · iexact HR
  isplitl [Ho0]; · iexact Ho0
  isplitl [Ho1]; · iexact Ho1
  isplitl [Ho2]; · iexact Ho2
  isplitl [Haf]; · iexact Haf
  iintro ⟨HS, Ho0, Ho1, Ho2, Ha1, Ha2, Hak⟩
  iapply bind_step
  iapply (part3 I K κ c _ fb)
  isplitr; · iexact HC
  isplitl [HS]; · iexact HS
  isplitl [Ha1]; · iexact Ha1
  isplitl [Ha2]; · iexact Ha2
  isplitl [Hak]; · iexact Hak
  isplitl [Hbf]; · iexact Hbf
  iintro ⟨HS, Ha1, Ha2, Hak, Hb2, Hbk⟩
  iapply bind_step
  iapply (part4 I K κ c _ _ _)
  isplitr; · iexact HC
  isplitl [HS]; · iexact HS
  isplitl [Ha1]; · iexact Ha1
  isplitl [Ha2]; · iexact Ha2
  isplitl [Hak]; · iexact Hak
  isplitl [Hb2]; · iexact Hb2
  isplitl [Hbk]; · iexact Hbk
  iintro ⟨HS, Ha1, Ha2, Hak, Hbk⟩
  iapply bind_step
  iapply (part5 I K κ c _)
  isplitr; · iexact HC
  isplitl [HS]; · iexact HS
  isplitl [Ha1]; · iexact Ha1
  isplitl [Ha2]; · iexact Ha2
  isplitl [Hak]; · iexact Hak
  isplitl [Hbk]; · iexact Hbk
  iintro ⟨HS, Ha1, Ha2, Hak, Hbk⟩
  iapply bind_step
  iapply (part6 I K κ c _ _ _)
  isplitr; · iexact HC
  isplitl [HS]; · iexact HS
  isplitl [Ha1]; · iexact Ha1
  isplitl [Ha2]; · iexact Ha2
  isplitl [Hak]; · iexact Hak
  isplitl [Hbk]; · iexact Hbk
  iintro ⟨HS, Hak, Hbk⟩
  iapply bind_step
  iapply (part7 I K κ c _)
  isplitr; · iexact HC
  isplitl [HS]; · iexact HS
  isplitl [Hak]; · iexact Hak
  isplitl [Hbk]; · iexact Hbk
  iintro ⟨HS, Hak, Hb0, Hb1, Hb2, Hbk⟩
  iapply bind_step
  iapply (part8 I K κ c)
  isplitr; · iexact HC
  isplitl [HS]; · iexact HS
  isplitl [Hak]; · iexact Hak
  isplitl [Hb0]; · iexact Hb0
  isplitl [Hb1]; · iexact Hb1
  isplitl [Hb2]; · iexact Hb2
  isplitl [Hbk]; · iexact Hbk
  isplitl [Ho3]; · iexact Ho3
  iintro ⟨HS, Ha0, Ha1, Ha2, Hak, Hb0, Hb1, Hb2, Hbk, Ho3⟩
  iapply bind_step
  iapply (part9 I K κ c _)
  isplitr; · iexact HC
  isplitl [HS]; · iexact HS
  isplitl [Ha0]; · iexact Ha0
  isplitl [Ha1]; · iexact Ha1
  isplitl [Ha2]; · iexact Ha2
  isplitl [Hak]; · iexact Hak
  isplitl [Hb0]; · iexact Hb0
  isplitl [Hb1]; · iexact Hb1
  isplitl [Hb2]; · iexact Hb2
  isplitl [Hbk]; · iexact Hbk
  isplitl [Ho4]; · iexact Ho4
  iintro ⟨HS, Ha1, Ha2, Hak, Hb0, Hb1, Hb2, Hbk, Ho4⟩
  iapply bind_step
  iapply (part10 I K κ c _ _)
  isplitr; · iexact HC
  isplitl [HS]; · iexact HS
  isplitl [Ha1]; · iexact Ha1
  isplitl [Ha2]; · iexact Ha2
  isplitl [Hak]; · iexact Hak
  isplitl [Hb0]; · iexact Hb0
  isplitl [Hb1]; · iexact Hb1
  isplitl [Hb2]; · iexact Hb2
  isplitl [Hbk]; · iexact Hbk
  iintro ⟨HS, Ha1, Ha2, Hak, Hbk⟩
  iapply bind_step
  iapply (part11 I K κ c _ _)
  isplitr; · iexact HC
  isplitl [HS]; · iexact HS
  isplitl [Ha1]; · iexact Ha1
  isplitl [Ha2]; · iexact Ha2
  isplitl [Hak]; · iexact Hak
  isplitl [Hbk]; · iexact Hbk
  iintro ⟨HS, Ha0, Ha1, Ha2, Hak, Hbk⟩
  iapply bind_step
  iapply (part12 I K κ c _)
  isplitr; · iexact HC
  isplitl [HS]; · iexact HS
  isplitl [Ha0]; · iexact Ha0
  isplitl [Ha1]; · iexact Ha1
  isplitl [Ha2]; · iexact Ha2
  isplitl [Hak]; · iexact Hak
  isplitl [Hbk]; · iexact Hbk
  iintro ⟨HS, Ha2, Hak, Hbk⟩
  iapply bind_step
  iapply (part13 I K κ c _ _ _)
  isplitr; · iexact HC
  isplitl [HS]; · iexact HS
  isplitl [Ha2]; · iexact Ha2
  isplitl [Hak]; · iexact Hak
  isplitl [Hbk]; · iexact Hbk
  iintro ⟨HS, Hak, Hb0, Hbk⟩
  iapply bind_step
  iapply (part14 I K κ c)
  isplitr; · iexact HC
  isplitl [HS]; · iexact HS
  isplitl [Hak]; · iexact Hak
  isplitl [Hb0]; · iexact Hb0
  isplitl [Hbk]; · iexact Hbk
  iintro ⟨HS, Ha0, Hak, Hb0, Hb1, Hb2, Hbk⟩
  iapply bind_step
  iapply (part15 I K κ c _)
  isplitr; · iexact HC
  isplitl [HS]; · iexact HS
  isplitl [Ha0]; · iexact Ha0
  isplitl [Hak]; · iexact Hak
  isplitl [Hbk]; · iexact Hbk
  isplitl [Ho5]; · iexact Ho5
  isplitl [Ho6]; · iexact Ho6
  isplitl [HN]; · iexact HN
  iintro %r15 ⟨HD, HS, Hr, Hg, Hbk, Ho5, Ho6⟩
  iapply bind_step
  iapply (part16 I K κ c _ _)
  isplitr; · iexact HC
  isplitl [HS]; · iexact HS
  iintro %r16 HS
  iapply bind_step
  iapply (part17 I K κ c _ _)
  isplitr; · iexact HC
  isplitl [HS]; · iexact HS
  iintro HS
  iapply bind_step
  iapply (part18 I K κ c _)
  isplitr; · iexact HC
  isplitl [HS]; · iexact HS
  iintro %r18 HS
  iapply bind_step
  iapply (part19 I K κ c _ _)
  isplitr; · iexact HC
  isplitl [HS]; · iexact HS
  iintro %r19 HS
  iapply bind_step
  iapply (part20 I K κ c _)
  isplitr; · iexact HC
  isplitl [HS]; · iexact HS
  isplitl [Hr]; · iexact Hr
  isplitl [Hg]; · iexact Hg
  iintro ⟨HS, Hr, Hg⟩
  iapply bind_step
  iapply (part21 I K κ c)
  isplitr; · iexact HC
  isplitl [HS]; · iexact HS
  iintro HS
  iapply bind_step
  iapply (part22 I K κ c)
  isplitr; · iexact HC
  isplitl [HS]; · iexact HS
  iintro HS
  iapply bind_step
  iapply (part23 I K κ c)
  isplitr; · iexact HC
  isplitl [HS]; · iexact HS
  iintro HS
  iapply bind_step
  iapply (part24 I K κ c)
  isplitr; · iexact HC
  isplitl [HS]; · iexact HS
  iintro HS
  iapply bind_step
  iapply (part25 I K κ c _ o)
  isplitr; · iexact HC
  isplitl [HS]; · iexact HS
  isplitl [Hg]; · iexact Hg
  isplitl [Ho7]; · iexact Ho7
  iintro ⟨HS, Hg, Ho7⟩
  iapply bind_step
  iapply (part26 I K κ c _)
  isplitr; · iexact HC
  isplitl [HS]; · iexact HS
  iintro %r26 HS
  iapply bind_step
  iapply (part27 I K κ c _ _)
  isplitr; · iexact HC
  isplitl [HS]; · iexact HS
  iintro HS
  iapply (wsend2_block I K κ (c := c) (rs := 32) 24 (guard c 24)) $$ [HS]
  · isplitr <;> [iexact HC; iexact HS]
  iintro HS
  iapply (wsend2_block I K κ (c := c) (rs := 32) 25 (guard c 25)) $$ [HS]
  · isplitr <;> [iexact HC; iexact HS]
  iintro HS
  iapply (wsend2_block I K κ (c := c) (rs := 32) 26 (guard c 26)) $$ [HS]
  · isplitr <;> [iexact HC; iexact HS]
  iintro HS
  iapply (wsend2_block I K κ (c := c) (rs := 32) 27 (guard c 27)) $$ [HS]
  · isplitr <;> [iexact HC; iexact HS]
  iintro HS
  iapply ret_step
  iapply Hk
  isplitl [HD]; · iexact HD
  isplitl [HS]; · iexact HS
  isplitl [Hr]; · iexact Hr
  isplitl [Hg]; · iexact Hg
  isplitl [Hb0 Hb1 Hb2 Hbk]
  · isplitl [Hb0]; · iexact Hb0
    isplitl [Hb1]; · iexact Hb1
    isplitl [Hb2] <;> [iexact Hb2; iexact Hbk]
  isplitr [Ho7]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    iexact Ho6
  iexact Ho7

theorem body_whole (c : Dev nD) (fa fb : Vec F S128x128 .f32) (o : Vec F S4x128 .f32) (Kt : PUnit → sProp 𝕄) :
    iprop(Ctx I K κ ∗ Begun I c fa fb o ∗ (Left I c 32 -∗ Kt ⟨⟩)) ⊢ WP c (onArgs (cc0_body (F := F))) Kt := by
  rw [cc0_body_eq_skeleton]
  unfold cc0_body_skel
  rw [k0_part28_eq_skeleton]
  iintro ⟨#HC, HB, Hk⟩
  iapply bind_step
  iapply (part28 I K κ c fa fb o)
  isplitr; · iexact HC
  isplitl [HB]; · iexact HB
  unfold Left
  iintro ⟨HD, HS, HL⟩
  iapply (wsend2_block I K κ (c := c) (rs := 32) 28 (guard c 28)) $$ [HS]
  · isplitr <;> [iexact HC; iexact HS]
  iintro HS
  iapply (wsend2_block I K κ (c := c) (rs := 32) 29 (guard c 29)) $$ [HS]
  · isplitr <;> [iexact HC; iexact HS]
  iintro HS
  iapply (wsend2_block I K κ (c := c) (rs := 32) 30 (guard c 30)) $$ [HS]
  · isplitr <;> [iexact HC; iexact HS]
  iintro HS
  iapply (wsend2_block I K κ (c := c) (rs := 32) 31 (guard c 31)) $$ [HS]
  · isplitr <;> [iexact HC; iexact HS]
  iintro HS
  iapply ret_step
  iapply Hk
  isplitl [HD]; · iexact HD
  isplitl [HS] <;> [iexact HS; iexact HL]

end Whole

end Cert.Mlp
-- ==== Proof.Deal.lean ====
module

public import proofs.«01_k».proof.Proof.Whole

/-!
# A device's start and end

What the launch deals a device makes up what its body begins from, and what the body leaves is every buffer whole and every
semaphore at zero.
-/
@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

/-! ## What a device starts from -/

section Deal
variable (I : Dev nD → Ins F) (K : Dev nD × DK → ℕ) (κ : Dev nD → ℕ)

/-- A family over the transfer semaphores, sort by sort. -/
theorem fam_dk (Φ : DK → sProp 𝕄) :
    bigSep Finset.univ Φ = iprop(((bigSep Finset.univ fun k => Φ (.snd k)) ∗ bigSep Finset.univ fun k => Φ (.rcv k))
      ∗ (bigSep Finset.univ fun j => Φ (.snd2 j)) ∗ bigSep Finset.univ fun s => Φ (.rcv2 s)) := by
  have h := bigSep_univ_equiv DK.equiv.symm Φ
  rw [bigSep_univ_sum, bigSep_univ_sum, bigSep_univ_sum] at h
  exact h

/-- A family over the fourteen exchanges, all-reduce by all-reduce. -/
theorem fam_twice (Φ : Fin 14 → sProp 𝕄) :
    bigSep Finset.univ Φ = bigSep Finset.univ fun i : Fin 7 => iprop(Φ (lo i) ∗ Φ (hi i)) := by
  have h := bigSep_univ_equiv (finSumFinEquiv : Fin 7 ⊕ Fin 7 ≃ Fin (7 + 7)) Φ
  rw [bigSep_univ_sum] at h
  rw [bigSep_sep']
  exact h

/-- Its positions. -/
def Pos (c : Dev nD) : sProp 𝕄 := iprop(atPos ER (barCell c) 0 ∅ 0 ∗ bigSep Finset.univ fun i : DK => atPos ER (dcell c i) 0 ∅ 0)
/-- The tokens it pays with. -/
def Pays (c : Dev nD) : sProp 𝕄 :=
  iprop((bigSep Finset.univ fun i : Fin 7 => dutyTok ER (barCell (par i c)) 0 i)
    ∗ (bigSep Finset.univ fun k : Fin 14 => dutyTok ER (dcell c (.snd k)) 0 0)
    ∗ (bigSep Finset.univ fun k : Fin 14 => dutyTok ER (dcell (peer k c) (.rcv k)) 0 0)
    ∗ (bigSep Finset.univ fun j : Fin 32 => dutyTok ER (dcell c (.snd2 j)) 0 0)
    ∗ bigSep Finset.univ fun j : Fin 32 => dutyTok ER (dcell j (.rcv2 c)) 0 0)
/-- The credits it waits for. -/
def Owed (c : Dev nD) : sProp 𝕄 :=
  iprop((bigSep Finset.univ fun m : Fin 3 => cred (tallyAt (barCell c) () (wamt m)))
    ∗ (bigSep Finset.univ fun k : Fin 14 => cred (tallyAt (dcell c (.rcv k)) () N))
    ∗ bigSep Finset.univ fun s : Fin 32 => if s = c then iprop(emp) else cred (tallyAt (dcell c (.rcv2 s)) () N2))

theorem tk2_make (c : Dev nD) (j : Fin 32) :
    iprop(atPos ER (dcell c (.snd2 j)) 0 ∅ 0 ∗ dutyTok ER (dcell c (.snd2 j)) 0 0 ∗ dutyTok ER (dcell j (.rcv2 c)) 0 0) ⊢ (tk2 c j : sProp 𝕄) := by
  unfold tk2
  by_cases h : j = c
  · rw [if_pos h]
    iintro ⟨H, -, -⟩
    isplitl [H]; · iexact H
    iempintro
  · rw [if_neg h]

theorem start_sg (c : Dev nD) :
    iprop((∃ W, owes (c : Thread nD τ) (Ow c 0 0 0) W) ∗ (bigSep Finset.univ fun i : Fin 7 => dutyTok ER (barCell (par i c)) 0 i)
      ∗ bigSep Finset.univ fun k : Fin 14 => slotAny c k) ⊢ (Sg c 0 : sProp 𝕄) := by
  unfold Sg
  rw [since_zero, fam_twice (fun k : Fin 14 => slotAny c k), bigSep_sep' Finset.univ (fun i : Fin 7 => dutyTok ER (barCell (par i c)) 0 i)]

theorem start_rt (c : Dev nD) : (bigSep Finset.univ fun j : Fin 32 => gRowAny c j) ⊢ (Rt c 0 0 0 : sProp 𝕄) := by
  unfold Rt
  rw [← held_zero, rights_begin, show ((phs 0).filter fun i => 0 ≤ i.val) = phs 0 from by decide, show ((phs 0).filter fun i => i.val < 0) = ∅ from by decide]

theorem start_bar (c : Dev nD) :
    iprop(atPos ER (barCell c) 0 ∅ 0 ∗ bigSep Finset.univ fun m : Fin 3 => cred (tallyAt (barCell c) () (wamt m))) ⊢ (Bar c 0 : sProp 𝕄) := by
  unfold Bar
  rw [show ((0 : Fin 4).val) = 0 from rfl, since_zero]
  exact BI.Entails.refl _

theorem start_exS (c : Dev nD) :
    iprop((bigSep Finset.univ fun k : Fin 14 => atPos ER (dcell c (.snd k)) 0 ∅ 0) ∗ (bigSep Finset.univ fun k : Fin 14 => dutyTok ER (dcell c (.snd k)) 0 0)
      ∗ bigSep Finset.univ fun k : Fin 14 => dutyTok ER (dcell (peer k c) (.rcv k)) 0 0) ⊢ (bigSep Finset.univ (exS c 0 0) : sProp 𝕄) := by
  rw [← bigSep_sep', ← bigSep_sep']
  exact fam_mono fun k _ => by
    unfold exS; rw [if_neg (Nat.not_lt_zero _), if_neg (Nat.not_lt_zero _)]

theorem start_exR (c : Dev nD) :
    iprop((bigSep Finset.univ fun k : Fin 14 => atPos ER (dcell c (.rcv k)) 0 ∅ 0) ∗ bigSep Finset.univ fun k : Fin 14 => cred (tallyAt (dcell c (.rcv k)) () N))
      ⊢ (bigSep Finset.univ (exR I c 0) : sProp 𝕄) := by
  rw [← bigSep_sep']
  exact fam_mono fun k _ => by unfold exR; rw [if_neg (Nat.not_lt_zero _)]

theorem start_tk2 (c : Dev nD) :
    iprop((bigSep Finset.univ fun j : Fin 32 => atPos ER (dcell c (.snd2 j)) 0 ∅ 0) ∗ (bigSep Finset.univ fun j : Fin 32 => dutyTok ER (dcell c (.snd2 j)) 0 0)
      ∗ bigSep Finset.univ fun j : Fin 32 => dutyTok ER (dcell j (.rcv2 c)) 0 0) ⊢ (bigSep Finset.univ (tk2 c) : sProp 𝕄) := by
  rw [← bigSep_sep', ← bigSep_sep']
  exact fam_mono fun j _ => tk2_make c j

theorem start_exR2 (c : Dev nD) :
    iprop((bigSep Finset.univ fun s : Fin 32 => atPos ER (dcell c (.rcv2 s)) 0 ∅ 0)
      ∗ bigSep Finset.univ fun s : Fin 32 => if s = c then iprop(emp) else cred (tallyAt (dcell c (.rcv2 s)) () N2))
      ⊢ (bigSep Finset.univ (exR2 I c 0) : sProp 𝕄) := by
  rw [← bigSep_sep']
  exact fam_mono fun s _ => by unfold exR2; rw [if_neg (Nat.not_lt_zero _)]

/-- From the launch to the body's beginning. -/
theorem starts (c : Dev nD) :
    iprop(Pos c ∗ Pays c ∗ Owed c ∗ (∃ W, owes (c : Thread nD τ) (Ow c 0 0 0) W)
      ∗ (∃ f : Vec F S14x128x128 .f32, ((c : Thread nD τ).loc cc0_scratch2) ↦{fullShare} f) ∗ ∃ f : Vec F S128x128 .f32, ((c : Thread nD τ).loc cc0_scratch5) ↦{fullShare} f)
      ⊢ (iprop(Sg c 0 ∗ Rest I c ∗ Sc0 I c) : sProp 𝕄) := by
  have hd := fam_dk (F := F) fun i : DK => atPos ER (dcell c i) 0 ∅ 0
  unfold Pos Pays Owed Rest Sc0
  iintro ⟨⟨HaB, Ha⟩, ⟨HtB, HtS, HtV, HtS2, HtV2⟩, ⟨HcB, HcV, HcV2⟩, HO, ⟨%fv, Hv⟩, ⟨%fg, Hg⟩⟩
  ihave Ha := (Entails.of_eq hd) $$ Ha
  icases Ha with ⟨⟨HaS, HaV⟩, HaS2, HaV2⟩
  ihave Hv := (vPts_slots_any c fv) $$ Hv
  ihave Hg := (gPts_rows_any c fg) $$ Hg
  isplitl [HO HtB Hv]
  · iapply (start_sg c)
    isplitl [HO]; · iexact HO
    isplitl [HtB] <;> iassumption
  isplitl [HaB HcB HaS HtS HtV HaV HcV Hg]
  · isplitl [HaB HcB]
    · iapply (start_bar c)
      isplitl [HaB] <;> iassumption
    isplitl [HaS HtS HtV]
    · iapply (start_exS c)
      isplitl [HaS]; · iexact HaS
      isplitl [HtS] <;> iassumption
    isplitl [HaV HcV]
    · iapply (start_exR I c)
      isplitl [HaV] <;> iassumption
    iapply (start_rt c)
    iexact Hg
  isplitl [HaS2 HtS2 HtV2]
  · iapply (start_tk2 c)
    isplitl [HaS2]; · iexact HaS2
    isplitl [HtS2] <;> iassumption
  iapply (start_exR2 I c)
  isplitl [HaV2] <;> iassumption

/-! ## What it ends with -/

/-- The four scratch buffers, at some contents. -/
def Scr (c : Dev nD) : sProp 𝕄 :=
  iprop((∃ f : Vec F S128x128 .f32, ((c : Thread nD τ).loc cc0_scratch0) ↦{fullShare} f) ∗ (∃ f : Vec F S128x128 .f32, ((c : Thread nD τ).loc cc0_scratch1) ↦{fullShare} f)
    ∗ (∃ f : Vec F S14x128x128 .f32, ((c : Thread nD τ).loc cc0_scratch2) ↦{fullShare} f) ∗ ∃ f : Vec F S128x128 .f32, ((c : Thread nD τ).loc cc0_scratch5) ↦{fullShare} f)
/-- Its semaphores, at zero. -/
def Zero (c : Dev nD) : sProp 𝕄 := iprop(semVal (barCell c) 0 ∗ bigSep Finset.univ fun i : DK => semVal (dcell c i) 0)

theorem end_exS (c : Dev nD) : (bigSep Finset.univ (exS c 14 14) : sProp 𝕄) = bigSep Finset.univ fun k : Fin 14 => semVal (dcell c (.snd k)) 0 :=
  bigSep_congr fun k _ => if_pos k.isLt
theorem end_exR (c : Dev nD) : (bigSep Finset.univ (exR I c 14) : sProp 𝕄)
    = iprop((bigSep Finset.univ fun k : Fin 14 => semVal (dcell c (.rcv k)) 0) ∗ bigSep Finset.univ fun k : Fin 14 => slotPts c k (P I (ph k) (peer k c))) := by
  rw [← bigSep_sep']
  exact bigSep_congr fun k _ => if_pos k.isLt

theorem ends (c : Dev nD) :
    iprop(Ctx I K κ ∗ Left I c 32)
      ⊢ (iprop(|={Set.univ}=> (Zero c ∗ Scr c ∗ (∃ W, owes (c : Thread nD τ) (0 : CellTallies nD τ sig Unit) W) ∗ ops I c ∗ stgPts c cc0_stg7_0 (OUT I c))) : sProp 𝕄) := by
  have hb : (Bar c 3 : sProp 𝕄) ⊢ atPos ER (barCell c) 0 (stage (Fin.last 3)) (wt (stage (Fin.last 3))) := by
    unfold Bar
    iintro ⟨H, -⟩
    iexact H
  have hd := fam_dk (F := F) fun i : DK => semVal (dcell c i) 0
  have hbw := bPts_whole (F := F) c fullShare (H2 I c)
  have haw := aPts_whole (F := F) c fullShare (FA I c)
  unfold Left Done Sc Zero Scr
  rw [Ow_done]
  iintro ⟨#HC, ⟨HB, HS, HR⟩, ⟨HO, HS2, HR2⟩, Ha, Hg, Hb, Ho, Ho7⟩
  ihave HB := hb $$ HB
  ihave #HI := (ctx_bar I K κ c) $$ HC
  ihave HB := (bar_close (κ c) c) $$ [HB]
  · isplitr <;> [iexact HI; iexact HB]
  imod HB
  imodintro
  ihave HS := (Entails.of_eq (end_exS c)) $$ HS
  ihave HR := (Entails.of_eq (end_exR I c)) $$ HR
  icases HR with ⟨HR, Hv⟩
  ihave Hv := (slots_join c fun k => P I (ph k) (peer k c)) $$ Hv
  ihave H := (Entails.of_eq (rows_in I c)) $$ [HR2 Hg]
  · isplitl [HR2] <;> iassumption
  icases H with ⟨HR2, Hg⟩
  ihave H := (Entails.of_eq (rows_out I c)) $$ [HS2 Ha]
  · isplitl [HS2] <;> iassumption
  icases H with ⟨HS2, Ha⟩
  ihave Hb := (bPts_join c (H2 I c)) $$ Hb
  ihave Hb := (Entails.of_eq hbw) $$ Hb
  ihave Ha := (Entails.of_eq haw) $$ Ha
  isplitl [HB HS HR HS2 HR2]
  · isplitl [HB]; · iexact HB
    iapply (Entails.of_eq hd.symm)
    isplitl [HS HR]
    · isplitl [HS] <;> iassumption
    isplitl [HS2] <;> iassumption
  isplitl [Ha Hb Hv Hg]
  · isplitl [Ha]; · iexists _; iexact Ha
    isplitl [Hb]; · iexists _; iexact Hb
    isplitl [Hv]; · iexact Hv
    iexists _; iexact Hg
  isplitl [HO]; · iexact HO
  isplitl [Ho] <;> iassumption

end Deal

end Cert.Mlp

end
-- ==== Proof.Body.lean ====
module

public import proofs.«01_k».proof.Proof.Deal
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

/-!
# The body as the pipeline calls it
-/
@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

open Idealize.ShloMosaic.Pipeline (Dat Cfg Window BodyObligation cellOf)

section Body
variable (m : (ℓ : Loc nD τ sig) → Buf (Elt F) ℓ) (ρ : Dev nD → PrngReg)

/-- The state the run begins from. -/
def s₀ : MemSt nD τ sig (Elt F) := ⟨m, fun _ => 0, ρ⟩

/-- What device `c`'s operands hold. -/
def insAt (c : Dev nD) : Ins F where
  x := (win0_0.blk (0 : Fin 1)).view.read (Elt F) ((s₀ m ρ).mem ((c : Thread nD τ).loc main_arg0))
  w0 := (win0_1.blk (0 : Fin 1)).view.read (Elt F) ((s₀ m ρ).mem ((c : Thread nD τ).loc main_arg1))
  u0 := (win0_2.blk (0 : Fin 1)).view.read (Elt F) ((s₀ m ρ).mem ((c : Thread nD τ).loc main_arg4))
  w1 := (win0_3.blk (0 : Fin 1)).view.read (Elt F) ((s₀ m ρ).mem ((c : Thread nD τ).loc main_arg2))
  u1 := (win0_4.blk (0 : Fin 1)).view.read (Elt F) ((s₀ m ρ).mem ((c : Thread nD τ).loc main_arg5))
  w2 := (win0_5.blk (0 : Fin 1)).view.read (Elt F) ((s₀ m ρ).mem ((c : Thread nD τ).loc main_arg3))
  u2 := (win0_6.blk (0 : Fin 1)).view.read (Elt F) ((s₀ m ρ).mem ((c : Thread nD τ).loc main_arg6))

theorem cfg0_N : cfg0.N = 1 := by decide
/-- The grid's one point. -/
def t₀ : Fin cfg0.N := ⟨0, by rw [cfg0_N]; decide⟩
theorem fin_N (t : Fin cfg0.N) : t = t₀ := by
  have h : t.val < 1 := lt_of_lt_of_eq t.isLt cfg0_N
  exact Fin.ext (Nat.lt_one_iff.mp h)

/-- What device `c`'s body starts from, besides its buffers. -/
def start (c : Dev nD) : sProp 𝕄 :=
  iprop((∃ (K : Dev nD × DK → ℕ) (κ : Dev nD → ℕ), Ctx (insAt m ρ) K κ) ∗ Pos c ∗ Pays c ∗ Owed c)
def Φ₀ (c : Dev nD) : sProp 𝕄 := iprop(start m ρ c ∗ Scr c)
def Φ₁ (c : Dev nD) : sProp 𝕄 := iprop(Zero (F := F) c ∗ Scr c)

/-- The pipeline's data: the staged operands and the result. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (insAt m ρ c).x
    | ⟨1, _⟩ => (insAt m ρ c).w0
    | ⟨2, _⟩ => (insAt m ρ c).u0
    | ⟨3, _⟩ => (insAt m ρ c).w1
    | ⟨4, _⟩ => (insAt m ρ c).u1
    | ⟨5, _⟩ => (insAt m ρ c).w2
    | ⟨6, _⟩ => (insAt m ρ c).u2
    | ⟨7, _⟩ => OUT (insAt m ρ) c
  Φ t := match t with
    | ⟨0, _⟩ => Φ₀ m ρ c
    | ⟨_ + 1, _⟩ => Φ₁ (F := F) c
  q _ := fullShare
  owed t := match t with
    | ⟨0, _⟩ => Ow c 0 0 0
    | ⟨_ + 1, _⟩ => 0

theorem fam_win (Φ : Fin cfg0.W → sProp 𝕄) : bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0 Φ

/-- A whole buffer owned at `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem whole_owns (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  simp only [owns, stg, Memref.view_whole, View.read_whole, View.set_whole]

theorem stg_out (c : Dev nD) (b : Ref sig .tc) (X : b.ty.Contents (Elt F)) : (stg c b X : sProp 𝕄) ⊢ stgPts c b X := by
  unfold stg
  iintro ⟨%f, %hf, H⟩
  subst hf
  iexact H
theorem stg_in (c : Dev nD) (b : Ref sig .tc) (X : b.ty.Contents (Elt F)) : stgPts c b X ⊢ (stg c b X : sProp 𝕄) := by
  unfold stg
  iintro H
  iexists X
  isplitr; · ipureintro; rfl
  iexact H
/-- What the pipeline hands the body, and what it takes back. -/
def bodyPre (c : Dev nD) : sProp 𝕄 :=
  iprop(Φ₀ m ρ c ∗ (dats m ρ 0 c).owesAt () t₀.castSucc
    ∗ (∃ d, stg c cc0_stg0_0 ((dats m ρ 0 c).before (0 : Fin 8) t₀ d)) ∗ (∃ d, stg c cc0_stg1_0 ((dats m ρ 0 c).before (1 : Fin 8) t₀ d))
    ∗ (∃ d, stg c cc0_stg2_0 ((dats m ρ 0 c).before (2 : Fin 8) t₀ d)) ∗ (∃ d, stg c cc0_stg3_0 ((dats m ρ 0 c).before (3 : Fin 8) t₀ d))
    ∗ (∃ d, stg c cc0_stg4_0 ((dats m ρ 0 c).before (4 : Fin 8) t₀ d)) ∗ (∃ d, stg c cc0_stg5_0 ((dats m ρ 0 c).before (5 : Fin 8) t₀ d))
    ∗ (∃ d, stg c cc0_stg6_0 ((dats m ρ 0 c).before (6 : Fin 8) t₀ d)) ∗ (∃ d, stg c cc0_stg7_0 ((dats m ρ 0 c).before (7 : Fin 8) t₀ d)))
def bodyPost (c : Dev nD) : sProp 𝕄 :=
  iprop(Φ₁ (F := F) c ∗ (dats m ρ 0 c).owesAt () t₀.succ
    ∗ stg c cc0_stg0_0 (insAt m ρ c).x ∗ stg c cc0_stg1_0 (insAt m ρ c).w0 ∗ stg c cc0_stg2_0 (insAt m ρ c).u0 ∗ stg c cc0_stg3_0 (insAt m ρ c).w1
    ∗ stg c cc0_stg4_0 (insAt m ρ c).u1 ∗ stg c cc0_stg5_0 (insAt m ρ c).w2 ∗ stg c cc0_stg6_0 (insAt m ρ c).u2 ∗ stg c cc0_stg7_0 (OUT (insAt m ρ) c))

theorem before_0 (c : Dev nD) (d) : (dats m ρ 0 c).before (0 : Fin 8) t₀ d = (insAt m ρ c).x := by
  unfold Dat.before; rw [if_pos (fetch0_0 t₀)]; rfl
theorem before_1 (c : Dev nD) (d) : (dats m ρ 0 c).before (1 : Fin 8) t₀ d = (insAt m ρ c).w0 := by
  unfold Dat.before; rw [if_pos (fetch0_1 t₀)]; rfl
theorem before_2 (c : Dev nD) (d) : (dats m ρ 0 c).before (2 : Fin 8) t₀ d = (insAt m ρ c).u0 := by
  unfold Dat.before; rw [if_pos (fetch0_2 t₀)]; rfl
theorem before_3 (c : Dev nD) (d) : (dats m ρ 0 c).before (3 : Fin 8) t₀ d = (insAt m ρ c).w1 := by
  unfold Dat.before; rw [if_pos (fetch0_3 t₀)]; rfl
theorem before_4 (c : Dev nD) (d) : (dats m ρ 0 c).before (4 : Fin 8) t₀ d = (insAt m ρ c).u1 := by
  unfold Dat.before; rw [if_pos (fetch0_4 t₀)]; rfl
theorem before_5 (c : Dev nD) (d) : (dats m ρ 0 c).before (5 : Fin 8) t₀ d = (insAt m ρ c).w2 := by
  unfold Dat.before; rw [if_pos (fetch0_5 t₀)]; rfl
theorem before_6 (c : Dev nD) (d) : (dats m ρ 0 c).before (6 : Fin 8) t₀ d = (insAt m ρ c).u2 := by
  unfold Dat.before; rw [if_pos (fetch0_6 t₀)]; rfl

/-- A staged operand as it is read in. -/
theorem staged {β : Type} (c : Dev nD) (b : Ref sig .tc) (f : β → b.ty.Contents (Elt F)) (X : b.ty.Contents (Elt F)) (h : ∀ d, f d = X) :
    (iprop(∃ d, stg c b (f d)) : sProp 𝕄) ⊢ stgPts c b X := by
  iintro ⟨%d, H⟩
  ihave H := (Entails.of_eq (congrArg (fun Y => (stg c b Y : sProp 𝕄)) (h d))) $$ H
  iapply (stg_out c b X)
  iexact H

theorem owes_in (c : Dev nD) : (dats m ρ 0 c).owesAt () t₀.castSucc ⊢ (iprop(∃ W, owes (c : Thread nD τ) (Ow c 0 0 0) W) : sProp 𝕄) := by
  unfold Dat.owesAt Pipeline.owesWithin
  iintro ⟨%W, %hW, H⟩
  iexists W
  iexact H
theorem owes_back (c : Dev nD) : (iprop(∃ W, owes (c : Thread nD τ) (0 : CellTallies nD τ sig Unit) W) : sProp 𝕄) ⊢ (dats m ρ 0 c).owesAt () t₀.succ := by
  unfold Dat.owesAt Pipeline.owesWithin
  iintro ⟨%W, H⟩
  iexists W
  isplitr; · ipureintro; exact fun _ _ => Or.inl trivial
  iexact H

theorem body_ends (c : Dev nD) (K : Dev nD × DK → ℕ) (κ : Dev nD → ℕ) :
    iprop(Ctx (insAt m ρ) K κ ∗ Left (insAt m ρ) c 32) ⊢ (iprop(|={Set.univ}=> bodyPost m ρ c) : sProp 𝕄) := by
  have h := ends (insAt m ρ) K κ c
  unfold ops at h
  unfold bodyPost Φ₁
  iintro H
  ihave H := h $$ H
  imod H with ⟨HZ, HS, HO, ⟨H0, H1, H2, H3, H4, H5, H6⟩, H7⟩
  imodintro
  isplitl [HZ HS]; · isplitl [HZ] <;> iassumption
  isplitl [HO]; · iapply (owes_back m ρ c); iexact HO
  isplitl [H0]; · iapply (stg_in c cc0_stg0_0); iexact H0
  isplitl [H1]; · iapply (stg_in c cc0_stg1_0); iexact H1
  isplitl [H2]; · iapply (stg_in c cc0_stg2_0); iexact H2
  isplitl [H3]; · iapply (stg_in c cc0_stg3_0); iexact H3
  isplitl [H4]; · iapply (stg_in c cc0_stg4_0); iexact H4
  isplitl [H5]; · iapply (stg_in c cc0_stg5_0); iexact H5
  isplitl [H6]; · iapply (stg_in c cc0_stg6_0); iexact H6
  iapply (stg_in c cc0_stg7_0); iexact H7

/-- What the pipeline hands the body is what the body begins from. -/
theorem body_begins (c : Dev nD) :
    bodyPre m ρ c ⊢ (iprop(∃ (K : Dev nD × DK → ℕ) (κ : Dev nD → ℕ) (fa fb : Vec F S128x128 .f32) (o : Vec F S4x128 .f32),
      Ctx (insAt m ρ) K κ ∗ Begun (insAt m ρ) c fa fb o) : sProp 𝕄) := by
  have haw := fun f => (aPts_whole (F := F) c fullShare f).symm
  have hbw := fun f => (bPts_whole (F := F) c fullShare f).symm
  unfold bodyPre Φ₀ start Scr Begun ops
  iintro ⟨⟨⟨⟨%K, %κ, HC⟩, HP, HT, HW⟩, ⟨⟨%fa, Ha⟩, ⟨%fb, Hb⟩, Hv, Hg⟩⟩, HO, H0, H1, H2, H3, H4, H5, H6, ⟨%d, H7⟩⟩
  ihave HO := (owes_in m ρ c) $$ HO
  ihave HR := (starts (insAt m ρ) c) $$ [HP HT HW HO Hv Hg]
  · isplitl [HP]; · iexact HP
    isplitl [HT]; · iexact HT
    isplitl [HW]; · iexact HW
    isplitl [HO]; · iexact HO
    isplitl [Hv] <;> iassumption
  icases HR with ⟨HSg, HRe, HSc⟩
  ihave Ha := (Entails.of_eq (haw fa)) $$ Ha
  ihave Hb := (Entails.of_eq (hbw fb)) $$ Hb
  ihave H0 := (staged c cc0_stg0_0 _ _ (before_0 m ρ c)) $$ H0
  ihave H1 := (staged c cc0_stg1_0 _ _ (before_1 m ρ c)) $$ H1
  ihave H2 := (staged c cc0_stg2_0 _ _ (before_2 m ρ c)) $$ H2
  ihave H3 := (staged c cc0_stg3_0 _ _ (before_3 m ρ c)) $$ H3
  ihave H4 := (staged c cc0_stg4_0 _ _ (before_4 m ρ c)) $$ H4
  ihave H5 := (staged c cc0_stg5_0 _ _ (before_5 m ρ c)) $$ H5
  ihave H6 := (staged c cc0_stg6_0 _ _ (before_6 m ρ c)) $$ H6
  ihave H7 := (stg_out c cc0_stg7_0 _) $$ H7
  iexists K; iexists κ; iexists fa; iexists fb; iexists _
  isplitl [HC]; · iexact HC
  isplitl [HSg]; · iexact HSg
  isplitl [HRe]; · iexact HRe
  isplitl [HSc]; · iexact HSc
  isplitl [Ha]; · iexact Ha
  isplitl [Hb]; · iexact Hb
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iexact H7

theorem body_sound (c : Dev nD) : bodyPre m ρ c ⊢ WP c (onArgs (cc0_body (F := F))) (fun _ => bodyPost m ρ c) := by
  have hf : WP c (onArgs (cc0_body (F := F))) (fun _ => (iprop(|={Set.univ}=> bodyPost m ρ c) : sProp 𝕄)) ⊢ WP c (onArgs (cc0_body (F := F))) (fun _ => bodyPost m ρ c) :=
    wp_fupd _ _ _ _ _
  iintro H
  ihave H := (body_begins m ρ c) $$ H
  icases H with ⟨%K, %κ, %fa, %fb, %o, #HC, HB⟩
  iapply hf
  iapply (body_whole (insAt m ρ) K κ c fa fb o)
  isplitr; · iexact HC
  isplitl [HB]; · iexact HB
  iintro HL
  iapply (body_ends m ρ c K κ)
  isplitr; · iexact HC
  iexact HL

set_option maxRecDepth 16000 in
/-- The body does what the pipeline's data say. -/
theorem body_obligation (c : Dev nD) : BodyObligation (dats (F := F) m ρ 0 c) (defs₀ (F := F)) 𝒱₀ () Set.univ := fun t => by
  rw [fin_N t]
  rw [fam_win, fam_win]
  simp only [whole_owns]
  exact body_sound m ρ c

end Body

end Cert.Mlp

end
-- ==== Proof.Run.lean ====
module

public import proofs.«01_k».proof.Proof.Body
public import Idealize.ShloMosaic.Lib.Pipeline.CollectiveSegs

/-!
# The launch and the run
-/
@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

open Idealize.ShloMosaic.Pipeline (Dat Cfg Window BodyObligation cellOf)

/-! ## The launch credit -/

section Credit

theorem sum_at {A : Type} (S : Finset A) (f : A → CellTallies nD τ sig Unit) (g : GSem nD τ sig) (u : Unit) :
    (∑ a ∈ S, f a) g u = ∑ a ∈ S, f a g u := by
  rw [Finset.sum_apply, Finsupp.finset_sum_apply]

theorem tally_hit (g : GSem nD τ sig) (n : ℕ) : (tallyAt g () n : CellTallies nD τ sig Unit) g () = n := by
  rw [tallyAt_apply, if_pos ⟨rfl, rfl⟩]
theorem tally_miss {g g' : GSem nD τ sig} (n : ℕ) (h : g' ≠ g) : (tallyAt g () n : CellTallies nD τ sig Unit) g' () = 0 := by
  rw [tallyAt_apply, if_neg fun h' => h h'.1]

theorem owes_at (d : Dev nD) (g : GSem nD τ sig) :
    Ow d 0 0 0 g () = (∑ i : Fin 7, (tallyAt (barCell (par i d)) () (wts i) : CellTallies nD τ sig Unit) g ())
      + (∑ k : Fin 14, (tallyAt (dcell (peer k d) (.rcv k)) () N : CellTallies nD τ sig Unit) g ())
      + ∑ j ∈ (Finset.univ : Finset (Fin 32)).erase d, (tallyAt (dcell j (.rcv2 d)) () N2 : CellTallies nD τ sig Unit) g () := by
  unfold Ow
  rw [Pi.add_apply, Finsupp.add_apply, Pi.add_apply, Finsupp.add_apply, sum_at, sum_at, sum_at, since_zero, since_zero, since_zero]

/-- All that the devices together owe a cell. -/
theorem due_bar (c : Dev nD) : ∑ d : Dev nD, Ow d 0 0 0 (barCell c) () = 28 + (24 + 3) := by
  have h : ∀ d : Dev nD, Ow d 0 0 0 (barCell c) () = ∑ i : Fin 7, (tallyAt (barCell (par i d)) () (wts i) : CellTallies nD τ sig Unit) (barCell c) () := fun d => by
    rw [owes_at, Finset.sum_eq_zero (fun k _ => tally_miss N (fun h => dcell_ne_bar _ _ _ h.symm)),
      Finset.sum_eq_zero (fun j _ => tally_miss N2 (fun h => dcell_ne_bar _ _ _ h.symm)), Nat.add_zero, Nat.add_zero]
  rw [Finset.sum_congr rfl fun d _ => h d, Finset.sum_comm]
  have h' : ∀ i : Fin 7, ∑ d : Dev nD, (tallyAt (barCell (par i d)) () (wts i) : CellTallies nD τ sig Unit) (barCell c) () = wts i := fun i => by
    rw [Finset.sum_eq_single (par i c) (fun d _ hd => tally_miss _ fun h => hd (by rw [barCell_inj h, par_par])) (fun h => absurd (Finset.mem_univ _) h), par_par]
    exact tally_hit _ _
  rw [Finset.sum_congr rfl fun i _ => h' i]
  decide

theorem due_rcv (c : Dev nD) (k : Fin 14) : ∑ d : Dev nD, Ow d 0 0 0 (dcell c (.rcv k)) () = N := by
  have h : ∀ d : Dev nD, Ow d 0 0 0 (dcell c (.rcv k)) () = (tallyAt (dcell (peer k d) (.rcv k)) () N : CellTallies nD τ sig Unit) (dcell c (.rcv k)) () := fun d => by
    rw [owes_at, Finset.sum_eq_zero (fun i _ => tally_miss _ (dcell_ne_bar _ _ _)),
      Finset.sum_eq_zero (s := (Finset.univ : Finset (Fin 32)).erase d) (fun j _ => tally_miss N2 (fun h => by have := (dcell_inj h).2; cases this)), Nat.add_zero, Nat.zero_add,
      Finset.sum_eq_single k (fun k' _ hk => tally_miss N fun h => hk (by have := (dcell_inj h).2; cases this; rfl)) (fun h => absurd (Finset.mem_univ _) h)]
  rw [Finset.sum_congr rfl fun d _ => h d,
    Finset.sum_eq_single (peer k c) (fun d _ hd => tally_miss N fun h => hd (by rw [(dcell_inj h).1, peer_peer])) (fun h => absurd (Finset.mem_univ _) h), peer_peer]
  exact tally_hit _ _

theorem due_rcv2 (c s : Dev nD) (hs : s ≠ c) : ∑ d : Dev nD, Ow d 0 0 0 (dcell c (.rcv2 s)) () = N2 := by
  have h : ∀ d : Dev nD, Ow d 0 0 0 (dcell c (.rcv2 s)) ()
      = ∑ j ∈ (Finset.univ : Finset (Fin 32)).erase d, (tallyAt (dcell j (.rcv2 d)) () N2 : CellTallies nD τ sig Unit) (dcell c (.rcv2 s)) () := fun d => by
    rw [owes_at, Finset.sum_eq_zero (fun i _ => tally_miss _ (dcell_ne_bar _ _ _)),
      Finset.sum_eq_zero (fun k _ => tally_miss N (fun h => by have := (dcell_inj h).2; cases this)), Nat.add_zero, Nat.zero_add]
  rw [Finset.sum_congr rfl fun d _ => h d,
    Finset.sum_eq_single s (fun d _ hd => Finset.sum_eq_zero fun j _ => tally_miss N2 fun h => hd (by have := (dcell_inj h).2; cases this; rfl)) (fun h => absurd (Finset.mem_univ _) h),
    Finset.sum_eq_single c (fun j _ hj => tally_miss N2 fun h => hj (dcell_inj h).1.symm) (fun h => absurd (Finset.mem_erase.mpr ⟨hs.symm, Finset.mem_univ _⟩) h)]
  exact tally_hit _ _

theorem launch_at (g : GSem nD τ sig) (n : ℕ) (h : ∑ d : Dev nD, Ow d 0 0 0 g () = n) :
    tallyOn g (launchCredit (Pipeline.owing fun d => Ow d 0 0 0) 0 g) = (tallyAt g () n : CellTallies nD τ sig Unit) := by
  unfold tallyAt
  refine congrArg _ (Finsupp.ext fun u => ?_)
  cases u
  rw [Pipeline.launchCredit_owing, Finsupp.single_eq_same, h]

theorem cred_bar (c : Dev nD) :
    (cred (tallyAt (barCell c) () (28 + (24 + 3))) : sProp 𝕄) ⊢ bigSep Finset.univ fun m : Fin 3 => cred (tallyAt (barCell c) () (wamt m)) := by
  have e : (bigSep Finset.univ fun m : Fin 3 => (cred (tallyAt (barCell c) () (wamt m)) : sProp 𝕄))
      = iprop(cred (tallyAt (barCell c) () 28) ∗ cred (tallyAt (barCell c) () 24) ∗ cred (tallyAt (barCell c) () 3)) :=
    bigSep_univ_eq_bigSepL [0, 1, 2] (by decide) (by decide) _
  rw [e, ← tallyAt_add, ← tallyAt_add]
  exact (cred_add _ _).1.trans (sep_mono_right (cred_add _ _).1)

/-- The transfer semaphores among all semaphores. -/
def dkEmb : DK ↪ SemLoc sig := ⟨fun i => .dma (dsem i), fun _ _ h => dsem_inj (SemLoc.dma.inj h)⟩

theorem credits (c : Dev nD) : (Pipeline.launchCred (fun d => Ow d 0 0 0) c : sProp 𝕄) ⊢ Owed c := by
  have hsub : (Finset.univ : Finset DK).map dkEmb ⊆ (Finset.univ : Finset (SemLoc sig)).erase (.reg barS) := fun x hx => by
    obtain ⟨i, -, rfl⟩ := Finset.mem_map.mp hx
    exact Finset.mem_erase.mpr ⟨fun h => dcell_ne_bar c c i (congrArg (fun x => ((c : Thread nD τ), x)) h), Finset.mem_univ _⟩
  have hb := (Entails.of_eq (congrArg (fun T => (cred T : sProp 𝕄)) (launch_at _ _ (due_bar c)))).trans (cred_bar c)
  have hd := (bigSep_subset (Φ := fun sm : SemLoc sig => (cred (tallyOn ((c.tc : Thread nD τ), sm) (launchCredit (Pipeline.owing fun d => Ow d 0 0 0) 0 ((c.tc : Thread nD τ), sm))) : sProp 𝕄)) hsub).trans
    (Entails.of_eq (bigSep_map (s := (Finset.univ : Finset DK)) dkEmb))
  rw [fam_dk] at hd
  let T (i : DK) : sProp 𝕄 := cred (tallyOn (dcell c i) (launchCredit (Pipeline.owing fun d => Ow d 0 0 0) 0 (dcell c i)))
  have hd : (bigSep ((Finset.univ : Finset (SemLoc sig)).erase (.reg barS)) fun sm => (cred (tallyOn ((c.tc : Thread nD τ), sm) (launchCredit (Pipeline.owing fun d => Ow d 0 0 0) 0 ((c.tc : Thread nD τ), sm))) : sProp 𝕄))
      ⊢ iprop(((bigSep Finset.univ fun k => T (.snd k)) ∗ bigSep Finset.univ fun k => T (.rcv k)) ∗ (bigSep Finset.univ fun j => T (.snd2 j)) ∗ bigSep Finset.univ fun s => T (.rcv2 s)) := hd
  have hv : ∀ k : Fin 14, (cred (tallyOn (dcell c (.rcv k)) (launchCredit (Pipeline.owing fun d => Ow d 0 0 0) 0 (dcell c (.rcv k)))) : sProp 𝕄)
      ⊢ cred (tallyAt (dcell c (.rcv k)) () N) := fun k => Entails.of_eq (congrArg (fun T => (cred T : sProp 𝕄)) (launch_at _ _ (due_rcv c k)))
  have hv2 : ∀ s : Fin 32, (cred (tallyOn (dcell c (.rcv2 s)) (launchCredit (Pipeline.owing fun d => Ow d 0 0 0) 0 (dcell c (.rcv2 s)))) : sProp 𝕄)
      ⊢ if s = c then iprop(emp) else cred (tallyAt (dcell c (.rcv2 s)) () N2) := fun s => by
    by_cases h : s = c
    · rw [if_pos h]; iintro -; iempintro
    · rw [if_neg h]; exact Entails.of_eq (congrArg (fun T => (cred T : sProp 𝕄)) (launch_at _ _ (due_rcv2 c s h)))
  have hV : (bigSep Finset.univ fun k => T (.rcv k)) ⊢ (bigSep Finset.univ fun k : Fin 14 => cred (tallyAt (dcell c (.rcv k)) () N) : sProp 𝕄) := fam_mono fun k _ => hv k
  have hV2 : (bigSep Finset.univ fun s => T (.rcv2 s)) ⊢ (bigSep Finset.univ fun s : Fin 32 => if s = c then iprop(emp) else cred (tallyAt (dcell c (.rcv2 s)) () N2) : sProp 𝕄) := fam_mono fun s _ => hv2 s
  unfold Pipeline.launchCred Owed
  rw [bigSep_univ_at _ (SemLoc.reg barS)]
  iintro ⟨HB, HR⟩
  ihave HB := hb $$ HB
  ihave HR := hd $$ HR
  icases HR with ⟨⟨-, HV⟩, -, HV2⟩
  isplitl [HB]; · iexact HB
  isplitl [HV]
  · iapply hV; iexact HV
  iapply hV2; iexact HV2

end Credit

/-! ## The ghost state dealt out -/

section Ghost
variable (I : Dev nD → Ins F)

/-- The exchange's cells: every device's barrier cell and transfer semaphores. -/
def cellAt (x : Dev nD × (Unit ⊕ DK)) : GSem nD τ sig := match x.2 with
  | .inl _ => barCell x.1
  | .inr i => dcell x.1 i
theorem cellAt_inj : Function.Injective cellAt := by
  rintro ⟨c, u | i⟩ ⟨c', u' | i'⟩ h
  · cases u; cases u'; exact congrArg (fun d => (d, Sum.inl ())) (barCell_inj h)
  · exact absurd h.symm (dcell_ne_bar _ _ _)
  · exact absurd h (dcell_ne_bar _ _ _)
  · obtain ⟨h1, h2⟩ := dcell_inj h
    exact Prod.ext h1 (congrArg Sum.inr h2)
/-- The duties of a device's cells. -/
def tokAt (x : Dev nD × (Fin 7 ⊕ DK)) : GSem nD τ sig × ℕ × Fin 7 := match x.2 with
  | .inl i => (barCell x.1, 0, i)
  | .inr i => (dcell x.1 i, 0, 0)
theorem tokAt_inj : Function.Injective tokAt := by
  rintro ⟨c, i | i⟩ ⟨c', i' | i'⟩ h
  · have h1 := barCell_inj (congrArg (fun x : GSem nD τ sig × ℕ × Fin 7 => x.1) h)
    have h2 : i = i' := congrArg (fun x : GSem nD τ sig × ℕ × Fin 7 => x.2.2) h
    exact Prod.ext h1 (congrArg Sum.inl h2)
  · exact absurd (congrArg (fun x : GSem nD τ sig × ℕ × Fin 7 => x.1) h).symm (dcell_ne_bar _ _ _)
  · exact absurd (congrArg (fun x : GSem nD τ sig × ℕ × Fin 7 => x.1) h) (dcell_ne_bar _ _ _)
  · obtain ⟨h1, h2⟩ := dcell_inj (congrArg (fun x : GSem nD τ sig × ℕ × Fin 7 => x.1) h)
    exact Prod.ext h1 (congrArg Sum.inr h2)
def allCells : Finset (GSem nD τ sig) := Finset.univ.map ⟨cellAt, cellAt_inj⟩
def allToks : Finset (GSem nD τ sig × ℕ × Fin 7) := Finset.univ.map ⟨tokAt, tokAt_inj⟩

def u₀ : UU := (initOf (Pipeline.cells cfgs cellOf_inj) (Pipeline.launchToks cfgs cellOf_inj), initOf allCells allToks)

/-- The tokens of a device's own cells. -/
def Toks (c : Dev nD) : sProp 𝕄 :=
  iprop((bigSep Finset.univ fun i : Fin 7 => dutyTok ER (barCell c) 0 i) ∗ bigSep Finset.univ fun i : DK => dutyTok ER (dcell c i) 0 0)
/-- What the launch deals a device. -/
def Dealt (c : Dev nD) : sProp 𝕄 :=
  iprop((initState ER (barCell c) ∗ bigSep Finset.univ fun i : DK => initState ER (dcell c i))
    ∗ (bigSep Finset.univ fun i : DK => reached ER (dcell c i) 0) ∗ Pos c ∗ Toks c)

theorem fam_unit (Φ : Unit → sProp 𝕄) : bigSep Finset.univ Φ = Φ () := bigSep_singleton

theorem fam_cells (Φ : GSem nD τ sig → sProp 𝕄) :
    bigSep allCells Φ = bigSep Finset.univ fun c : Dev nD => iprop(Φ (barCell c) ∗ bigSep Finset.univ fun i : DK => Φ (dcell c i)) := by
  unfold allCells
  rw [bigSep_map, bigSep_univ_prod]
  refine bigSep_congr fun c _ => ?_
  rw [bigSep_univ_sum, fam_unit]
  rfl
theorem fam_toks : (bigSep allToks fun x => (dutyTok ER x.1 x.2.1 x.2.2 : sProp 𝕄)) = bigSep Finset.univ fun c : Dev nD => Toks c := by
  unfold allToks
  rw [bigSep_map, bigSep_univ_prod]
  refine bigSep_congr fun c _ => ?_
  rw [bigSep_univ_sum]
  rfl

theorem funded : BI.own (ER (initOf allCells allToks)) ⊢ (|==> bigSep Finset.univ Dealt : sProp 𝕄) := by
  have h1 := fam_cells (F := F) fun g => initState ER g
  have h2 : (bigSep allCells fun g => (reached ER g 0 : sProp 𝕄)) ⊢ bigSep Finset.univ fun c : Dev nD => bigSep Finset.univ fun i : DK => reached ER (dcell c i) 0 := by
    rw [fam_cells]
    refine fam_mono fun c _ => ?_
    iintro ⟨-, H⟩
    iexact H
  have h3 : (bigSep allCells fun g => (atPos ER g 0 ∅ 0 : sProp 𝕄)) = bigSep Finset.univ fun c : Dev nD => Pos c := fam_cells _
  have hD : (bigSep Finset.univ fun c : Dev nD => (Dealt c : sProp 𝕄)) = iprop((bigSep Finset.univ fun c : Dev nD => iprop(initState ER (barCell c) ∗ bigSep Finset.univ fun i : DK => initState ER (dcell c i)))
      ∗ (bigSep Finset.univ fun c : Dev nD => bigSep Finset.univ fun i : DK => reached ER (dcell c i) 0) ∗ (bigSep Finset.univ fun c : Dev nD => Pos c) ∗ bigSep Finset.univ fun c : Dev nD => Toks c) := by
    unfold Dealt
    rw [bigSep_sep' Finset.univ (fun c : Dev nD => iprop(initState ER (barCell c) ∗ bigSep Finset.univ fun i : DK => initState ER (dcell c i))),
      bigSep_sep' Finset.univ (fun c : Dev nD => bigSep Finset.univ fun i : DK => (reached ER (dcell c i) 0 : sProp 𝕄)), bigSep_sep' Finset.univ (fun c : Dev nD => (Pos c : sProp 𝕄))]
  iintro H
  imod (fund_init ER allCells allToks) $$ H with ⟨Hs, Hr, Ha, Ht⟩
  imodintro
  ihave Hs := (Entails.of_eq h1) $$ Hs
  ihave Hr := h2 $$ Hr
  ihave Ha := (Entails.of_eq h3) $$ Ha
  ihave Ht := (Entails.of_eq fam_toks) $$ Ht
  iapply (Entails.of_eq hD.symm)
  isplitl [Hs]; · iexact Hs
  isplitl [Hr]; · iexact Hr
  isplitl [Ha] <;> iassumption

/-- The kernel's own semaphores. -/
abbrev osem (i : DK) : SemLoc sig := .dma (dsem i)

/-- The device's semaphores at zero. -/
theorem zeros (c : Dev nD) :
    iprop(unscopedSems0 c ∗ Pipeline.ownSems0 (Ix := Unit) (Name := ℕ) (U := UU) (Lvl := ℕ) (Val := Elt F) (τ := τ) osem c) = (Zero c : sProp 𝕄) := by
  have h : (unscopedSems0 c : sProp 𝕄) = semVal (barCell c) 0 := by
    unfold unscopedSems0; rw [bigSep_eq_bigSepL_of_eq [SemLoc.reg barS] (by decide) (by decide)]; rfl
  rw [h]
  rfl

/-- A device's invariants, allocated. -/
theorem allocated (c : Dev nD) :
    iprop(Zero c ∗ Dealt c)
      ⊢ (iprop(|={Set.univ}=> ((bigSep Finset.univ fun i : DK => iprop(∃ κ : ℕ, cellInv ER (Rd I) κ (dcell c i))) ∗ (∃ κ : ℕ, barInv κ c)
          ∗ (bigSep Finset.univ fun i : DK => reached ER (dcell c i) 0) ∗ Pos c ∗ Toks c)) : sProp 𝕄) := by
  have hcell : ∀ i : DK, iprop(semVal (dcell c i) 0 ∗ initState ER (dcell c i)) ⊢ (iprop(|={Set.univ}=> ∃ κ : ℕ, cellInv ER (Rd I) κ (dcell c i)) : sProp 𝕄) := fun i =>
    ((sep_mono_right (roundState_init ER (Rd I))).trans (body_intro ER (Rd I) (dcell c i))).trans inv_alloc
  have hcells : iprop((bigSep Finset.univ fun i : DK => semVal (dcell c i) 0) ∗ bigSep Finset.univ fun i : DK => initState ER (dcell c i))
      ⊢ (iprop(|={Set.univ}=> bigSep Finset.univ fun i : DK => iprop(∃ κ : ℕ, cellInv ER (Rd I) κ (dcell c i))) : sProp 𝕄) := by
    rw [← bigSep_sep']
    exact (bigSep_mono fun i _ => hcell i).trans (bigSep_fupd _ _)
  have hbar : iprop(semVal (barCell c) 0 ∗ initState ER (barCell c)) ⊢ (iprop(|={Set.univ}=> ∃ κ : ℕ, barInv κ c) : sProp 𝕄) := by
    have h0 : iprop(semVal (barCell c) 0 ∗ initState ER (barCell c)) ⊢ (barBody c : sProp 𝕄) := by
      iintro ⟨Hv, Ha, -⟩
      iapply (bar_intro c)
      isplitl [Hv] <;> iassumption
    exact h0.trans inv_alloc
  unfold Zero Dealt
  iintro ⟨⟨HB, HD⟩, ⟨HsB, HsD⟩, Hr, Hp, Ht⟩
  imod hcells $$ [HD HsD] with HD
  · isplitl [HD] <;> iassumption
  imod hbar $$ [HB HsB] with HB
  · isplitl [HB] <;> iassumption
  imodintro
  isplitl [HD]; · iexact HD
  isplitl [HB]; · iexact HB
  isplitl [Hr]; · iexact Hr
  isplitl [Hp] <;> iassumption

/-- A family re-dealt among the devices. -/
theorem fam_shuffle {B : Type} [Fintype B] (e : B → (Dev nD ≃ Dev nD)) (Φ : Dev nD → B → sProp 𝕄) :
    (bigSep Finset.univ fun c : Dev nD => bigSep Finset.univ fun b => Φ c b) = bigSep Finset.univ fun c : Dev nD => bigSep Finset.univ fun b => Φ (e b c) b := by
  rw [bigSep_univ_comm, bigSep_univ_comm (fun c b => Φ (e b c) b)]
  exact bigSep_congr fun b _ => bigSep_univ_equiv (e b) fun c => Φ c b

/-- Every token goes to the device that pays with it. -/
theorem toks_dealt : (bigSep Finset.univ fun c : Dev nD => (Toks c : sProp 𝕄)) ⊢ bigSep Finset.univ fun c : Dev nD => Pays c := by
  have hd : ∀ c : Dev nD, (Toks c : sProp 𝕄) = _ := fun c => by
    unfold Toks; rw [fam_dk fun i : DK => (dutyTok ER (dcell c i) 0 0 : sProp 𝕄)]
  have hB := fam_shuffle (F := F) (fun i : Fin 7 => parEquiv i) fun c i => dutyTok ER (barCell c) 0 i
  have hV := fam_shuffle (F := F) (fun k : Fin 14 => parEquiv (red k)) fun c k => dutyTok ER (dcell c (.rcv k)) 0 0
  have hV2 := bigSep_univ_comm fun (c : Dev nD) (s : Fin 32) => (dutyTok ER (dcell c (.rcv2 s)) 0 0 : sProp 𝕄)
  unfold Pays
  rw [bigSep_congr fun c _ => hd c]
  rw [bigSep_sep', bigSep_sep', bigSep_sep', bigSep_sep', bigSep_sep', bigSep_sep', bigSep_sep', bigSep_sep']
  iintro ⟨HB, ⟨HS, HV⟩, HS2, HV2⟩
  ihave HB := (Entails.of_eq hB) $$ HB
  ihave HV := (Entails.of_eq hV) $$ HV
  ihave HV2 := (Entails.of_eq hV2) $$ HV2
  isplitl [HB]; · iexact HB
  isplitl [HS]; · iexact HS
  isplitl [HV]; · iexact HV
  isplitl [HS2] <;> iassumption

/-- What every device may use: the invariants, and that every cell is at round 0. -/
def Recs (K : Dev nD × DK → ℕ) (κ : Dev nD → ℕ) : sProp 𝕄 :=
  iprop((bigSep Finset.univ fun p : Dev nD × DK => cellInv ER (Rd I) (K p) (dcell p.1 p.2))
    ∗ (bigSep Finset.univ fun p : Dev nD × DK => reached ER (dcell p.1 p.2) 0) ∗ bigSep Finset.univ fun c : Dev nD => barInv (κ c) c)
instance Recs_persistent (K : Dev nD × DK → ℕ) (κ : Dev nD → ℕ) : BI.Persistent (Recs I K κ) := by unfold Recs; infer_instance

/-- What a device has after the invariants are allocated. -/
def Ready (c : Dev nD) : sProp 𝕄 := iprop((∃ (K : Dev nD × DK → ℕ) (κ : Dev nD → ℕ), Recs I K κ) ∗ Pos c ∗ Pays c)

theorem fam_with {A : Type} [DecidableEq A] {S : Finset A} {R : sProp 𝕄} [BI.Persistent R] {Φ Ψ : A → sProp 𝕄}
    (h : ∀ a ∈ S, iprop(R ∗ Φ a) ⊢ Ψ a) : iprop(R ∗ bigSep S Φ) ⊢ bigSep S Ψ := by
  have h1 : bigSep S (fun a => iprop(R ∗ Φ a)) ⊢ bigSep S Ψ := bigSep_mono h
  rw [bigSep_sep'] at h1
  exact (sep_mono_left (BI.bigSep_of_persistent S R)).trans h1

theorem regrouped :
    (bigSep Finset.univ fun c : Dev nD => iprop((bigSep Finset.univ fun i : DK => iprop(∃ κ : ℕ, cellInv ER (Rd I) κ (dcell c i))) ∗ (∃ κ : ℕ, barInv κ c)
          ∗ (bigSep Finset.univ fun i : DK => reached ER (dcell c i) 0) ∗ Pos c ∗ Toks c) : sProp 𝕄)
      ⊢ bigSep Finset.univ (Ready I) := by
  have hi := (bigSep_univ_prod (fun p : Dev nD × DK => (iprop(∃ κ : ℕ, cellInv ER (Rd I) κ (dcell p.1 p.2)) : sProp 𝕄))).symm
  have hr := (bigSep_univ_prod (fun p : Dev nD × DK => (reached ER (dcell p.1 p.2) 0 : sProp 𝕄))).symm
  have hx := BI.bigSep_exists_pi Finset.univ (fun (p : Dev nD × DK) (κ : ℕ) => (cellInv ER (Rd I) κ (dcell p.1 p.2) : sProp 𝕄))
  have hy := BI.bigSep_exists_pi Finset.univ (fun (c : Dev nD) (κ : ℕ) => (barInv κ c : sProp 𝕄))
  have hz : ∀ (K : Dev nD × DK → ℕ) (κ : Dev nD → ℕ), ∀ c ∈ (Finset.univ : Finset (Dev nD)), iprop(Recs I K κ ∗ Pos c ∗ Pays c) ⊢ Ready I c := fun K κ c _ => by
    unfold Ready
    iintro ⟨#HR, Hp, Ht⟩
    isplitr
    · iexists K; iexists κ; iexact HR
    isplitl [Hp] <;> iassumption
  rw [bigSep_sep', bigSep_sep', bigSep_sep', bigSep_sep']
  iintro ⟨HI, HB, HR, HP, HT⟩
  ihave HI := (Entails.of_eq hi) $$ HI
  ihave HI := hx $$ HI
  icases HI with ⟨%K, #HI⟩
  ihave HB := hy $$ HB
  icases HB with ⟨%κ, #HB⟩
  ihave #HR := (Entails.of_eq hr) $$ HR
  ihave HT := toks_dealt $$ HT
  iapply (fam_with (hz K κ))
  isplitr
  · unfold Recs
    isplitr; · iexact HI
    isplitr <;> iassumption
  iapply (Entails.of_eq (bigSep_sep' Finset.univ (fun c : Dev nD => (Pos c : sProp 𝕄)) Pays).symm)
  isplitl [HP] <;> iassumption

theorem launched :
    (bigSep Finset.univ fun c => iprop(Pipeline.ownSems0 (Ix := Unit) (Name := ℕ) (U := UU) (Lvl := ℕ) (Val := Elt F) (τ := τ) osem c ∗ unscopedSems0 c ∗ Dealt c) : sProp 𝕄)
      ⊢ |={Set.univ}=> bigSep Finset.univ (Ready I) := by
  have h : ∀ c : Dev nD, iprop(Pipeline.ownSems0 (Ix := Unit) (Name := ℕ) (U := UU) (Lvl := ℕ) (Val := Elt F) (τ := τ) osem c ∗ unscopedSems0 c ∗ Dealt c)
      ⊢ (iprop(Zero c ∗ Dealt c) : sProp 𝕄) := fun c => by
    have hz := zeros (F := F) c
    iintro ⟨HO, HU, HG⟩
    isplitr [HG]
    · iapply (Entails.of_eq hz)
      isplitl [HU] <;> iassumption
    iexact HG
  exact ((bigSep_mono fun c _ => (h c).trans (allocated I c)).trans (bigSep_fupd _ _)).trans (BI.fupd_mono (regrouped I))

end Ghost

/-! ## The run -/

section Run
variable (m : (ℓ : Loc nD τ sig) → Buf (Elt F) ℓ) (ρ : Dev nD → PrngReg)

theorem ownSemFacts : Pipeline.OwnSemFacts cfg0.spec osem where
  isScoped := by decide +kernel
  inj := dkEmb.injective
  disj := by decide +kernel

theorem share_full (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => Ow d 0 0 0) c ∗ prngReg c (ρ c) ∗ Ready (insAt m ρ) c)
      ⊢ (iprop(|={Set.univ}=> (start m ρ c ∗ emp)) : sProp 𝕄) := by
  have hl : levAts L lv ⊢ (Lev : sProp 𝕄) := by unfold Lev; exact BI.Entails.refl _
  unfold start Ready Recs Ctx
  iintro ⟨-, HL, HC, -, ⟨%K, %κ, HI, HR, HB⟩, HP, HT⟩
  ihave HC := (credits c) $$ HC
  ihave HL := hl $$ HL
  imodintro
  isplitl
  · isplitl [HL HI HR HB]
    · iexists K; iexists κ
      isplitl [HI]; · iexact HI
      isplitl [HR]; · iexact HR
      isplitl [HB] <;> iassumption
    isplitl [HP]; · iexact HP
    isplitl [HT] <;> iassumption
  · iempintro

theorem phi_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ Scr
  iintro ⟨Hs, -, H⟩
  isplitl [Hs]; · iexact Hs
  iexact H

theorem phi_out (c : Dev nD) :
    (dats m ρ 0 c).Φ (Fin.last cfg0.N) ⊢ iprop(unscopedSems0 c ∗ Pipeline.ownSems0 osem c ∗ Pipeline.scopedRest cfg0.spec c) := by
  have hz := (zeros (F := F) c).symm
  rw [show (dats m ρ 0 c).Φ (Fin.last cfg0.N) = Φ₁ (F := F) c from rfl, scopedRest0_eq]
  unfold Φ₁ Scr
  iintro ⟨HZ, H⟩
  ihave HZ := (Entails.of_eq hz) $$ HZ
  icases HZ with ⟨HU, HO⟩
  isplitl [HU]; · iexact HU
  isplitl [HO]; · iexact HO
  iexact H

theorem stage_low : ∀ (w : Fin 8) (s : Fin (spec0 w).nbuf), dkOf ((spec0 w).sem s).val = none := by decide +kernel

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_cut c _ 0 (by
        dsimp only [lv]
        rw [show dkOf (((cfgs 0).win w).sem s).val = none from stage_low w s]) 0 0 0 (.inr Nat.one_pos) (fun k _ => by omega) (by decide)
    · show _ ⊢ MayWait (c : Thread nD τ) _ () 0
      rw [MayWait_zero]; iintro -; iempintro

/-- Each window's array after the run. -/
def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w

set_option maxRecDepth 16000 in
/-- From any memory with zero counters, every weakly fair execution on the mesh of 32 devices terminates, and in every final
    state the arrays hold what the data say and every semaphore is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := fun d => Ow d 0 0 0) (howed₀ := fun _ => rfl) (howedN := fun _ => rfl)
    (L := L) (lv := lv) (hL := L_of_ne) (hwaits := waits m ρ)
    (G := Dealt) (G' := Ready (insAt m ρ)) (u₀ := u₀)
    (hu₀ := by
      unfold u₀
      iintro Hu
      ihave H := (ownU_pair _ _) $$ Hu
      icases H with ⟨HP, HX⟩
      imod funded $$ HX with HG
      imodintro
      isplitl [HP] <;> iassumption)
    (hglob := launched (insAt m ρ))
    (hA := fun _ _ => rfl) (hpf := fun _ k => k.elim0)
    (X := start m ρ) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Run

end Cert.Mlp

end
-- ==== Proof.Frames.lean ====
module

public import proofs.«01_k».proof.Proof.Run
public import proofs.«01_k».proof.Defs
public import proofs.«01_k».proof.Proof.Gen.Kernel
public import Idealize.ShloMosaic.Lib.Pipeline.ValueKit.Geometry

/-!
# The frames, and what the run leaves in the result array
-/
@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

open Idealize.ShloMosaic.Pipeline (Dat Cfg Window)

section Frames
variable (m : (ℓ : Loc nD τ sig) → Buf (Elt F) ℓ) (ρ : Dev nD → PrngReg)

/-- An operand's array ends as it began. -/
theorem finalA_in (c : Dev nD) (w : Fin 8) (hw : (cfg0.win w).isOut = false) :
    finalA m ρ c w = m ((cfg0.win w).arr.view.loc (c : Thread nD τ)) := (dats (F := F) m ρ 0 c).arrAt_in w hw _

/-- The result array ends at the device's result. -/
theorem finalA_out (c : Dev nD) : finalA m ρ c (7 : Fin 8) = OUT (insAt m ρ) c := by
  refine (dats (F := F) m ρ 0 c).arrAt_eq_of_covers (7 : Fin 8) (OUT (insAt m ρ) c) (by decide +kernel) (fun t hf y => ?_)
  have e : ((cfg0.win (7 : Fin 8)).blk t).view.emb y = y := by
    funext a
    apply Fin.ext
    show 0 * _ + 1 * (y a).val = (y a).val
    omega
  rw [e]
  rfl

/-- What every run leaves: the arguments as they were, each device's result. -/
theorem run_post (r : PUnit × MemSt nD τ sig (Elt F)) (h : QC m ρ r) (c : Dev nD) :
    r.2.mem ((c : Thread nD τ).loc main_v1) = OUT (insAt m ρ) c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) :=
  ⟨(h c (7 : Fin 8)).trans (finalA_out m ρ c),
   (h c (0 : Fin 8)).trans (finalA_in m ρ c 0 rfl), (h c (1 : Fin 8)).trans (finalA_in m ρ c 1 rfl),
   (h c (3 : Fin 8)).trans (finalA_in m ρ c 3 rfl), (h c (5 : Fin 8)).trans (finalA_in m ρ c 5 rfl),
   (h c (2 : Fin 8)).trans (finalA_in m ρ c 2 rfl), (h c (4 : Fin 8)).trans (finalA_in m ρ c 4 rfl),
   (h c (6 : Fin 8)).trans (finalA_in m ρ c 6 rfl)⟩

/-- A device's operands are its arrays. -/
theorem insAt_eq (c : Dev nD) : insAt m ρ c =
    ⟨m ((c : Thread nD τ).loc main_arg0), m ((c : Thread nD τ).loc main_arg1), m ((c : Thread nD τ).loc main_arg4),
      m ((c : Thread nD τ).loc main_arg2), m ((c : Thread nD τ).loc main_arg5), m ((c : Thread nD τ).loc main_arg3),
      m ((c : Thread nD τ).loc main_arg6)⟩ := by
  unfold insAt
  congr 1
  all_goals
    funext y
    refine congrArg (m _) (funext fun a => Fin.ext ?_)
    show 0 * _ + 1 * (y a).val = (y a).val
    omega

end Frames

/-- The idealized kernel's frame. -/
theorem frame_kernelIdeal : Cert.quiescent_KernelIdeal := fun m ρ _ =>
  (θ_run Cert.KernelIdeal.defs _ _).mono (fun r h => ⟨fun c => (run_post m ρ r h.1 c).2, h.2⟩) (run_main (F := Ideal) m ρ)

set_option maxRecDepth 16000 in
/-- The two printed texts' body tables are one table. -/
theorem defs₀_same : Cert.Kernel.defs₀ (F := Bits) = Cert.KernelIdeal.defs₀ (F := Bits) := by
  unfold Cert.Kernel.defs₀ Cert.KernelIdeal.defs₀
  refine congrArg Defs.onTc (funext fun ℓ => funext fun x => ?_)
  match ℓ, x with
  | ⟨0, _⟩, (t, s) => exact rfl
  | ⟨n + 1, h⟩, _ => exact absurd h (by show ¬ n + 1 < 1; omega)

theorem defs_same : Cert.Kernel.defs (F := Bits) = Cert.KernelIdeal.defs (F := Bits) :=
  congrArg (Pipeline.defs (Cert.KernelIdeal.pcfgs (F := Bits))) defs₀_same

/-- The printed kernel's frame: the same run over machine words. -/
theorem frame_kernel : Cert.quiescent_Kernel := by
  intro m ρ _
  have h : θ_run Cert.KernelIdeal.defs (onTc (τ := τ) (Cert.KernelIdeal.main (F := Bits))) (s₀ m ρ) (fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)) ∧ r.2.sem = fun _ => 0) :=
    (θ_run Cert.KernelIdeal.defs _ _).mono (fun r h => ⟨fun c => (run_post m ρ r h.1 c).2, h.2⟩) (run_main (F := Bits) m ρ)
  rw [defs_same]
  exact h

end Cert.Mlp

end
-- ==== Proof.Value.lean ====
module

public import proofs.«01_k».proof.Proof.Base
public import proofs.«01_k».proof.Proof.Gen.ReferenceIdeal.Run
public import Idealize.ShloMosaic.Lib.Pointwise
public import Idealize.ShloMosaic.Lib.Layout

/-!
# The device's result is its block of the three layers

Over extended reals.  A layer is a sum over the 8192 hidden units; each device sums over its 256, and the exchanges add
the thirty-two sums.
-/
@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

/-- The term of hidden units `w`, `u` at an entry: row `r` of `x` through the units, into column `k`. -/
def lay {n : ℕ} (x : Vec Ideal S128x128 .f32) (w : (⟨2, ![128, n]⟩ : Shape).Idx → EReal) (u : (⟨2, ![n, 128]⟩ : Shape).Idx → EReal)
    (r k : Fin 128) : EReal :=
  ∑ j : Fin n, max (∑ l : Fin 128, x (ix2 r l) * w (ix2 l j)) 0 * u (ix2 j k)

/-! ## The kernel's payloads at an entry -/

theorem pay1_at (x : Vec Ideal S128x128 .f32) (w : Vec Ideal S128x256 .f32) (u : Vec Ideal S256x128 .f32) (r k : Fin 128) :
    k0_pay1 x w u (ix2 r k) = lay x w u r k := by
  unfold lay
  pointwise [k0_pay1]
theorem pay7_at (x : Vec Ideal S128x128 .f32) (w : Vec Ideal S128x256 .f32) (u : Vec Ideal S256x128 .f32) (r k : Fin 128) :
    k0_pay7 (k0_pay6 x w) u (ix2 r k) = lay x w u r k := by
  unfold lay
  pointwise [k0_pay7, k0_pay6]
theorem pay12_at (x : Vec Ideal S128x128 .f32) (w : Vec Ideal S128x256 .f32) (u : Vec Ideal S256x128 .f32) (r k : Fin 128) :
    k0_pay12 x w u (ix2 r k) = lay x w u r k := by
  unfold lay
  pointwise [k0_pay12]

theorem up_at (v : Vec Ideal S128x128 .f32) (o : Fin 1) (r k : Fin 128) : up v (ix3 o r k) = v (ix2 r k) := by
  show v (ValueIdx.ix2 r k) = _
  rw [ix2_eq_valueIdx]

theorem pay2_at (a b : Vec Ideal S128x128 .f32) (r k : Fin 128) : k0_pay2 a (up b) (ix2 r k) = a (ix2 r k) + b (ix2 r k) := by
  pointwise [k0_pay2, up_at]
theorem pay3_at (a b c d : Vec Ideal S128x128 .f32) (r k : Fin 128) :
    k0_pay3 a (up b) (up c) (up d) (ix2 r k) = a (ix2 r k) + b (ix2 r k) + c (ix2 r k) + d (ix2 r k) := by
  pointwise [k0_pay3, up_at]
theorem pay5_at (a b c d : Vec Ideal S128x128 .f32) (r k : Fin 128) :
    k0_pay5 (k0_pay4 a (up b)) (up c) (up d) (ix2 r k) = a (ix2 r k) + b (ix2 r k) + c (ix2 r k) + d (ix2 r k) := by
  pointwise [k0_pay5, k0_pay4, up_at]
theorem pay8_at (a b : Vec Ideal S128x128 .f32) (r k : Fin 128) : k0_pay8 a (up b) (ix2 r k) = a (ix2 r k) + b (ix2 r k) := by
  pointwise [k0_pay8, up_at]
theorem pay10_at (a b c d : Vec Ideal S128x128 .f32) (r k : Fin 128) :
    k0_pay10 (k0_pay9 a (up b) (up c)) (up d) (ix2 r k) = a (ix2 r k) + b (ix2 r k) + c (ix2 r k) + d (ix2 r k) := by
  pointwise [k0_pay10, k0_pay9, up_at]
theorem pay11_at (a b c d : Vec Ideal S128x128 .f32) (r k : Fin 128) :
    k0_pay11 a (up b) (up c) (up d) (ix2 r k) = a (ix2 r k) + b (ix2 r k) + c (ix2 r k) + d (ix2 r k) := by
  pointwise [k0_pay11, up_at]
theorem pay14_at (a : Vec Ideal S128x128 .f32) (r : Fin 4) (k : Fin 128) :
    k0_pay14 a (ix2 r k) = ∑ s : Fin 32, a (ix2 ⟨s.val * 4 + r.val, by omega⟩ k) := by
  pointwise [k0_pay14]

/-! ## The three exchanges add all thirty-two -/

/-- The device reached from `c` through a choice in each exchange. -/
def walk (c : Dev nD) (q : Fin 4 × Fin 4 × Fin 2) : Dev nD :=
  (![id, par 0] : Fin 2 → Dev nD → Dev nD) q.2.2 ((![id, par 1, par 2, par 3] : Fin 4 → Dev nD → Dev nD) q.2.1
    ((![id, par 4, par 5, par 6] : Fin 4 → Dev nD → Dev nD) q.1 c))

theorem walk_inj (c : Dev nD) : Function.Injective (walk c) := by
  have h : ∀ c : Dev nD, ∀ p q, walk c p = walk c q → p = q := by decide +kernel
  exact fun p q => h c p q

theorem walk_bij (c : Dev nD) : Function.Bijective (walk c) :=
  (Fintype.bijective_iff_injective_and_card _).mpr ⟨walk_inj c, by decide⟩

theorem add_all (f g h t : Dev nD → EReal) (h1 : ∀ c, g c = f c + f (par 0 c))
    (h2 : ∀ c, h c = g c + g (par 1 c) + g (par 2 c) + g (par 3 c))
    (h3 : ∀ c, t c = h c + h (par 4 c) + h (par 5 c) + h (par 6 c)) (c : Dev nD) : t c = ∑ d : Dev nD, f d := by
  rw [← (walk_bij c).sum_comp f, Fintype.sum_prod_type]
  simp only [Fintype.sum_prod_type, Fin.sum_univ_four, Fin.sum_univ_two]
  rw [h3]
  simp only [h2, h1]
  rfl

/-! ## The reference's layer, cut into the devices' blocks -/

/-- A layer as the reference has it. -/
abbrev refLay (x : FVec Ideal Cert.ReferenceIdeal.S128x128 .f32) (w : FVec Ideal Cert.ReferenceIdeal.S128x8192 .f32)
    (u : FVec Ideal Cert.ReferenceIdeal.S8192x128 .f32) : FVec Ideal Cert.ReferenceIdeal.S128x128 .f32 :=
  Host.dotGeneral Cert.ReferenceIdeal.dot_S128x8192_S8192x128_S128x128_1_0_0_1_n_n none
    (maximumf (Host.dotGeneral Cert.ReferenceIdeal.dot_S128x128_S128x8192_S128x8192_1_0_0_1_n_n none x w)
      (broadcastInDim Cert.ReferenceIdeal.S128x8192 ![] Cert.ReferenceIdeal.Gen.bcast_S_S128x8192 (constant Cert.ReferenceIdeal.S_ .f32 0x00000000#32))) u

theorem refLay_at (x : FVec Ideal Cert.ReferenceIdeal.S128x128 .f32) (w : FVec Ideal Cert.ReferenceIdeal.S128x8192 .f32)
    (u : FVec Ideal Cert.ReferenceIdeal.S8192x128 .f32) (r k : Fin 128) : refLay x w u (ix2 r k) = lay x w u r k := by
  unfold lay refLay
  pointwise []

/-- Device `c`'s columns of a first matrix and rows of a second. -/
abbrev blkW (w : (⟨2, ![128, 8192]⟩ : Shape).Idx → EReal) (c : Fin 32) : (⟨2, ![128, 256]⟩ : Shape).Idx → EReal :=
  Layout.block ⟨2, ![128, 256]⟩ ⟨2, ![128, 8192]⟩ 1 32 c w
abbrev blkU (u : (⟨2, ![8192, 128]⟩ : Shape).Idx → EReal) (c : Fin 32) : (⟨2, ![256, 128]⟩ : Shape).Idx → EReal :=
  Layout.block ⟨2, ![256, 128]⟩ ⟨2, ![8192, 128]⟩ 0 32 c u

theorem blkW_at (w : (⟨2, ![128, 8192]⟩ : Shape).Idx → EReal) (c : Fin 32) (l : Fin 128) (t : Fin 256) :
    blkW w c (ix2 l t) = w (ix2 l ⟨c.val * 256 + t.val, by omega⟩) := by
  refine congrArg w (funext fun b => Fin.ext ?_)
  match b with
  | ⟨0, _⟩ => rfl
  | ⟨1, _⟩ => rfl
theorem blkU_at (u : (⟨2, ![8192, 128]⟩ : Shape).Idx → EReal) (c : Fin 32) (t : Fin 256) (k : Fin 128) :
    blkU u c (ix2 t k) = u (ix2 ⟨c.val * 256 + t.val, by omega⟩ k) := by
  refine congrArg u (funext fun b => Fin.ext ?_)
  match b with
  | ⟨0, _⟩ => rfl
  | ⟨1, _⟩ => rfl

/-- A layer is the sum over the devices of each one's hidden units. -/
theorem lay_split (x : Vec Ideal S128x128 .f32) (w : (⟨2, ![128, 8192]⟩ : Shape).Idx → EReal) (u : (⟨2, ![8192, 128]⟩ : Shape).Idx → EReal)
    (r k : Fin 128) : lay x w u r k = ∑ c : Fin 32, lay x (blkW w c) (blkU u c) r k := by
  unfold lay
  rw [Fin.sum_univ_tiles 32 256 (by decide)]
  simp only [blkW_at, blkU_at]

/-- Device `c`'s four rows of a whole array. -/
theorem rows_at (v : (⟨2, ![128, 128]⟩ : Shape).Idx → EReal) (c : Fin 32) (r : Fin 4) (k : Fin 128) :
    (Layout.block ⟨2, ![4, 128]⟩ ⟨2, ![128, 128]⟩ 0 32 c v) (ix2 r k) = v (ix2 ⟨4 * c.val + r.val, by omega⟩ k) := by
  refine congrArg v (funext fun b => Fin.ext ?_)
  match b with
  | ⟨0, _⟩ => exact congrArg (· + r.val) (Nat.mul_comm c.val 4)
  | ⟨1, _⟩ => rfl

/-! ## The result -/

section Result
variable (I : Dev nD → Ins Ideal) (x : FVec Ideal Cert.ReferenceIdeal.S128x128 .f32)
  (w0 w1 w2 : FVec Ideal Cert.ReferenceIdeal.S128x8192 .f32) (u0 u1 u2 : FVec Ideal Cert.ReferenceIdeal.S8192x128 .f32)
  (hI : ∀ c, I c = ⟨x, blkW w0 c, blkU u0 c, blkW w1 c, blkU u1 c, blkW w2 c, blkU u2 c⟩)
include hI

theorem H1_eq (c : Dev nD) : H1 I c = refLay x w0 u0 := by
  funext y
  obtain ⟨r, k, rfl⟩ : ∃ (r k : Fin 128), y = ix2 r k := ⟨y 0, y 1, eq_ix2 y⟩
  rw [refLay_at, lay_split]
  refine (add_all (fun d => P0 I d (ix2 r k)) (fun d => P1 I d (ix2 r k)) (fun d => P2 I d (ix2 r k)) (fun d => H1 I d (ix2 r k))
    (fun d => pay2_at _ _ r k) (fun d => pay3_at _ _ _ _ r k) (fun d => pay5_at _ _ _ _ r k) c).trans (Finset.sum_congr rfl fun d _ => ?_)
  refine (pay1_at _ _ _ r k).trans ?_
  rw [hI d]

theorem H2_eq (c : Dev nD) : H2 I c = refLay (refLay x w0 u0) w1 u1 := by
  funext y
  obtain ⟨r, k, rfl⟩ : ∃ (r k : Fin 128), y = ix2 r k := ⟨y 0, y 1, eq_ix2 y⟩
  rw [refLay_at, lay_split]
  refine (add_all (fun d => P3 I d (ix2 r k)) (fun d => P4 I d (ix2 r k)) (fun d => P5 I d (ix2 r k)) (fun d => H2 I d (ix2 r k))
    (fun d => pay8_at _ _ r k) (fun d => pay10_at _ _ _ _ r k) (fun d => pay11_at _ _ _ _ r k) c).trans (Finset.sum_congr rfl fun d _ => ?_)
  refine (pay7_at _ _ _ r k).trans ?_
  rw [H1_eq I x w0 w1 w2 u0 u1 u2 hI d, hI d]

/-- Device `c`'s result is its four rows of the three layers. -/
theorem OUT_eq (c : Dev nD) : OUT I c =
    Layout.block ⟨2, ![4, 128]⟩ ⟨2, ![128, 128]⟩ 0 32 c (refLay (refLay (refLay x w0 u0) w1 u1) w2 u2) := by
  funext y
  obtain ⟨r, k, rfl⟩ : ∃ (r : Fin 4) (k : Fin 128), y = ix2 r k := ⟨y 0, y 1, eq_ix2 y⟩
  have hc : c.val < 32 := c.isLt
  rw [rows_at, refLay_at, lay_split]
  refine (pay14_at _ r k).trans (Finset.sum_congr rfl fun s _ => ?_)
  have hs' : s.val < 32 := s.isLt
  have hs : (⟨(s.val * 4 + r.val) / 4, by show _ < 32; omega⟩ : Dev nD) = s := Fin.ext (by show (s.val * 4 + r.val) / 4 = s.val; omega)
  have hr : (⟨4 * c.val + (s.val * 4 + r.val) % 4, by omega⟩ : Fin 128) = ⟨4 * c.val + r.val, by omega⟩ :=
    Fin.ext (by show 4 * c.val + (s.val * 4 + r.val) % 4 = 4 * c.val + r.val; omega)
  have e2 : R2 I c (ix2 ⟨s.val * 4 + r.val, by omega⟩ k) = FA I s (ix2 ⟨4 * c.val + r.val, by omega⟩ k) := by
    rw [← hr, ix2_eq_valueIdx ⟨4 * c.val + (s.val * 4 + r.val) % 4, _⟩ k]
    exact congrArg (fun d => FA I d (ValueIdx.ix2 ⟨4 * c.val + (s.val * 4 + r.val) % 4, by omega⟩ k)) hs
  rw [e2]
  refine (pay12_at _ _ _ _ k).trans ?_
  rw [H2_eq I x w0 w1 w2 u0 u1 u2 hI s, hI s]

end Result

end Cert.Mlp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame, off its run. -/
theorem frame_reference : Cert.quiescent_ReferenceIdeal := by
  intro m ρ _
  exact (θ_run Cert.ReferenceIdeal.defs _ _).mono (fun r h => ⟨fun c => (h c).2, sem_eq_zero_of_no_sems rfl r.2⟩)
    (Cert.ReferenceIdeal.Value.run (F := Ideal) m ρ)

/-- Each device's result is its block of rows of the reference's. -/
theorem value : Cert.algebraic_KernelIdeal_ReferenceIdeal := by
  intro m g m' g' _ hm
  let a (b : Ref Cert.ReferenceIdeal.sig .tc) := m' (((0 : Dev Cert.ReferenceIdeal.nD).tc : Thread Cert.ReferenceIdeal.nD Cert.ReferenceIdeal.τ).loc b)
  refine ⟨Cert.Mlp.refLay (Cert.Mlp.refLay (Cert.Mlp.refLay (a Cert.ReferenceIdeal.main_arg0) (a Cert.ReferenceIdeal.main_arg1) (a Cert.ReferenceIdeal.main_arg4))
      (a Cert.ReferenceIdeal.main_arg2) (a Cert.ReferenceIdeal.main_arg5)) (a Cert.ReferenceIdeal.main_arg3) (a Cert.ReferenceIdeal.main_arg6), ?_, ?_⟩
  · refine (θ_run Cert.KernelIdeal.defs _ _).mono (fun r h c => ?_) (Cert.Mlp.run_main (F := Ideal) m g)
    have hp := Cert.Mlp.run_post m g r h.1 c
    refine ⟨hp.1.trans (Cert.Mlp.OUT_eq (Cert.Mlp.insAt m g) _ _ _ _ _ _ _ (fun d => ?_) c), hp.2⟩
    obtain ⟨h0, h1, h2, h3, h4, h5, h6⟩ := hm d
    rw [Cert.Mlp.insAt_eq]
    congr 1
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts,
  Cert.Mlp.frame_kernel, Cert.Mlp.frame_kernelIdeal, frame_reference, trivial, value⟩

end Cert.Proof

end
